-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_KernelIdeal_graph_of_finite_values [hPre_graph_of_finite_values : Cert.Pre_graph_of_finite_values.Facts] (m : (ℓ : Loc Cert.KernelIdeal.nD Cert.KernelIdeal.τ Cert.KernelIdeal.sig) → Buf (Elt Ideal) ℓ) : Prop :=
  ∀ c : Dev Cert.KernelIdeal.nD,
    (Cert.Pre_graph_of_finite_values.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8))) = (fun _ => 1#1)

def Pre_ReferenceIdeal (m : (ℓ : Loc Cert.ReferenceIdeal.nD Cert.ReferenceIdeal.τ Cert.ReferenceIdeal.sig) → Buf (Elt Ideal) ℓ) : Prop :=
  True

def Pre_ReferenceIdeal_graph_of_finite_values [hPre_graph_of_finite_values : Cert.Pre_graph_of_finite_values.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_graph_of_finite_values.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8))) = (fun _ => 1#1)

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_KernelIdeal_pre_graph_of_finite_values [hKernelIdeal : Cert.KernelIdeal.Facts] [hPre_graph_of_finite_values : Cert.Pre_graph_of_finite_values.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal_graph_of_finite_values m →
    θ_run (Cert.KernelIdeal.defs (F := Ideal)) (onTc (τ := Cert.KernelIdeal.τ) (Cert.KernelIdeal.main (F := Ideal))) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def quiescent_ReferenceIdeal_pre_graph_of_finite_values [hReferenceIdeal : Cert.ReferenceIdeal.Facts] [hPre_graph_of_finite_values : Cert.Pre_graph_of_finite_values.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal_graph_of_finite_values m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8))
      ∧ r.2.sem = fun _ => 0)

def preserves_Kernel_KernelIdeal : Prop :=
  True

def algebraic_KernelIdeal_ReferenceIdeal_pre_graph_of_finite_values [hKernelIdeal : Cert.KernelIdeal.Facts] [hReferenceIdeal : Cert.ReferenceIdeal.Facts] [hPre_graph_of_finite_values : Cert.Pre_graph_of_finite_values.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal_graph_of_finite_values m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)) →
    ∃ (v0 : (c : Dev Cert.KernelIdeal.nD) → Buf (Elt Ideal) ((c.tc : Thread Cert.KernelIdeal.nD Cert.KernelIdeal.τ).loc Cert.KernelIdeal.main_v128)) (v1 : (c : Dev Cert.KernelIdeal.nD) → Buf (Elt Ideal) ((c.tc : Thread Cert.KernelIdeal.nD Cert.KernelIdeal.τ).loc Cert.KernelIdeal.main_v32)) (v2 : (c : Dev Cert.KernelIdeal.nD) → Buf (Elt Ideal) ((c.tc : Thread Cert.KernelIdeal.nD Cert.KernelIdeal.τ).loc Cert.KernelIdeal.main_v129)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v128) = v0 c
          ∧ r.2.mem ((c.tc : Thread Cert.KernelIdeal.nD Cert.KernelIdeal.τ).loc Cert.KernelIdeal.main_v32) = v1 c
          ∧ r.2.mem ((c.tc : Thread Cert.KernelIdeal.nD Cert.KernelIdeal.τ).loc Cert.KernelIdeal.main_v129) = v2 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v240) = v0 c
          ∧ r.2.mem ((c.tc : Thread Cert.ReferenceIdeal.nD Cert.ReferenceIdeal.τ).loc Cert.ReferenceIdeal.main_v36) = v1 c
          ∧ r.2.mem ((c.tc : Thread Cert.ReferenceIdeal.nD Cert.ReferenceIdeal.τ).loc Cert.ReferenceIdeal.main_v241) = v2 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8))

def Claim : Prop :=
  ∃ (hKernel : Cert.Kernel.Facts) (hKernelIdeal : Cert.KernelIdeal.Facts) (hReferenceIdeal : Cert.ReferenceIdeal.Facts) (hPre_graph_of_finite_values : Cert.Pre_graph_of_finite_values.Facts),
    quiescent_Kernel (hKernel := hKernel)
    ∧ quiescent_KernelIdeal (hKernelIdeal := hKernelIdeal)
    ∧ quiescent_KernelIdeal_pre_graph_of_finite_values (hKernelIdeal := hKernelIdeal) (hPre_graph_of_finite_values := hPre_graph_of_finite_values)
    ∧ quiescent_ReferenceIdeal (hReferenceIdeal := hReferenceIdeal)
    ∧ quiescent_ReferenceIdeal_pre_graph_of_finite_values (hReferenceIdeal := hReferenceIdeal) (hPre_graph_of_finite_values := hPre_graph_of_finite_values)
    ∧ preserves_Kernel_KernelIdeal
    ∧ algebraic_KernelIdeal_ReferenceIdeal_pre_graph_of_finite_values (hKernelIdeal := hKernelIdeal) (hReferenceIdeal := hReferenceIdeal) (hPre_graph_of_finite_values := hPre_graph_of_finite_values)
-- ==== Pre_graph_of_finite_values.lean ====
abbrev S4096x128 : Shape := ⟨2, ![4096, 128]⟩
abbrev S2x131072 : Shape := ⟨2, ![2, 131072]⟩
abbrev S4096x16 : Shape := ⟨2, ![4096, 16]⟩
abbrev S128x64 : Shape := ⟨2, ![128, 64]⟩
abbrev S64x16 : Shape := ⟨2, ![64, 16]⟩
abbrev S64x64 : Shape := ⟨2, ![64, 64]⟩
abbrev S64x2 : Shape := ⟨2, ![64, 2]⟩
abbrev S_ : Shape := ⟨0, ![]⟩

class Facts : Prop where
  bcast_S_S2x131072 : S_.BroadcastsInDim S2x131072 (![] : Fin 0 → Fin S2x131072.rank)
  reducesTo_S2x131072_S_d0_1 : S2x131072.ReducesTo [0, 1] S_
  h_S_ : 0 < S_.numel
  bcast_S_S4096x128 : S_.BroadcastsInDim S4096x128 (![] : Fin 0 → Fin S4096x128.rank)
  reducesTo_S4096x128_S_d0_1 : S4096x128.ReducesTo [0, 1] S_
  bcast_S_S128x64 : S_.BroadcastsInDim S128x64 (![] : Fin 0 → Fin S128x64.rank)
  reducesTo_S128x64_S_d0_1 : S128x64.ReducesTo [0, 1] S_

variable [Facts]

def fn_part1 {F : FTy → Type} [FloatOps F] (main_v15 : IVec S_ 1) (main_v16 : FVec F S128x64 .f32) : IVec S_ 1 :=
  let main_cst_5 : FVec F S_ .f32 := constant S_ .f32 0x7F800000#32
  let main_v17 : FVec F S128x64 .f32 := broadcastInDim S128x64 ![] bcast_S_S128x64 main_cst_5
  let main_v18 : IVec S128x64 1 := cmpf .olt main_v16 main_v17
  let main_c_6 : IVec S_ 1 := constantI S_ 1 1#1
  let main_v19 : IVec S_ 1 := (fun x v => Host.reduce IntOp.andi x v reducesTo_S128x64_S_d0_1 h_S_) main_v18 main_c_6
  let main_v20 : IVec S_ 1 := andi main_v15 main_v19
  main_v20

def fn {F : FTy → Type} [FloatOps F] (main_arg0 : FVec F S4096x128 .f32) (main_arg1 : IVec S2x131072 32) (main_arg2 : FVec F S4096x16 .f32) (main_arg3 : FVec F S128x64 .f32) (main_arg4 : FVec F S64x16 .f32) (main_arg5 : FVec F S64x16 .f32) (main_arg6 : FVec F S128x64 .f32) (main_arg7 : FVec F S64x64 .f32) (main_arg8 : FVec F S64x2 .f32) : IVec S_ 1 :=
  let main_c : IVec S_ 32 := constantI S_ 32 0#32
  let main_v0 : IVec S2x131072 32 := broadcastInDim S2x131072 ![] bcast_S_S2x131072 main_c
  let main_v1 : IVec S2x131072 1 := cmpi .sge main_arg1 main_v0
  let main_c_0 : IVec S_ 32 := constantI S_ 32 4096#32
  let main_v2 : IVec S2x131072 32 := broadcastInDim S2x131072 ![] bcast_S_S2x131072 main_c_0
  let main_v3 : IVec S2x131072 1 := cmpi .slt main_arg1 main_v2
  let main_v4 : IVec S2x131072 1 := andi main_v1 main_v3
  let main_c_1 : IVec S_ 1 := constantI S_ 1 1#1
  let main_v5 : IVec S_ 1 := (fun x v => Host.reduce IntOp.andi x v reducesTo_S2x131072_S_d0_1 h_S_) main_v4 main_c_1
  let main_v6 : FVec F S4096x128 .f32 := Host.absf main_arg0
  let main_cst : FVec F S_ .f32 := constant S_ .f32 0x7F800000#32
  let main_v7 : FVec F S4096x128 .f32 := broadcastInDim S4096x128 ![] bcast_S_S4096x128 main_cst
  let main_v8 : IVec S4096x128 1 := cmpf .olt main_v6 main_v7
  let main_c_2 : IVec S_ 1 := constantI S_ 1 1#1
  let main_v9 : IVec S_ 1 := (fun x v => Host.reduce IntOp.andi x v reducesTo_S4096x128_S_d0_1 h_S_) main_v8 main_c_2
  let main_v10 : IVec S_ 1 := andi main_v5 main_v9
  let main_v11 : FVec F S128x64 .f32 := Host.absf main_arg3
  let main_cst_3 : FVec F S_ .f32 := constant S_ .f32 0x7F800000#32
  let main_v12 : FVec F S128x64 .f32 := broadcastInDim S128x64 ![] bcast_S_S128x64 main_cst_3
  let main_v13 : IVec S128x64 1 := cmpf .olt main_v11 main_v12
  let main_c_4 : IVec S_ 1 := constantI S_ 1 1#1
  let main_v14 : IVec S_ 1 := (fun x v => Host.reduce IntOp.andi x v reducesTo_S128x64_S_d0_1 h_S_) main_v13 main_c_4
  let main_v15 : IVec S_ 1 := andi main_v10 main_v14
  let main_v16 : FVec F S128x64 .f32 := Host.absf main_arg6
  fn_part1 (F := F) main_v15 main_v16
-- ==== Kernel.lean ====
abbrev S4096x128 : Shape := ⟨2, ![4096, 128]⟩
abbrev S2x131072 : Shape := ⟨2, ![2, 131072]⟩
abbrev S4096x16 : Shape := ⟨2, ![4096, 16]⟩
abbrev S128x64 : Shape := ⟨2, ![128, 64]⟩
abbrev S64x16 : Shape := ⟨2, ![64, 16]⟩
abbrev S64x64 : Shape := ⟨2, ![64, 64]⟩
abbrev S64x2 : Shape := ⟨2, ![64, 2]⟩
abbrev S1x131072 : Shape := ⟨2, ![1, 131072]⟩
abbrev S131072 : Shape := ⟨1, ![131072]⟩
abbrev S_ : Shape := ⟨0, ![]⟩
abbrev S4096x1 : Shape := ⟨2, ![4096, 1]⟩
abbrev S4096x129 : Shape := ⟨2, ![4096, 129]⟩
abbrev S131072x1 : Shape := ⟨2, ![131072, 1]⟩
abbrev S1 : Shape := ⟨1, ![1]⟩
abbrev S1x1 : Shape := ⟨2, ![1, 1]⟩
abbrev S131072x129 : Shape := ⟨2, ![131072, 129]⟩
abbrev S128x128 : Shape := ⟨2, ![128, 128]⟩
abbrev S512x128 : Shape := ⟨2, ![512, 128]⟩
abbrev S512x1 : Shape := ⟨2, ![512, 1]⟩
abbrev S131072x128 : Shape := ⟨2, ![131072, 128]⟩
abbrev S64x32 : Shape := ⟨2, ![64, 32]⟩
abbrev S64x96 : Shape := ⟨2, ![64, 96]⟩
abbrev S128x96 : Shape := ⟨2, ![128, 96]⟩
abbrev S4096x96 : Shape := ⟨2, ![4096, 96]⟩
abbrev S512x96 : Shape := ⟨2, ![512, 96]⟩
abbrev S4096x64 : Shape := ⟨2, ![4096, 64]⟩
abbrev S64 : Shape := ⟨1, ![64]⟩
abbrev S1x64 : Shape := ⟨2, ![1, 64]⟩
abbrev S1x2 : Shape := ⟨2, ![1, 2]⟩
abbrev S4096x8 : Shape := ⟨2, ![4096, 8]⟩
abbrev S262144 : Shape := ⟨1, ![262144]⟩
abbrev S262144x1 : Shape := ⟨2, ![262144, 1]⟩
abbrev S262144x8 : Shape := ⟨2, ![262144, 8]⟩
abbrev S131072x8 : Shape := ⟨2, ![131072, 8]⟩
abbrev S512x64 : Shape := ⟨2, ![512, 64]⟩
abbrev S131072x64 : Shape := ⟨2, ![131072, 64]⟩
abbrev S4096x4096 : Shape := ⟨2, ![4096, 4096]⟩
abbrev S262144x2 : Shape := ⟨2, ![262144, 2]⟩
abbrev S16x4096 : Shape := ⟨2, ![16, 4096]⟩
abbrev S8x4096 : Shape := ⟨2, ![8, 4096]⟩
abbrev S32x128 : Shape := ⟨2, ![32, 128]⟩
abbrev S128x16 : Shape := ⟨2, ![128, 16]⟩
abbrev S128x4096 : Shape := ⟨2, ![128, 4096]⟩
abbrev S1x128x4096 : Shape := ⟨3, ![1, 128, 4096]⟩
abbrev S1x1x1 : Shape := ⟨3, ![1, 1, 1]⟩
abbrev S128x8 : Shape := ⟨2, ![128, 8]⟩
abbrev S1x128x16 : Shape := ⟨3, ![1, 128, 16]⟩
abbrev S125 : Shape := ⟨1, ![125]⟩
abbrev S128 : Shape := ⟨1, ![128]⟩
abbrev S1x128 : Shape := ⟨2, ![1, 128]⟩

abbrev nBuf : Space → Nat
  | .hbm => 278
  | .vmem => 47
  | .smem => 0
  | _ => 0

abbrev hbmTy0_0 (i : Nat) : BufTy := match i % 128 with
  | 0 => ⟨S4096x128, .f32⟩
  | 1 => ⟨S2x131072, .i32⟩
  | 2 => ⟨S4096x16, .f32⟩
  | 3 => ⟨S128x64, .f32⟩
  | 4 => ⟨S64x16, .f32⟩
  | 5 => ⟨S64x16, .f32⟩
  | 6 => ⟨S128x64, .f32⟩
  | 7 => ⟨S64x64, .f32⟩
  | 8 => ⟨S64x2, .f32⟩
  | 9 => ⟨S1x131072, .i32⟩
  | 10 => ⟨S131072, .i32⟩
  | 11 => ⟨S1x131072, .i32⟩
  | 12 => ⟨S131072, .i32⟩
  | 13 => ⟨S_, .f32⟩
  | 14 => ⟨S4096x1, .f32⟩
  | 15 => ⟨S4096x129, .f32⟩
  | 16 => ⟨S_, .i32⟩
  | 17 => ⟨S131072, .i32⟩
  | 18 => ⟨S131072, .i1⟩
  | 19 => ⟨S_, .i32⟩
  | 20 => ⟨S131072, .i32⟩
  | 21 => ⟨S131072, .i32⟩
  | 22 => ⟨S131072, .i32⟩
  | 23 => ⟨S131072x1, .i32⟩
  | 24 => ⟨S1, .i32⟩
  | 25 => ⟨S_, .i32⟩
  | 26 => ⟨S131072x1, .i32⟩
  | 27 => ⟨S131072x1, .i1⟩
  | 28 => ⟨S1x1, .i32⟩
  | 29 => ⟨S131072x1, .i32⟩
  | 30 => ⟨S131072x1, .i1⟩
  | 31 => ⟨S131072x1, .i1⟩
  | 32 => ⟨S_, .i1⟩
  | 33 => ⟨S131072, .i1⟩
  | 34 => ⟨S131072x129, .f32⟩
  | 35 => ⟨S131072x129, .i1⟩
  | 36 => ⟨S_, .f32⟩
  | 37 => ⟨S131072x129, .f32⟩
  | 38 => ⟨S131072x129, .f32⟩
  | 39 => ⟨S_, .f32⟩
  | 40 => ⟨S4096x129, .f32⟩
  | 41 => ⟨S131072x1, .i32⟩
  | 42 => ⟨S4096x129, .f32⟩
  | 43 => ⟨S4096x128, .f32⟩
  | 44 => ⟨S4096x1, .f32⟩
  | 45 => ⟨S_, .f32⟩
  | 46 => ⟨S_, .f32⟩
  | 47 => ⟨S4096x1, .f32⟩
  | 48 => ⟨S4096x1, .f32⟩
  | 49 => ⟨S128x128, .f32⟩
  | 50 => ⟨S4096x128, .f32⟩
  | 51 => ⟨S_, .i32⟩
  | 52 => ⟨S131072, .i32⟩
  | 53 => ⟨S131072, .i1⟩
  | 54 => ⟨S_, .i32⟩
  | 55 => ⟨S131072, .i32⟩
  | 56 => ⟨S131072, .i32⟩
  | 57 => ⟨S131072, .i32⟩
  | 58 => ⟨S131072x1, .i32⟩
  | 59 => ⟨S1, .i32⟩
  | 60 => ⟨S_, .i32⟩
  | 61 => ⟨S131072x1, .i32⟩
  | 62 => ⟨S131072x1, .i1⟩
  | 63 => ⟨S1x1, .i32⟩
  | 64 => ⟨S131072x1, .i32⟩
  | 65 => ⟨S131072x1, .i1⟩
  | 66 => ⟨S131072x1, .i1⟩
  | 67 => ⟨S_, .i1⟩
  | 68 => ⟨S131072, .i1⟩
  | 69 => ⟨S131072x128, .f32⟩
  | 70 => ⟨S131072x128, .i1⟩
  | 71 => ⟨S_, .f32⟩
  | 72 => ⟨S131072x128, .f32⟩
  | 73 => ⟨S131072x128, .f32⟩
  | 74 => ⟨S_, .f32⟩
  | 75 => ⟨S4096x128, .f32⟩
  | 76 => ⟨S131072x1, .i32⟩
  | 77 => ⟨S4096x128, .f32⟩
  | 78 => ⟨S_, .f32⟩
  | 79 => ⟨S64x32, .f32⟩
  | 80 => ⟨S64x96, .f32⟩
  | 81 => ⟨S_, .f32⟩
  | 82 => ⟨S64x64, .f32⟩
  | 83 => ⟨S64x96, .f32⟩
  | 84 => ⟨S128x96, .f32⟩
  | 85 => ⟨S4096x96, .f32⟩
  | 86 => ⟨S4096x64, .f32⟩
  | 87 => ⟨S4096x16, .f32⟩
  | 88 => ⟨S4096x16, .f32⟩
  | 89 => ⟨S_, .f32⟩
  | 90 => ⟨S64, .f32⟩
  | 91 => ⟨S1x64, .f32⟩
  | 92 => ⟨S_, .f32⟩
  | 93 => ⟨S1x64, .f32⟩
  | 94 => ⟨S1x64, .f32⟩
  | 95 => ⟨S1x2, .f32⟩
  | 96 => ⟨S_, .f32⟩
  | 97 => ⟨S4096x16, .f32⟩
  | 98 => ⟨S4096x16, .f32⟩
  | 99 => ⟨S4096x16, .f32⟩
  | 100 => ⟨S4096x16, .f32⟩
  | 101 => ⟨S4096x16, .f32⟩
  | 102 => ⟨S4096x8, .f32⟩
  | 103 => ⟨S262144, .i32⟩
  | 104 => ⟨S_, .i32⟩
  | 105 => ⟨S262144, .i32⟩
  | 106 => ⟨S262144, .i1⟩
  | 107 => ⟨S_, .i32⟩
  | 108 => ⟨S262144, .i32⟩
  | 109 => ⟨S262144, .i32⟩
  | 110 => ⟨S262144, .i32⟩
  | 111 => ⟨S262144x1, .i32⟩
  | 112 => ⟨S1, .i32⟩
  | 113 => ⟨S_, .i32⟩
  | 114 => ⟨S262144x1, .i32⟩
  | 115 => ⟨S262144x1, .i1⟩
  | 116 => ⟨S1x1, .i32⟩
  | 117 => ⟨S262144x1, .i32⟩
  | 118 => ⟨S262144x1, .i1⟩
  | 119 => ⟨S262144x1, .i1⟩
  | 120 => ⟨S_, .i1⟩
  | 121 => ⟨S262144, .i1⟩
  | 122 => ⟨S262144x8, .f32⟩
  | 123 => ⟨S262144x8, .i1⟩
  | 124 => ⟨S_, .f32⟩
  | 125 => ⟨S262144x8, .f32⟩
  | 126 => ⟨S262144x8, .f32⟩
  | 127 => ⟨S131072x8, .f32⟩
  | _ => ⟨S4096x128, .f32⟩

abbrev hbmTy0_1 (i : Nat) : BufTy := match i % 128 with
  | 0 => ⟨S131072x8, .f32⟩
  | 1 => ⟨S131072x8, .f32⟩
  | 2 => ⟨S_, .f32⟩
  | 3 => ⟨S131072, .f32⟩
  | 4 => ⟨S131072x1, .f32⟩
  | 5 => ⟨S131072x1, .f32⟩
  | 6 => ⟨S131072x1, .f32⟩
  | 7 => ⟨S_, .f32⟩
  | 8 => ⟨S131072x1, .f32⟩
  | 9 => ⟨S131072x1, .f32⟩
  | 10 => ⟨S_, .f32⟩
  | 11 => ⟨S131072x1, .f32⟩
  | 12 => ⟨S131072x1, .f32⟩
  | 13 => ⟨S131072x128, .f32⟩
  | 14 => ⟨S131072x128, .f32⟩
  | 15 => ⟨S131072x128, .f32⟩
  | 16 => ⟨S_, .f32⟩
  | 17 => ⟨S4096x128, .f32⟩
  | 18 => ⟨S131072x1, .i32⟩
  | 19 => ⟨S4096x128, .f32⟩
  | 20 => ⟨S4096x64, .f32⟩
  | 21 => ⟨S_, .i32⟩
  | 22 => ⟨S131072, .i32⟩
  | 23 => ⟨S131072, .i1⟩
  | 24 => ⟨S_, .i32⟩
  | 25 => ⟨S131072, .i32⟩
  | 26 => ⟨S131072, .i32⟩
  | 27 => ⟨S131072, .i32⟩
  | 28 => ⟨S131072x1, .i32⟩
  | 29 => ⟨S1, .i32⟩
  | 30 => ⟨S_, .i32⟩
  | 31 => ⟨S131072x1, .i32⟩
  | 32 => ⟨S131072x1, .i1⟩
  | 33 => ⟨S1x1, .i32⟩
  | 34 => ⟨S131072x1, .i32⟩
  | 35 => ⟨S131072x1, .i1⟩
  | 36 => ⟨S131072x1, .i1⟩
  | 37 => ⟨S_, .i1⟩
  | 38 => ⟨S131072, .i1⟩
  | 39 => ⟨S131072x64, .f32⟩
  | 40 => ⟨S131072x64, .i1⟩
  | 41 => ⟨S_, .f32⟩
  | 42 => ⟨S131072x64, .f32⟩
  | 43 => ⟨S131072x64, .f32⟩
  | 44 => ⟨S131072x64, .f32⟩
  | 45 => ⟨S131072x64, .f32⟩
  | 46 => ⟨S_, .f32⟩
  | 47 => ⟨S4096x64, .f32⟩
  | 48 => ⟨S131072x1, .i32⟩
  | 49 => ⟨S4096x64, .f32⟩
  | 50 => ⟨S4096x64, .f32⟩
  | 51 => ⟨S_, .f32⟩
  | 52 => ⟨S64, .f32⟩
  | 53 => ⟨S1x64, .f32⟩
  | 54 => ⟨S_, .f32⟩
  | 55 => ⟨S1x64, .f32⟩
  | 56 => ⟨S1x64, .f32⟩
  | 57 => ⟨S1x2, .f32⟩
  | 58 => ⟨S_, .f32⟩
  | 59 => ⟨S4096x4096, .f32⟩
  | 60 => ⟨S262144, .i32⟩
  | 61 => ⟨S262144, .i32⟩
  | 62 => ⟨S_, .i32⟩
  | 63 => ⟨S262144, .i32⟩
  | 64 => ⟨S262144, .i1⟩
  | 65 => ⟨S_, .i32⟩
  | 66 => ⟨S262144, .i32⟩
  | 67 => ⟨S262144, .i32⟩
  | 68 => ⟨S262144, .i32⟩
  | 69 => ⟨S_, .i32⟩
  | 70 => ⟨S262144, .i32⟩
  | 71 => ⟨S262144, .i1⟩
  | 72 => ⟨S_, .i32⟩
  | 73 => ⟨S262144, .i32⟩
  | 74 => ⟨S262144, .i32⟩
  | 75 => ⟨S262144, .i32⟩
  | 76 => ⟨S262144x1, .i32⟩
  | 77 => ⟨S262144x1, .i32⟩
  | 78 => ⟨S262144x2, .i32⟩
  | 79 => ⟨S_, .f32⟩
  | 80 => ⟨S262144, .f32⟩
  | 81 => ⟨S4096x4096, .f32⟩
  | 82 => ⟨S16x4096, .f32⟩
  | 83 => ⟨S4096x8, .f32⟩
  | 84 => ⟨S8x4096, .f32⟩
  | 85 => ⟨S32x128, .f32⟩
  | 86 => ⟨S_, .f32⟩
  | 87 => ⟨S128, .f32⟩
  | 88 => ⟨S1, .f32⟩
  | 89 => ⟨S_, .f32⟩
  | 90 => ⟨S_, .f32⟩
  | 91 => ⟨S_, .f32⟩
  | 92 => ⟨S_, .f32⟩
  | 93 => ⟨S1, .f32⟩
  | 94 => ⟨S_, .f32⟩
  | 95 => ⟨S_, .f32⟩
  | 96 => ⟨S_, .f32⟩
  | 97 => ⟨S_, .f32⟩
  | 98 => ⟨S_, .f32⟩
  | 99 => ⟨S1, .f32⟩
  | 100 => ⟨S_, .f32⟩
  | 101 => ⟨S_, .f32⟩
  | 102 => ⟨S_, .f32⟩
  | 103 => ⟨S_, .f32⟩
  | 104 => ⟨S1, .f32⟩
  | 105 => ⟨S_, .f32⟩
  | 106 => ⟨S1, .f32⟩
  | 107 => ⟨S1, .f32⟩
  | 108 => ⟨S1x1, .f32⟩
  | 109 => ⟨S1x2, .f32⟩
  | 110 => ⟨S1x2, .f32⟩
  | 111 => ⟨S1x2, .f32⟩
  | 112 => ⟨S_, .f32⟩
  | 113 => ⟨S1, .f32⟩
  | 114 => ⟨S1x1, .f32⟩
  | 115 => ⟨S1x1, .f32⟩
  | 116 => ⟨S1x2, .f32⟩
  | 117 => ⟨S1x2, .f32⟩
  | 118 => ⟨S_, .f32⟩
  | 119 => ⟨S1, .f32⟩
  | 120 => ⟨S_, .f32⟩
  | 121 => ⟨S1, .f32⟩
  | 122 => ⟨S1, .f32⟩
  | 123 => ⟨S1x1, .f32⟩
  | 124 => ⟨S1x2, .f32⟩
  | 125 => ⟨S1x2, .f32⟩
  | 126 => ⟨S1x2, .f32⟩
  | 127 => ⟨S_, .f32⟩
  | _ => ⟨S4096x128, .f32⟩

abbrev hbmTy0_2 (i : Nat) : BufTy := match i % 128 with
  | 0 => ⟨S1, .f32⟩
  | 1 => ⟨S1x1, .f32⟩
  | 2 => ⟨S1x2, .f32⟩
  | 3 => ⟨S1x2, .f32⟩
  | 4 => ⟨S_, .f32⟩
  | 5 => ⟨S1x2, .f32⟩
  | 6 => ⟨S1x2, .f32⟩
  | 7 => ⟨S1x2, .f32⟩
  | 8 => ⟨S1x2, .f32⟩
  | 9 => ⟨S1x2, .f32⟩
  | 10 => ⟨S_, .f32⟩
  | 11 => ⟨S_, .f32⟩
  | 12 => ⟨S_, .f32⟩
  | 13 => ⟨S_, .f32⟩
  | 14 => ⟨S_, .f32⟩
  | 15 => ⟨S_, .f32⟩
  | 16 => ⟨S_, .f32⟩
  | 17 => ⟨S_, .f32⟩
  | 18 => ⟨S_, .f32⟩
  | 19 => ⟨S_, .f32⟩
  | 20 => ⟨S_, .f32⟩
  | 21 => ⟨S131072, .f32⟩
  | _ => ⟨S4096x128, .f32⟩

abbrev hbmTy (i : Nat) : BufTy := match i / 128 with
  | 0 => hbmTy0_0 i
  | 1 => hbmTy0_1 i
  | 2 => hbmTy0_2 i
  | _ => ⟨S4096x128, .f32⟩

abbrev bufTy : (tb : Table) → Fin (tcTables nBuf tb) → BufTy
  | .hbm, ⟨i, _⟩ => hbmTy i
  | .local _ .vmem, ⟨0, _⟩ => ⟨S512x128, .f32⟩
  | .local _ .vmem, ⟨1, _⟩ => ⟨S512x128, .f32⟩
  | .local _ .vmem, ⟨2, _⟩ => ⟨S512x128, .f32⟩
  | .local _ .vmem, ⟨3, _⟩ => ⟨S512x128, .f32⟩
  | .local _ .vmem, ⟨4, _⟩ => ⟨S512x1, .f32⟩
  | .local _ .vmem, ⟨5, _⟩ => ⟨S512x1, .f32⟩
  | .local _ .vmem, ⟨6, _⟩ => ⟨S128x128, .f32⟩
  | .local _ .vmem, ⟨7, _⟩ => ⟨S512x128, .f32⟩
  | .local _ .vmem, ⟨8, _⟩ => ⟨S512x128, .f32⟩
  | .local _ .vmem, ⟨9, _⟩ => ⟨S512x128, .f32⟩
  | .local _ .vmem, ⟨10, _⟩ => ⟨S512x128, .f32⟩
  | .local _ .vmem, ⟨11, _⟩ => ⟨S512x128, .f32⟩
  | .local _ .vmem, ⟨12, _⟩ => ⟨S512x128, .f32⟩
  | .local _ .vmem, ⟨13, _⟩ => ⟨S512x1, .f32⟩
  | .local _ .vmem, ⟨14, _⟩ => ⟨S512x1, .f32⟩
  | .local _ .vmem, ⟨15, _⟩ => ⟨S128x96, .f32⟩
  | .local _ .vmem, ⟨16, _⟩ => ⟨S512x96, .f32⟩
  | .local _ .vmem, ⟨17, _⟩ => ⟨S512x96, .f32⟩
  | .local _ .vmem, ⟨18, _⟩ => ⟨S512x128, .f32⟩
  | .local _ .vmem, ⟨19, _⟩ => ⟨S512x128, .f32⟩
  | .local _ .vmem, ⟨20, _⟩ => ⟨S512x128, .f32⟩
  | .local _ .vmem, ⟨21, _⟩ => ⟨S512x128, .f32⟩
  | .local _ .vmem, ⟨22, _⟩ => ⟨S512x1, .f32⟩
  | .local _ .vmem, ⟨23, _⟩ => ⟨S512x1, .f32⟩
  | .local _ .vmem, ⟨24, _⟩ => ⟨S128x64, .f32⟩
  | .local _ .vmem, ⟨25, _⟩ => ⟨S512x64, .f32⟩
  | .local _ .vmem, ⟨26, _⟩ => ⟨S512x64, .f32⟩
  | .local _ .vmem, ⟨27, _⟩ => ⟨S512x64, .f32⟩
  | .local _ .vmem, ⟨28, _⟩ => ⟨S512x64, .f32⟩
  | .local _ .vmem, ⟨29, _⟩ => ⟨S512x64, .f32⟩
  | .local _ .vmem, ⟨30, _⟩ => ⟨S512x64, .f32⟩
  | .local _ .vmem, ⟨31, _⟩ => ⟨S512x1, .f32⟩
  | .local _ .vmem, ⟨32, _⟩ => ⟨S512x1, .f32⟩
  | .local _ .vmem, ⟨33, _⟩ => ⟨S64x64, .f32⟩
  | .local _ .vmem, ⟨34, _⟩ => ⟨S512x64, .f32⟩
  | .local _ .vmem, ⟨35, _⟩ => ⟨S512x64, .f32⟩
  | .local _ .vmem, ⟨36, _⟩ => ⟨S128x16, .f32⟩
  | .local _ .vmem, ⟨37, _⟩ => ⟨S128x16, .f32⟩
  | .local _ .vmem, ⟨38, _⟩ => ⟨S16x4096, .f32⟩
  | .local _ .vmem, ⟨39, _⟩ => ⟨S8x4096, .f32⟩
  | .local _ .vmem, ⟨40, _⟩ => ⟨S128x16, .f32⟩
  | .local _ .vmem, ⟨41, _⟩ => ⟨S128x16, .f32⟩
  | .local _ .vmem, ⟨42, _⟩ => ⟨S128x16, .f32⟩
  | .local _ .vmem, ⟨43, _⟩ => ⟨S128x16, .f32⟩
  | .local _ .vmem, ⟨44, _⟩ => ⟨S128x4096, .f32⟩
  | .local _ .vmem, ⟨45, _⟩ => ⟨S128x4096, .f32⟩
  | .local _ .vmem, ⟨46, _⟩ => ⟨S32x128, .f32⟩
  | _, _ => ⟨S4096x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | .vmem, ⟨31, _⟩ => true
  | .vmem, ⟨32, _⟩ => true
  | .vmem, ⟨33, _⟩ => true
  | .vmem, ⟨34, _⟩ => true
  | .vmem, ⟨35, _⟩ => true
  | .vmem, ⟨36, _⟩ => true
  | .vmem, ⟨37, _⟩ => true
  | .vmem, ⟨38, _⟩ => true
  | .vmem, ⟨39, _⟩ => true
  | .vmem, ⟨40, _⟩ => true
  | .vmem, ⟨41, _⟩ => true
  | .vmem, ⟨42, _⟩ => true
  | .vmem, ⟨43, _⟩ => true
  | .vmem, ⟨44, _⟩ => true
  | .vmem, ⟨45, _⟩ => true
  | .vmem, ⟨46, _⟩ => true
  | _, _ => false

abbrev semScoped : Fin 0 → Bool
  | ⟨_, h⟩ => absurd h (Nat.not_lt_zero _)

abbrev dmaSemScoped : Fin 47 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | ⟨31, _⟩ => true
  | ⟨32, _⟩ => true
  | ⟨33, _⟩ => true
  | ⟨34, _⟩ => true
  | ⟨35, _⟩ => true
  | ⟨36, _⟩ => true
  | ⟨37, _⟩ => true
  | ⟨38, _⟩ => true
  | ⟨39, _⟩ => true
  | ⟨40, _⟩ => true
  | ⟨41, _⟩ => true
  | ⟨42, _⟩ => true
  | ⟨43, _⟩ => true
  | ⟨44, _⟩ => true
  | ⟨45, _⟩ => true
  | ⟨46, _⟩ => true
  | _ => false

abbrev sig : RefSig :=
  ofTc nBuf bufTy 0 47 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_cst : Ref sig .tc := ⟨.hbm, 13, rfl⟩
abbrev main_v4 : Ref sig .tc := ⟨.hbm, 14, rfl⟩
abbrev main_v5 : Ref sig .tc := ⟨.hbm, 15, rfl⟩
abbrev main_call0_c : Ref sig .tc := ⟨.hbm, 16, rfl⟩
abbrev main_call0_v0 : Ref sig .tc := ⟨.hbm, 17, rfl⟩
abbrev main_call0_v1 : Ref sig .tc := ⟨.hbm, 18, rfl⟩
abbrev main_call0_c_0 : Ref sig .tc := ⟨.hbm, 19, rfl⟩
abbrev main_call0_v2 : Ref sig .tc := ⟨.hbm, 20, rfl⟩
abbrev main_call0_v3 : Ref sig .tc := ⟨.hbm, 21, rfl⟩
abbrev main_call0_v4 : Ref sig .tc := ⟨.hbm, 22, rfl⟩
abbrev main_call0_v5 : Ref sig .tc := ⟨.hbm, 23, rfl⟩
abbrev main_call0_c_1 : Ref sig .tc := ⟨.hbm, 24, rfl⟩
abbrev main_call0_c_2 : Ref sig .tc := ⟨.hbm, 25, rfl⟩
abbrev main_call0_v6 : Ref sig .tc := ⟨.hbm, 26, rfl⟩
abbrev main_call0_v7 : Ref sig .tc := ⟨.hbm, 27, rfl⟩
abbrev main_call0_v8 : Ref sig .tc := ⟨.hbm, 28, rfl⟩
abbrev main_call0_v9 : Ref sig .tc := ⟨.hbm, 29, rfl⟩
abbrev main_call0_v10 : Ref sig .tc := ⟨.hbm, 30, rfl⟩
abbrev main_call0_v11 : Ref sig .tc := ⟨.hbm, 31, rfl⟩
abbrev main_call0_c_3 : Ref sig .tc := ⟨.hbm, 32, rfl⟩
abbrev main_call0_v12 : Ref sig .tc := ⟨.hbm, 33, rfl⟩
abbrev main_call0_v13 : Ref sig .tc := ⟨.hbm, 34, rfl⟩
abbrev main_call0_v14 : Ref sig .tc := ⟨.hbm, 35, rfl⟩
abbrev main_call0_cst : Ref sig .tc := ⟨.hbm, 36, rfl⟩
abbrev main_call0_v15 : Ref sig .tc := ⟨.hbm, 37, rfl⟩
abbrev main_v6 : Ref sig .tc := ⟨.hbm, 38, rfl⟩
abbrev main_cst_0 : Ref sig .tc := ⟨.hbm, 39, rfl⟩
abbrev main_v7 : Ref sig .tc := ⟨.hbm, 40, rfl⟩
abbrev main_v8 : Ref sig .tc := ⟨.hbm, 41, rfl⟩
abbrev main_v9 : Ref sig .tc := ⟨.hbm, 42, rfl⟩
abbrev main_v10 : Ref sig .tc := ⟨.hbm, 43, rfl⟩
abbrev main_v11 : Ref sig .tc := ⟨.hbm, 44, rfl⟩
abbrev main_cst_1 : Ref sig .tc := ⟨.hbm, 45, rfl⟩
abbrev main_call1_v0 : Ref sig .tc := ⟨.hbm, 46, rfl⟩
abbrev main_call1_v1 : Ref sig .tc := ⟨.hbm, 47, rfl⟩
abbrev main_v12 : Ref sig .tc := ⟨.hbm, 48, rfl⟩
abbrev main_v13 : Ref sig .tc := ⟨.hbm, 49, rfl⟩
abbrev main_v14 : Ref sig .tc := ⟨.hbm, 50, rfl⟩
abbrev main_call2_c : Ref sig .tc := ⟨.hbm, 51, rfl⟩
abbrev main_call2_v0 : Ref sig .tc := ⟨.hbm, 52, rfl⟩
abbrev main_call2_v1 : Ref sig .tc := ⟨.hbm, 53, rfl⟩
abbrev main_call2_c_0 : Ref sig .tc := ⟨.hbm, 54, rfl⟩
abbrev main_call2_v2 : Ref sig .tc := ⟨.hbm, 55, rfl⟩
abbrev main_call2_v3 : Ref sig .tc := ⟨.hbm, 56, rfl⟩
abbrev main_call2_v4 : Ref sig .tc := ⟨.hbm, 57, rfl⟩
abbrev main_call2_v5 : Ref sig .tc := ⟨.hbm, 58, rfl⟩
abbrev main_call2_c_1 : Ref sig .tc := ⟨.hbm, 59, rfl⟩
abbrev main_call2_c_2 : Ref sig .tc := ⟨.hbm, 60, rfl⟩
abbrev main_call2_v6 : Ref sig .tc := ⟨.hbm, 61, rfl⟩
abbrev main_call2_v7 : Ref sig .tc := ⟨.hbm, 62, rfl⟩
abbrev main_call2_v8 : Ref sig .tc := ⟨.hbm, 63, rfl⟩
abbrev main_call2_v9 : Ref sig .tc := ⟨.hbm, 64, rfl⟩
abbrev main_call2_v10 : Ref sig .tc := ⟨.hbm, 65, rfl⟩
abbrev main_call2_v11 : Ref sig .tc := ⟨.hbm, 66, rfl⟩
abbrev main_call2_c_3 : Ref sig .tc := ⟨.hbm, 67, rfl⟩
abbrev main_call2_v12 : Ref sig .tc := ⟨.hbm, 68, rfl⟩
abbrev main_call2_v13 : Ref sig .tc := ⟨.hbm, 69, rfl⟩
abbrev main_call2_v14 : Ref sig .tc := ⟨.hbm, 70, rfl⟩
abbrev main_call2_cst : Ref sig .tc := ⟨.hbm, 71, rfl⟩
abbrev main_call2_v15 : Ref sig .tc := ⟨.hbm, 72, rfl⟩
abbrev main_v15 : Ref sig .tc := ⟨.hbm, 73, rfl⟩
abbrev main_cst_2 : Ref sig .tc := ⟨.hbm, 74, rfl⟩
abbrev main_v16 : Ref sig .tc := ⟨.hbm, 75, rfl⟩
abbrev main_v17 : Ref sig .tc := ⟨.hbm, 76, rfl⟩
abbrev main_v18 : Ref sig .tc := ⟨.hbm, 77, rfl⟩
abbrev main_cst_3 : Ref sig .tc := ⟨.hbm, 78, rfl⟩
abbrev main_v19 : Ref sig .tc := ⟨.hbm, 79, rfl⟩
abbrev main_v20 : Ref sig .tc := ⟨.hbm, 80, rfl⟩
abbrev main_cst_4 : Ref sig .tc := ⟨.hbm, 81, rfl⟩
abbrev main_v21 : Ref sig .tc := ⟨.hbm, 82, rfl⟩
abbrev main_v22 : Ref sig .tc := ⟨.hbm, 83, rfl⟩
abbrev main_v23 : Ref sig .tc := ⟨.hbm, 84, rfl⟩
abbrev main_v24 : Ref sig .tc := ⟨.hbm, 85, rfl⟩
abbrev main_v25 : Ref sig .tc := ⟨.hbm, 86, rfl⟩
abbrev main_v26 : Ref sig .tc := ⟨.hbm, 87, rfl⟩
abbrev main_v27 : Ref sig .tc := ⟨.hbm, 88, rfl⟩
abbrev main_cst_5 : Ref sig .tc := ⟨.hbm, 89, rfl⟩
abbrev main_v28 : Ref sig .tc := ⟨.hbm, 90, rfl⟩
abbrev main_v29 : Ref sig .tc := ⟨.hbm, 91, rfl⟩
abbrev main_cst_6 : Ref sig .tc := ⟨.hbm, 92, rfl⟩
abbrev main_v30 : Ref sig .tc := ⟨.hbm, 93, rfl⟩
abbrev main_v31 : Ref sig .tc := ⟨.hbm, 94, rfl⟩
abbrev main_v32 : Ref sig .tc := ⟨.hbm, 95, rfl⟩
abbrev main_cst_7 : Ref sig .tc := ⟨.hbm, 96, rfl⟩
abbrev main_v33 : Ref sig .tc := ⟨.hbm, 97, rfl⟩
abbrev main_v34 : Ref sig .tc := ⟨.hbm, 98, rfl⟩
abbrev main_v35 : Ref sig .tc := ⟨.hbm, 99, rfl⟩
abbrev main_v36 : Ref sig .tc := ⟨.hbm, 100, rfl⟩
abbrev main_v37 : Ref sig .tc := ⟨.hbm, 101, rfl⟩
abbrev main_v38 : Ref sig .tc := ⟨.hbm, 102, rfl⟩
abbrev main_v39 : Ref sig .tc := ⟨.hbm, 103, rfl⟩
abbrev main_call3_c : Ref sig .tc := ⟨.hbm, 104, rfl⟩
abbrev main_call3_v0 : Ref sig .tc := ⟨.hbm, 105, rfl⟩
abbrev main_call3_v1 : Ref sig .tc := ⟨.hbm, 106, rfl⟩
abbrev main_call3_c_0 : Ref sig .tc := ⟨.hbm, 107, rfl⟩
abbrev main_call3_v2 : Ref sig .tc := ⟨.hbm, 108, rfl⟩
abbrev main_call3_v3 : Ref sig .tc := ⟨.hbm, 109, rfl⟩
abbrev main_call3_v4 : Ref sig .tc := ⟨.hbm, 110, rfl⟩
abbrev main_call3_v5 : Ref sig .tc := ⟨.hbm, 111, rfl⟩
abbrev main_call3_c_1 : Ref sig .tc := ⟨.hbm, 112, rfl⟩
abbrev main_call3_c_2 : Ref sig .tc := ⟨.hbm, 113, rfl⟩
abbrev main_call3_v6 : Ref sig .tc := ⟨.hbm, 114, rfl⟩
abbrev main_call3_v7 : Ref sig .tc := ⟨.hbm, 115, rfl⟩
abbrev main_call3_v8 : Ref sig .tc := ⟨.hbm, 116, rfl⟩
abbrev main_call3_v9 : Ref sig .tc := ⟨.hbm, 117, rfl⟩
abbrev main_call3_v10 : Ref sig .tc := ⟨.hbm, 118, rfl⟩
abbrev main_call3_v11 : Ref sig .tc := ⟨.hbm, 119, rfl⟩
abbrev main_call3_c_3 : Ref sig .tc := ⟨.hbm, 120, rfl⟩
abbrev main_call3_v12 : Ref sig .tc := ⟨.hbm, 121, rfl⟩
abbrev main_call3_v13 : Ref sig .tc := ⟨.hbm, 122, rfl⟩
abbrev main_call3_v14 : Ref sig .tc := ⟨.hbm, 123, rfl⟩
abbrev main_call3_cst : Ref sig .tc := ⟨.hbm, 124, rfl⟩
abbrev main_call3_v15 : Ref sig .tc := ⟨.hbm, 125, rfl⟩
abbrev main_v40 : Ref sig .tc := ⟨.hbm, 126, rfl⟩
abbrev main_v41 : Ref sig .tc := ⟨.hbm, 127, rfl⟩
abbrev main_v42 : Ref sig .tc := ⟨.hbm, 128, rfl⟩
abbrev main_v43 : Ref sig .tc := ⟨.hbm, 129, rfl⟩
abbrev main_cst_8 : Ref sig .tc := ⟨.hbm, 130, rfl⟩
abbrev main_v44 : Ref sig .tc := ⟨.hbm, 131, rfl⟩
abbrev main_v45 : Ref sig .tc := ⟨.hbm, 132, rfl⟩
abbrev main_v46 : Ref sig .tc := ⟨.hbm, 133, rfl⟩
abbrev main_v47 : Ref sig .tc := ⟨.hbm, 134, rfl⟩
abbrev main_cst_9 : Ref sig .tc := ⟨.hbm, 135, rfl⟩
abbrev main_v48 : Ref sig .tc := ⟨.hbm, 136, rfl⟩
abbrev main_v49 : Ref sig .tc := ⟨.hbm, 137, rfl⟩
abbrev main_cst_10 : Ref sig .tc := ⟨.hbm, 138, rfl⟩
abbrev main_v50 : Ref sig .tc := ⟨.hbm, 139, rfl⟩
abbrev main_v51 : Ref sig .tc := ⟨.hbm, 140, rfl⟩
abbrev main_v52 : Ref sig .tc := ⟨.hbm, 141, rfl⟩
abbrev main_v53 : Ref sig .tc := ⟨.hbm, 142, rfl⟩
abbrev main_v54 : Ref sig .tc := ⟨.hbm, 143, rfl⟩
abbrev main_cst_11 : Ref sig .tc := ⟨.hbm, 144, rfl⟩
abbrev main_v55 : Ref sig .tc := ⟨.hbm, 145, rfl⟩
abbrev main_v56 : Ref sig .tc := ⟨.hbm, 146, rfl⟩
abbrev main_v57 : Ref sig .tc := ⟨.hbm, 147, rfl⟩
abbrev main_v58 : Ref sig .tc := ⟨.hbm, 148, rfl⟩
abbrev main_call4_c : Ref sig .tc := ⟨.hbm, 149, rfl⟩
abbrev main_call4_v0 : Ref sig .tc := ⟨.hbm, 150, rfl⟩
abbrev main_call4_v1 : Ref sig .tc := ⟨.hbm, 151, rfl⟩
abbrev main_call4_c_0 : Ref sig .tc := ⟨.hbm, 152, rfl⟩
abbrev main_call4_v2 : Ref sig .tc := ⟨.hbm, 153, rfl⟩
abbrev main_call4_v3 : Ref sig .tc := ⟨.hbm, 154, rfl⟩
abbrev main_call4_v4 : Ref sig .tc := ⟨.hbm, 155, rfl⟩
abbrev main_call4_v5 : Ref sig .tc := ⟨.hbm, 156, rfl⟩
abbrev main_call4_c_1 : Ref sig .tc := ⟨.hbm, 157, rfl⟩
abbrev main_call4_c_2 : Ref sig .tc := ⟨.hbm, 158, rfl⟩
abbrev main_call4_v6 : Ref sig .tc := ⟨.hbm, 159, rfl⟩
abbrev main_call4_v7 : Ref sig .tc := ⟨.hbm, 160, rfl⟩
abbrev main_call4_v8 : Ref sig .tc := ⟨.hbm, 161, rfl⟩
abbrev main_call4_v9 : Ref sig .tc := ⟨.hbm, 162, rfl⟩
abbrev main_call4_v10 : Ref sig .tc := ⟨.hbm, 163, rfl⟩
abbrev main_call4_v11 : Ref sig .tc := ⟨.hbm, 164, rfl⟩
abbrev main_call4_c_3 : Ref sig .tc := ⟨.hbm, 165, rfl⟩
abbrev main_call4_v12 : Ref sig .tc := ⟨.hbm, 166, rfl⟩
abbrev main_call4_v13 : Ref sig .tc := ⟨.hbm, 167, rfl⟩
abbrev main_call4_v14 : Ref sig .tc := ⟨.hbm, 168, rfl⟩
abbrev main_call4_cst : Ref sig .tc := ⟨.hbm, 169, rfl⟩
abbrev main_call4_v15 : Ref sig .tc := ⟨.hbm, 170, rfl⟩
abbrev main_v59 : Ref sig .tc := ⟨.hbm, 171, rfl⟩
abbrev main_v60 : Ref sig .tc := ⟨.hbm, 172, rfl⟩
abbrev main_v61 : Ref sig .tc := ⟨.hbm, 173, rfl⟩
abbrev main_cst_12 : Ref sig .tc := ⟨.hbm, 174, rfl⟩
abbrev main_v62 : Ref sig .tc := ⟨.hbm, 175, rfl⟩
abbrev main_v63 : Ref sig .tc := ⟨.hbm, 176, rfl⟩
abbrev main_v64 : Ref sig .tc := ⟨.hbm, 177, rfl⟩
abbrev main_v65 : Ref sig .tc := ⟨.hbm, 178, rfl⟩
abbrev main_cst_13 : Ref sig .tc := ⟨.hbm, 179, rfl⟩
abbrev main_v66 : Ref sig .tc := ⟨.hbm, 180, rfl⟩
abbrev main_v67 : Ref sig .tc := ⟨.hbm, 181, rfl⟩
abbrev main_cst_14 : Ref sig .tc := ⟨.hbm, 182, rfl⟩
abbrev main_v68 : Ref sig .tc := ⟨.hbm, 183, rfl⟩
abbrev main_v69 : Ref sig .tc := ⟨.hbm, 184, rfl⟩
abbrev main_v70 : Ref sig .tc := ⟨.hbm, 185, rfl⟩
abbrev main_cst_15 : Ref sig .tc := ⟨.hbm, 186, rfl⟩
abbrev main_v71 : Ref sig .tc := ⟨.hbm, 187, rfl⟩
abbrev main_v72 : Ref sig .tc := ⟨.hbm, 188, rfl⟩
abbrev main_v73 : Ref sig .tc := ⟨.hbm, 189, rfl⟩
abbrev main_c : Ref sig .tc := ⟨.hbm, 190, rfl⟩
abbrev main_v74 : Ref sig .tc := ⟨.hbm, 191, rfl⟩
abbrev main_v75 : Ref sig .tc := ⟨.hbm, 192, rfl⟩
abbrev main_c_16 : Ref sig .tc := ⟨.hbm, 193, rfl⟩
abbrev main_v76 : Ref sig .tc := ⟨.hbm, 194, rfl⟩
abbrev main_v77 : Ref sig .tc := ⟨.hbm, 195, rfl⟩
abbrev main_v78 : Ref sig .tc := ⟨.hbm, 196, rfl⟩
abbrev main_c_17 : Ref sig .tc := ⟨.hbm, 197, rfl⟩
abbrev main_v79 : Ref sig .tc := ⟨.hbm, 198, rfl⟩
abbrev main_v80 : Ref sig .tc := ⟨.hbm, 199, rfl⟩
abbrev main_c_18 : Ref sig .tc := ⟨.hbm, 200, rfl⟩
abbrev main_v81 : Ref sig .tc := ⟨.hbm, 201, rfl⟩
abbrev main_v82 : Ref sig .tc := ⟨.hbm, 202, rfl⟩
abbrev main_v83 : Ref sig .tc := ⟨.hbm, 203, rfl⟩
abbrev main_v84 : Ref sig .tc := ⟨.hbm, 204, rfl⟩
abbrev main_v85 : Ref sig .tc := ⟨.hbm, 205, rfl⟩
abbrev main_v86 : Ref sig .tc := ⟨.hbm, 206, rfl⟩
abbrev main_cst_19 : Ref sig .tc := ⟨.hbm, 207, rfl⟩
abbrev main_v87 : Ref sig .tc := ⟨.hbm, 208, rfl⟩
abbrev main_v88 : Ref sig .tc := ⟨.hbm, 209, rfl⟩
abbrev main_v89 : Ref sig .tc := ⟨.hbm, 210, rfl⟩
abbrev main_v90 : Ref sig .tc := ⟨.hbm, 211, rfl⟩
abbrev main_v91 : Ref sig .tc := ⟨.hbm, 212, rfl⟩
abbrev main_v92 : Ref sig .tc := ⟨.hbm, 213, rfl⟩
abbrev main_cst_20 : Ref sig .tc := ⟨.hbm, 214, rfl⟩
abbrev main_v93 : Ref sig .tc := ⟨.hbm, 215, rfl⟩
abbrev main_v94 : Ref sig .tc := ⟨.hbm, 216, rfl⟩
abbrev main_v95 : Ref sig .tc := ⟨.hbm, 217, rfl⟩
abbrev main_v96 : Ref sig .tc := ⟨.hbm, 218, rfl⟩
abbrev main_cst_21 : Ref sig .tc := ⟨.hbm, 219, rfl⟩
abbrev main_v97 : Ref sig .tc := ⟨.hbm, 220, rfl⟩
abbrev main_v98 : Ref sig .tc := ⟨.hbm, 221, rfl⟩
abbrev main_v99 : Ref sig .tc := ⟨.hbm, 222, rfl⟩
abbrev main_cst_22 : Ref sig .tc := ⟨.hbm, 223, rfl⟩
abbrev main_v100 : Ref sig .tc := ⟨.hbm, 224, rfl⟩
abbrev main_cst_23 : Ref sig .tc := ⟨.hbm, 225, rfl⟩
abbrev main_v101 : Ref sig .tc := ⟨.hbm, 226, rfl⟩
abbrev main_v102 : Ref sig .tc := ⟨.hbm, 227, rfl⟩
abbrev main_v103 : Ref sig .tc := ⟨.hbm, 228, rfl⟩
abbrev main_cst_24 : Ref sig .tc := ⟨.hbm, 229, rfl⟩
abbrev main_v104 : Ref sig .tc := ⟨.hbm, 230, rfl⟩
abbrev main_call5_cst : Ref sig .tc := ⟨.hbm, 231, rfl⟩
abbrev main_call5_v0 : Ref sig .tc := ⟨.hbm, 232, rfl⟩
abbrev main_call5_cst_0 : Ref sig .tc := ⟨.hbm, 233, rfl⟩
abbrev main_call5_v1 : Ref sig .tc := ⟨.hbm, 234, rfl⟩
abbrev main_call5_v2 : Ref sig .tc := ⟨.hbm, 235, rfl⟩
abbrev main_call5_v3 : Ref sig .tc := ⟨.hbm, 236, rfl⟩
abbrev main_call5_v4 : Ref sig .tc := ⟨.hbm, 237, rfl⟩
abbrev main_call5_v5 : Ref sig .tc := ⟨.hbm, 238, rfl⟩
abbrev main_call5_v6 : Ref sig .tc := ⟨.hbm, 239, rfl⟩
abbrev main_call5_cst_1 : Ref sig .tc := ⟨.hbm, 240, rfl⟩
abbrev main_call5_v7 : Ref sig .tc := ⟨.hbm, 241, rfl⟩
abbrev main_call5_v8 : Ref sig .tc := ⟨.hbm, 242, rfl⟩
abbrev main_call5_v9 : Ref sig .tc := ⟨.hbm, 243, rfl⟩
abbrev main_call5_v10 : Ref sig .tc := ⟨.hbm, 244, rfl⟩
abbrev main_v105 : Ref sig .tc := ⟨.hbm, 245, rfl⟩
abbrev main_cst_25 : Ref sig .tc := ⟨.hbm, 246, rfl⟩
abbrev main_v106 : Ref sig .tc := ⟨.hbm, 247, rfl⟩
abbrev main_cst_26 : Ref sig .tc := ⟨.hbm, 248, rfl⟩
abbrev main_v107 : Ref sig .tc := ⟨.hbm, 249, rfl⟩
abbrev main_v108 : Ref sig .tc := ⟨.hbm, 250, rfl⟩
abbrev main_v109 : Ref sig .tc := ⟨.hbm, 251, rfl⟩
abbrev main_v110 : Ref sig .tc := ⟨.hbm, 252, rfl⟩
abbrev main_v111 : Ref sig .tc := ⟨.hbm, 253, rfl⟩
abbrev main_v112 : Ref sig .tc := ⟨.hbm, 254, rfl⟩
abbrev main_cst_27 : Ref sig .tc := ⟨.hbm, 255, rfl⟩
abbrev main_v113 : Ref sig .tc := ⟨.hbm, 256, rfl⟩
abbrev main_v114 : Ref sig .tc := ⟨.hbm, 257, rfl⟩
abbrev main_v115 : Ref sig .tc := ⟨.hbm, 258, rfl⟩
abbrev main_v116 : Ref sig .tc := ⟨.hbm, 259, rfl⟩
abbrev main_cst_28 : Ref sig .tc := ⟨.hbm, 260, rfl⟩
abbrev main_v117 : Ref sig .tc := ⟨.hbm, 261, rfl⟩
abbrev main_v118 : Ref sig .tc := ⟨.hbm, 262, rfl⟩
abbrev main_v119 : Ref sig .tc := ⟨.hbm, 263, rfl⟩
abbrev main_v120 : Ref sig .tc := ⟨.hbm, 264, rfl⟩
abbrev main_v121 : Ref sig .tc := ⟨.hbm, 265, rfl⟩
abbrev main_cst_29 : Ref sig .tc := ⟨.hbm, 266, rfl⟩
abbrev main_v122 : Ref sig .tc := ⟨.hbm, 267, rfl⟩
abbrev main_cst_30 : Ref sig .tc := ⟨.hbm, 268, rfl⟩
abbrev main_v123 : Ref sig .tc := ⟨.hbm, 269, rfl⟩
abbrev main_cst_31 : Ref sig .tc := ⟨.hbm, 270, rfl⟩
abbrev main_v124 : Ref sig .tc := ⟨.hbm, 271, rfl⟩
abbrev main_v125 : Ref sig .tc := ⟨.hbm, 272, rfl⟩
abbrev main_cst_32 : Ref sig .tc := ⟨.hbm, 273, rfl⟩
abbrev main_v126 : Ref sig .tc := ⟨.hbm, 274, rfl⟩
abbrev main_v127 : Ref sig .tc := ⟨.hbm, 275, rfl⟩
abbrev main_v128 : Ref sig .tc := ⟨.hbm, 276, rfl⟩
abbrev main_v129 : Ref sig .tc := ⟨.hbm, 277, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg4_1 : Ref sig .tc := ⟨.vmem, 8, rfl⟩
abbrev cc1_stg0_0 : Ref sig .tc := ⟨.vmem, 9, rfl⟩
abbrev cc1_stg0_1 : Ref sig .tc := ⟨.vmem, 10, rfl⟩
abbrev cc1_stg1_0 : Ref sig .tc := ⟨.vmem, 11, rfl⟩
abbrev cc1_stg1_1 : Ref sig .tc := ⟨.vmem, 12, rfl⟩
abbrev cc1_stg2_0 : Ref sig .tc := ⟨.vmem, 13, rfl⟩
abbrev cc1_stg2_1 : Ref sig .tc := ⟨.vmem, 14, rfl⟩
abbrev cc1_stg3_0 : Ref sig .tc := ⟨.vmem, 15, rfl⟩
abbrev cc1_stg4_0 : Ref sig .tc := ⟨.vmem, 16, rfl⟩
abbrev cc1_stg4_1 : Ref sig .tc := ⟨.vmem, 17, rfl⟩
abbrev cc2_stg0_0 : Ref sig .tc := ⟨.vmem, 18, rfl⟩
abbrev cc2_stg0_1 : Ref sig .tc := ⟨.vmem, 19, rfl⟩
abbrev cc2_stg1_0 : Ref sig .tc := ⟨.vmem, 20, rfl⟩
abbrev cc2_stg1_1 : Ref sig .tc := ⟨.vmem, 21, rfl⟩
abbrev cc2_stg2_0 : Ref sig .tc := ⟨.vmem, 22, rfl⟩
abbrev cc2_stg2_1 : Ref sig .tc := ⟨.vmem, 23, rfl⟩
abbrev cc2_stg3_0 : Ref sig .tc := ⟨.vmem, 24, rfl⟩
abbrev cc2_stg4_0 : Ref sig .tc := ⟨.vmem, 25, rfl⟩
abbrev cc2_stg4_1 : Ref sig .tc := ⟨.vmem, 26, rfl⟩
abbrev cc3_stg0_0 : Ref sig .tc := ⟨.vmem, 27, rfl⟩
abbrev cc3_stg0_1 : Ref sig .tc := ⟨.vmem, 28, rfl⟩
abbrev cc3_stg1_0 : Ref sig .tc := ⟨.vmem, 29, rfl⟩
abbrev cc3_stg1_1 : Ref sig .tc := ⟨.vmem, 30, rfl⟩
abbrev cc3_stg2_0 : Ref sig .tc := ⟨.vmem, 31, rfl⟩
abbrev cc3_stg2_1 : Ref sig .tc := ⟨.vmem, 32, rfl⟩
abbrev cc3_stg3_0 : Ref sig .tc := ⟨.vmem, 33, rfl⟩
abbrev cc3_stg4_0 : Ref sig .tc := ⟨.vmem, 34, rfl⟩
abbrev cc3_stg4_1 : Ref sig .tc := ⟨.vmem, 35, rfl⟩
abbrev cc4_stg0_0 : Ref sig .tc := ⟨.vmem, 36, rfl⟩
abbrev cc4_stg0_1 : Ref sig .tc := ⟨.vmem, 37, rfl⟩
abbrev cc4_stg1_0 : Ref sig .tc := ⟨.vmem, 38, rfl⟩
abbrev cc4_stg2_0 : Ref sig .tc := ⟨.vmem, 39, rfl⟩
abbrev cc4_stg3_0 : Ref sig .tc := ⟨.vmem, 40, rfl⟩
abbrev cc4_stg3_1 : Ref sig .tc := ⟨.vmem, 41, rfl⟩
abbrev cc4_stg4_0 : Ref sig .tc := ⟨.vmem, 42, rfl⟩
abbrev cc4_stg4_1 : Ref sig .tc := ⟨.vmem, 43, rfl⟩
abbrev cc4_stg5_0 : Ref sig .tc := ⟨.vmem, 44, rfl⟩
abbrev cc4_stg5_1 : Ref sig .tc := ⟨.vmem, 45, rfl⟩
abbrev cc4_stg6_0 : Ref sig .tc := ⟨.vmem, 46, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem4_1 : DmaSem sig := 8
abbrev cc1_sem0_0 : DmaSem sig := 9
abbrev cc1_sem0_1 : DmaSem sig := 10
abbrev cc1_sem1_0 : DmaSem sig := 11
abbrev cc1_sem1_1 : DmaSem sig := 12
abbrev cc1_sem2_0 : DmaSem sig := 13
abbrev cc1_sem2_1 : DmaSem sig := 14
abbrev cc1_sem3_0 : DmaSem sig := 15
abbrev cc1_sem4_0 : DmaSem sig := 16
abbrev cc1_sem4_1 : DmaSem sig := 17
abbrev cc2_sem0_0 : DmaSem sig := 18
abbrev cc2_sem0_1 : DmaSem sig := 19
abbrev cc2_sem1_0 : DmaSem sig := 20
abbrev cc2_sem1_1 : DmaSem sig := 21
abbrev cc2_sem2_0 : DmaSem sig := 22
abbrev cc2_sem2_1 : DmaSem sig := 23
abbrev cc2_sem3_0 : DmaSem sig := 24
abbrev cc2_sem4_0 : DmaSem sig := 25
abbrev cc2_sem4_1 : DmaSem sig := 26
abbrev cc3_sem0_0 : DmaSem sig := 27
abbrev cc3_sem0_1 : DmaSem sig := 28
abbrev cc3_sem1_0 : DmaSem sig := 29
abbrev cc3_sem1_1 : DmaSem sig := 30
abbrev cc3_sem2_0 : DmaSem sig := 31
abbrev cc3_sem2_1 : DmaSem sig := 32
abbrev cc3_sem3_0 : DmaSem sig := 33
abbrev cc3_sem4_0 : DmaSem sig := 34
abbrev cc3_sem4_1 : DmaSem sig := 35
abbrev cc4_sem0_0 : DmaSem sig := 36
abbrev cc4_sem0_1 : DmaSem sig := 37
abbrev cc4_sem1_0 : DmaSem sig := 38
abbrev cc4_sem2_0 : DmaSem sig := 39
abbrev cc4_sem3_0 : DmaSem sig := 40
abbrev cc4_sem3_1 : DmaSem sig := 41
abbrev cc4_sem4_0 : DmaSem sig := 42
abbrev cc4_sem4_1 : DmaSem sig := 43
abbrev cc4_sem5_0 : DmaSem sig := 44
abbrev cc4_sem5_1 : DmaSem sig := 45
abbrev cc4_sem6_0 : DmaSem sig := 46

abbrev nD : Nat := 1
abbrev τ : Topo := Topo.v7x

variable {F : FTy → Type} [FloatOps F]

abbrev grid0 : Pipeline.Grid := ⟨1, ![8], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S128x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 2 → Memref sig .tc .vmem S512x128 .f32 := fun | 0 => Memref.whole cc0_stg4_0 | 1 => Memref.whole cc0_stg4_1 | ⟨_ + 2, h⟩ => absurd h (Nat.not_lt.2 (Nat.le_add_left _ _))
abbrev sem0_4 : Fin 2 → DmaSem sig := fun | 0 => cc0_sem4_0 | 1 => cc0_sem4_1 | ⟨_ + 2, h⟩ => absurd h (Nat.not_lt.2 (Nat.le_add_left _ _))
abbrev reads0_4 : Fin grid0.rank → Bool := ![true]

abbrev grid1 : Pipeline.Grid := ⟨1, ![8], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S512x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S512x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 2 → Memref sig .tc .vmem S512x1 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev stage1_3 : Fin 1 → Memref sig .tc .vmem S128x96 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 2 → Memref sig .tc .vmem S512x96 .f32 := fun | 0 => Memref.whole cc1_stg4_0 | 1 => Memref.whole cc1_stg4_1 | ⟨_ + 2, h⟩ => absurd h (Nat.not_lt.2 (Nat.le_add_left _ _))
abbrev sem1_4 : Fin 2 → DmaSem sig := fun | 0 => cc1_sem4_0 | 1 => cc1_sem4_1 | ⟨_ + 2, h⟩ => absurd h (Nat.not_lt.2 (Nat.le_add_left _ _))
abbrev reads1_4 : Fin grid1.rank → Bool := ![true]

abbrev grid2 : Pipeline.Grid := ⟨1, ![8], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S512x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S512x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 2 → Memref sig .tc .vmem S512x1 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev stage2_3 : Fin 1 → Memref sig .tc .vmem S128x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 2 → Memref sig .tc .vmem S512x64 .f32 := fun | 0 => Memref.whole cc2_stg4_0 | 1 => Memref.whole cc2_stg4_1 | ⟨_ + 2, h⟩ => absurd h (Nat.not_lt.2 (Nat.le_add_left _ _))
abbrev sem2_4 : Fin 2 → DmaSem sig := fun | 0 => cc2_sem4_0 | 1 => cc2_sem4_1 | ⟨_ + 2, h⟩ => absurd h (Nat.not_lt.2 (Nat.le_add_left _ _))
abbrev reads2_4 : Fin grid2.rank → Bool := ![true]

abbrev grid3 : Pipeline.Grid := ⟨1, ![8], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_3 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_4 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S512x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 2 → Memref sig .tc .vmem S512x64 .f32 := fun | 0 => Memref.whole cc3_stg1_0 | 1 => Memref.whole cc3_stg1_1 | ⟨_ + 2, h⟩ => absurd h (Nat.not_lt.2 (Nat.le_add_left _ _))
abbrev sem3_1 : Fin 2 → DmaSem sig := fun | 0 => cc3_sem1_0 | 1 => cc3_sem1_1 | ⟨_ + 2, h⟩ => absurd h (Nat.not_lt.2 (Nat.le_add_left _ _))
abbrev reads3_1 : Fin grid3.rank → Bool := ![true]

abbrev stage3_2 : Fin 2 → Memref sig .tc .vmem S512x1 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

abbrev stage3_3 : Fin 1 → Memref sig .tc .vmem S64x64 .f32 := fun | 0 => Memref.whole cc3_stg3_0 | ⟨_ + 1, h⟩ => absurd h (Nat.not_lt.2 (Nat.le_add_left _ _))
abbrev sem3_3 : Fin 1 → DmaSem sig := fun | 0 => cc3_sem3_0 | ⟨_ + 1, h⟩ => absurd h (Nat.not_lt.2 (Nat.le_add_left _ _))
abbrev reads3_3 : Fin grid3.rank → Bool := ![false]

abbrev stage3_4 : Fin 2 → Memref sig .tc .vmem S512x64 .f32 := fun | 0 => Memref.whole cc3_stg4_0 | 1 => Memref.whole cc3_stg4_1 | ⟨_ + 2, h⟩ => absurd h (Nat.not_lt.2 (Nat.le_add_left _ _))
abbrev sem3_4 : Fin 2 → DmaSem sig := fun | 0 => cc3_sem4_0 | 1 => cc3_sem4_1 | ⟨_ + 2, h⟩ => absurd h (Nat.not_lt.2 (Nat.le_add_left _ _))
abbrev reads3_4 : Fin grid3.rank → Bool := ![true]

abbrev grid4 : Pipeline.Grid := ⟨1, ![32], ![false]⟩

def k4_off1 (i : grid4.Coords) : Fin 2 → Nat :=
  let arg0 : BitVec 32 := BitVec.ofNat 32 (i 0).val
  let v66 : Index := Scalar.indexCast arg0
  let c0_23 : Index := 0#32
  ![v66.toNat, 0]
def cc4_transform_0 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_1 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_2 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc4_transform_3 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_4 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_5 (i : grid4.Coords) : Fin 2 → Nat :=
  let arg0 : BitVec 32 := BitVec.ofNat 32 (i 0).val
  let c0_i32 : BitVec 32 := 0#32
  let c0_i32_0 : BitVec 32 := 0#32
  ![arg0.toNat, c0_i32.toNat]

def cc4_transform_6 (i : grid4.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

abbrev stage4_0 : Fin 2 → Memref sig .tc .vmem S128x16 .f32 := fun | 0 => Memref.whole cc4_stg0_0 | 1 => Memref.whole cc4_stg0_1 | ⟨_ + 2, h⟩ => absurd h (Nat.not_lt.2 (Nat.le_add_left _ _))
abbrev sem4_0 : Fin 2 → DmaSem sig := fun | 0 => cc4_sem0_0 | 1 => cc4_sem0_1 | ⟨_ + 2, h⟩ => absurd h (Nat.not_lt.2 (Nat.le_add_left _ _))
abbrev reads4_0 : Fin grid4.rank → Bool := ![true]

abbrev stage4_1 : Fin 1 → Memref sig .tc .vmem S16x4096 .f32 := fun | 0 => Memref.whole cc4_stg1_0 | ⟨_ + 1, h⟩ => absurd h (Nat.not_lt.2 (Nat.le_add_left _ _))
abbrev sem4_1 : Fin 1 → DmaSem sig := fun | 0 => cc4_sem1_0 | ⟨_ + 1, h⟩ => absurd h (Nat.not_lt.2 (Nat.le_add_left _ _))
abbrev reads4_1 : Fin grid4.rank → Bool := ![false]

abbrev stage4_2 : Fin 1 → Memref sig .tc .vmem S8x4096 .f32 := fun | 0 => Memref.whole cc4_stg2_0 | ⟨_ + 1, h⟩ => absurd h (Nat.not_lt.2 (Nat.le_add_left _ _))
abbrev sem4_2 : Fin 1 → DmaSem sig := fun | 0 => cc4_sem2_0 | ⟨_ + 1, h⟩ => absurd h (Nat.not_lt.2 (Nat.le_add_left _ _))
abbrev reads4_2 : Fin grid4.rank → Bool := ![false]

abbrev stage4_3 : Fin 2 → Memref sig .tc .vmem S128x16 .f32 := fun | 0 => Memref.whole cc4_stg3_0 | 1 => Memref.whole cc4_stg3_1 | ⟨_ + 2, h⟩ => absurd h (Nat.not_lt.2 (Nat.le_add_left _ _))
abbrev sem4_3 : Fin 2 → DmaSem sig := fun | 0 => cc4_sem3_0 | 1 => cc4_sem3_1 | ⟨_ + 2, h⟩ => absurd h (Nat.not_lt.2 (Nat.le_add_left _ _))
abbrev reads4_3 : Fin grid4.rank → Bool := ![true]

abbrev stage4_4 : Fin 2 → Memref sig .tc .vmem S128x16 .f32 := fun | 0 => Memref.whole cc4_stg4_0 | 1 => Memref.whole cc4_stg4_1 | ⟨_ + 2, h⟩ => absurd h (Nat.not_lt.2 (Nat.le_add_left _ _))
abbrev sem4_4 : Fin 2 → DmaSem sig := fun | 0 => cc4_sem4_0 | 1 => cc4_sem4_1 | ⟨_ + 2, h⟩ => absurd h (Nat.not_lt.2 (Nat.le_add_left _ _))
abbrev reads4_4 : Fin grid4.rank → Bool := ![true]

abbrev stage4_5 : Fin 2 → Memref sig .tc .vmem S128x4096 .f32 := fun | 0 => Memref.whole cc4_stg5_0 | 1 => Memref.whole cc4_stg5_1 | ⟨_ + 2, h⟩ => absurd h (Nat.not_lt.2 (Nat.le_add_left _ _))
abbrev sem4_5 : Fin 2 → DmaSem sig := fun | 0 => cc4_sem5_0 | 1 => cc4_sem5_1 | ⟨_ + 2, h⟩ => absurd h (Nat.not_lt.2 (Nat.le_add_left _ _))
abbrev reads4_5 : Fin grid4.rank → Bool := ![true]

abbrev stage4_6 : Fin 1 → Memref sig .tc .vmem S32x128 .f32 := fun | 0 => Memref.whole cc4_stg6_0 | ⟨_ + 1, h⟩ => absurd h (Nat.not_lt.2 (Nat.le_add_left _ _))
abbrev sem4_6 : Fin 1 → DmaSem sig := fun | 0 => cc4_sem6_0 | ⟨_ + 1, h⟩ => absurd h (Nat.not_lt.2 (Nat.le_add_left _ _))
abbrev reads4_6 : Fin grid4.rank → Bool := ![false]
-- ==== ReferenceIdeal.lean ====
abbrev S4096x128 : Shape := ⟨2, ![4096, 128]⟩
abbrev S2x131072 : Shape := ⟨2, ![2, 131072]⟩
abbrev S4096x16 : Shape := ⟨2, ![4096, 16]⟩
abbrev S128x64 : Shape := ⟨2, ![128, 64]⟩
abbrev S64x16 : Shape := ⟨2, ![64, 16]⟩
abbrev S64x64 : Shape := ⟨2, ![64, 64]⟩
abbrev S64x2 : Shape := ⟨2, ![64, 2]⟩
abbrev S1x131072 : Shape := ⟨2, ![1, 131072]⟩
abbrev S131072 : Shape := ⟨1, ![131072]⟩
abbrev S4096x64 : Shape := ⟨2, ![4096, 64]⟩
abbrev S_ : Shape := ⟨0, ![]⟩
abbrev S131072x1 : Shape := ⟨2, ![131072, 1]⟩
abbrev S1 : Shape := ⟨1, ![1]⟩
abbrev S1x1 : Shape := ⟨2, ![1, 1]⟩
abbrev S131072x64 : Shape := ⟨2, ![131072, 64]⟩
abbrev S4096x1 : Shape := ⟨2, ![4096, 1]⟩
abbrev S64 : Shape := ⟨1, ![64]⟩
abbrev S1x64 : Shape := ⟨2, ![1, 64]⟩
abbrev S1x2 : Shape := ⟨2, ![1, 2]⟩
abbrev S131072x16 : Shape := ⟨2, ![131072, 16]⟩
abbrev S4096x8 : Shape := ⟨2, ![4096, 8]⟩
abbrev S16x4096 : Shape := ⟨2, ![16, 4096]⟩
abbrev S4096x4096 : Shape := ⟨2, ![4096, 4096]⟩
abbrev S131072x2 : Shape := ⟨2, ![131072, 2]⟩

abbrev nBuf : Space → Nat
  | .hbm => 517
  | .vmem => 0
  | .smem => 0
  | _ => 0

abbrev hbmTy0_0 (i : Nat) : BufTy := match i % 128 with
  | 0 => ⟨S4096x128, .f32⟩
  | 1 => ⟨S2x131072, .i32⟩
  | 2 => ⟨S4096x16, .f32⟩
  | 3 => ⟨S128x64, .f32⟩
  | 4 => ⟨S64x16, .f32⟩
  | 5 => ⟨S64x16, .f32⟩
  | 6 => ⟨S128x64, .f32⟩
  | 7 => ⟨S64x64, .f32⟩
  | 8 => ⟨S64x2, .f32⟩
  | 9 => ⟨S1x131072, .i32⟩
  | 10 => ⟨S131072, .i32⟩
  | 11 => ⟨S1x131072, .i32⟩
  | 12 => ⟨S131072, .i32⟩
  | 13 => ⟨S4096x64, .f32⟩
  | 14 => ⟨S_, .i32⟩
  | 15 => ⟨S131072, .i32⟩
  | 16 => ⟨S131072, .i1⟩
  | 17 => ⟨S_, .i32⟩
  | 18 => ⟨S131072, .i32⟩
  | 19 => ⟨S131072, .i32⟩
  | 20 => ⟨S131072, .i32⟩
  | 21 => ⟨S131072x1, .i32⟩
  | 22 => ⟨S1, .i32⟩
  | 23 => ⟨S_, .i32⟩
  | 24 => ⟨S131072x1, .i32⟩
  | 25 => ⟨S131072x1, .i1⟩
  | 26 => ⟨S1x1, .i32⟩
  | 27 => ⟨S131072x1, .i32⟩
  | 28 => ⟨S131072x1, .i1⟩
  | 29 => ⟨S131072x1, .i1⟩
  | 30 => ⟨S_, .i1⟩
  | 31 => ⟨S131072, .i1⟩
  | 32 => ⟨S131072x64, .f32⟩
  | 33 => ⟨S131072x64, .i1⟩
  | 34 => ⟨S_, .f32⟩
  | 35 => ⟨S131072x64, .f32⟩
  | 36 => ⟨S131072x64, .f32⟩
  | 37 => ⟨S_, .f32⟩
  | 38 => ⟨S4096x64, .f32⟩
  | 39 => ⟨S131072x1, .i32⟩
  | 40 => ⟨S4096x64, .f32⟩
  | 41 => ⟨S_, .f32⟩
  | 42 => ⟨S131072x1, .f32⟩
  | 43 => ⟨S_, .f32⟩
  | 44 => ⟨S4096x1, .f32⟩
  | 45 => ⟨S131072x1, .i32⟩
  | 46 => ⟨S4096x1, .f32⟩
  | 47 => ⟨S_, .f32⟩
  | 48 => ⟨S_, .f32⟩
  | 49 => ⟨S4096x1, .f32⟩
  | 50 => ⟨S4096x1, .f32⟩
  | 51 => ⟨S4096x64, .f32⟩
  | 52 => ⟨S4096x64, .f32⟩
  | 53 => ⟨S4096x64, .f32⟩
  | 54 => ⟨S_, .f32⟩
  | 55 => ⟨S4096x64, .f32⟩
  | 56 => ⟨S4096x64, .f32⟩
  | 57 => ⟨S4096x64, .f32⟩
  | 58 => ⟨S_, .i32⟩
  | 59 => ⟨S131072, .i32⟩
  | 60 => ⟨S131072, .i1⟩
  | 61 => ⟨S_, .i32⟩
  | 62 => ⟨S131072, .i32⟩
  | 63 => ⟨S131072, .i32⟩
  | 64 => ⟨S131072, .i32⟩
  | 65 => ⟨S131072x1, .i32⟩
  | 66 => ⟨S1, .i32⟩
  | 67 => ⟨S_, .i32⟩
  | 68 => ⟨S131072x1, .i32⟩
  | 69 => ⟨S131072x1, .i1⟩
  | 70 => ⟨S1x1, .i32⟩
  | 71 => ⟨S131072x1, .i32⟩
  | 72 => ⟨S131072x1, .i1⟩
  | 73 => ⟨S131072x1, .i1⟩
  | 74 => ⟨S_, .i1⟩
  | 75 => ⟨S131072, .i1⟩
  | 76 => ⟨S131072x64, .f32⟩
  | 77 => ⟨S131072x64, .i1⟩
  | 78 => ⟨S_, .f32⟩
  | 79 => ⟨S131072x64, .f32⟩
  | 80 => ⟨S131072x64, .f32⟩
  | 81 => ⟨S_, .f32⟩
  | 82 => ⟨S4096x64, .f32⟩
  | 83 => ⟨S131072x1, .i32⟩
  | 84 => ⟨S4096x64, .f32⟩
  | 85 => ⟨S_, .f32⟩
  | 86 => ⟨S131072x1, .f32⟩
  | 87 => ⟨S_, .f32⟩
  | 88 => ⟨S4096x1, .f32⟩
  | 89 => ⟨S131072x1, .i32⟩
  | 90 => ⟨S4096x1, .f32⟩
  | 91 => ⟨S_, .f32⟩
  | 92 => ⟨S_, .f32⟩
  | 93 => ⟨S4096x1, .f32⟩
  | 94 => ⟨S4096x1, .f32⟩
  | 95 => ⟨S4096x64, .f32⟩
  | 96 => ⟨S4096x64, .f32⟩
  | 97 => ⟨S4096x64, .f32⟩
  | 98 => ⟨S_, .f32⟩
  | 99 => ⟨S4096x64, .f32⟩
  | 100 => ⟨S4096x64, .f32⟩
  | 101 => ⟨S_, .f32⟩
  | 102 => ⟨S64, .f32⟩
  | 103 => ⟨S1x64, .f32⟩
  | 104 => ⟨S_, .f32⟩
  | 105 => ⟨S1x64, .f32⟩
  | 106 => ⟨S1x64, .f32⟩
  | 107 => ⟨S1x2, .f32⟩
  | 108 => ⟨S4096x64, .f32⟩
  | 109 => ⟨S_, .i32⟩
  | 110 => ⟨S131072, .i32⟩
  | 111 => ⟨S131072, .i1⟩
  | 112 => ⟨S_, .i32⟩
  | 113 => ⟨S131072, .i32⟩
  | 114 => ⟨S131072, .i32⟩
  | 115 => ⟨S131072, .i32⟩
  | 116 => ⟨S131072x1, .i32⟩
  | 117 => ⟨S1, .i32⟩
  | 118 => ⟨S_, .i32⟩
  | 119 => ⟨S131072x1, .i32⟩
  | 120 => ⟨S131072x1, .i1⟩
  | 121 => ⟨S1x1, .i32⟩
  | 122 => ⟨S131072x1, .i32⟩
  | 123 => ⟨S131072x1, .i1⟩
  | 124 => ⟨S131072x1, .i1⟩
  | 125 => ⟨S_, .i1⟩
  | 126 => ⟨S131072, .i1⟩
  | 127 => ⟨S131072x64, .f32⟩
  | _ => ⟨S4096x128, .f32⟩

abbrev hbmTy0_1 (i : Nat) : BufTy := match i % 128 with
  | 0 => ⟨S131072x64, .i1⟩
  | 1 => ⟨S_, .f32⟩
  | 2 => ⟨S131072x64, .f32⟩
  | 3 => ⟨S131072x64, .f32⟩
  | 4 => ⟨S_, .f32⟩
  | 5 => ⟨S4096x64, .f32⟩
  | 6 => ⟨S131072x1, .i32⟩
  | 7 => ⟨S4096x64, .f32⟩
  | 8 => ⟨S_, .f32⟩
  | 9 => ⟨S131072x1, .f32⟩
  | 10 => ⟨S_, .f32⟩
  | 11 => ⟨S4096x1, .f32⟩
  | 12 => ⟨S131072x1, .i32⟩
  | 13 => ⟨S4096x1, .f32⟩
  | 14 => ⟨S_, .f32⟩
  | 15 => ⟨S_, .f32⟩
  | 16 => ⟨S4096x1, .f32⟩
  | 17 => ⟨S4096x1, .f32⟩
  | 18 => ⟨S4096x64, .f32⟩
  | 19 => ⟨S4096x64, .f32⟩
  | 20 => ⟨S4096x64, .f32⟩
  | 21 => ⟨S_, .f32⟩
  | 22 => ⟨S4096x64, .f32⟩
  | 23 => ⟨S4096x64, .f32⟩
  | 24 => ⟨S4096x16, .f32⟩
  | 25 => ⟨S_, .i32⟩
  | 26 => ⟨S131072, .i32⟩
  | 27 => ⟨S131072, .i1⟩
  | 28 => ⟨S_, .i32⟩
  | 29 => ⟨S131072, .i32⟩
  | 30 => ⟨S131072, .i32⟩
  | 31 => ⟨S131072, .i32⟩
  | 32 => ⟨S131072x1, .i32⟩
  | 33 => ⟨S1, .i32⟩
  | 34 => ⟨S_, .i32⟩
  | 35 => ⟨S131072x1, .i32⟩
  | 36 => ⟨S131072x1, .i1⟩
  | 37 => ⟨S1x1, .i32⟩
  | 38 => ⟨S131072x1, .i32⟩
  | 39 => ⟨S131072x1, .i1⟩
  | 40 => ⟨S131072x1, .i1⟩
  | 41 => ⟨S_, .i1⟩
  | 42 => ⟨S131072, .i1⟩
  | 43 => ⟨S131072x16, .f32⟩
  | 44 => ⟨S131072x16, .i1⟩
  | 45 => ⟨S_, .f32⟩
  | 46 => ⟨S131072x16, .f32⟩
  | 47 => ⟨S131072x16, .f32⟩
  | 48 => ⟨S_, .f32⟩
  | 49 => ⟨S4096x16, .f32⟩
  | 50 => ⟨S131072x1, .i32⟩
  | 51 => ⟨S4096x16, .f32⟩
  | 52 => ⟨S_, .f32⟩
  | 53 => ⟨S131072x1, .f32⟩
  | 54 => ⟨S_, .f32⟩
  | 55 => ⟨S4096x1, .f32⟩
  | 56 => ⟨S131072x1, .i32⟩
  | 57 => ⟨S4096x1, .f32⟩
  | 58 => ⟨S_, .f32⟩
  | 59 => ⟨S_, .f32⟩
  | 60 => ⟨S4096x1, .f32⟩
  | 61 => ⟨S4096x1, .f32⟩
  | 62 => ⟨S4096x16, .f32⟩
  | 63 => ⟨S4096x16, .f32⟩
  | 64 => ⟨S4096x16, .f32⟩
  | 65 => ⟨S4096x16, .f32⟩
  | 66 => ⟨S_, .i32⟩
  | 67 => ⟨S131072, .i32⟩
  | 68 => ⟨S131072, .i1⟩
  | 69 => ⟨S_, .i32⟩
  | 70 => ⟨S131072, .i32⟩
  | 71 => ⟨S131072, .i32⟩
  | 72 => ⟨S131072, .i32⟩
  | 73 => ⟨S131072x1, .i32⟩
  | 74 => ⟨S1, .i32⟩
  | 75 => ⟨S_, .i32⟩
  | 76 => ⟨S131072x1, .i32⟩
  | 77 => ⟨S131072x1, .i1⟩
  | 78 => ⟨S1x1, .i32⟩
  | 79 => ⟨S131072x1, .i32⟩
  | 80 => ⟨S131072x1, .i1⟩
  | 81 => ⟨S131072x1, .i1⟩
  | 82 => ⟨S_, .i1⟩
  | 83 => ⟨S131072, .i1⟩
  | 84 => ⟨S131072x16, .f32⟩
  | 85 => ⟨S131072x16, .i1⟩
  | 86 => ⟨S_, .f32⟩
  | 87 => ⟨S131072x16, .f32⟩
  | 88 => ⟨S131072x16, .f32⟩
  | 89 => ⟨S_, .f32⟩
  | 90 => ⟨S4096x16, .f32⟩
  | 91 => ⟨S131072x1, .i32⟩
  | 92 => ⟨S4096x16, .f32⟩
  | 93 => ⟨S_, .f32⟩
  | 94 => ⟨S131072x1, .f32⟩
  | 95 => ⟨S_, .f32⟩
  | 96 => ⟨S4096x1, .f32⟩
  | 97 => ⟨S131072x1, .i32⟩
  | 98 => ⟨S4096x1, .f32⟩
  | 99 => ⟨S_, .f32⟩
  | 100 => ⟨S_, .f32⟩
  | 101 => ⟨S4096x1, .f32⟩
  | 102 => ⟨S4096x1, .f32⟩
  | 103 => ⟨S4096x16, .f32⟩
  | 104 => ⟨S4096x16, .f32⟩
  | 105 => ⟨S4096x16, .f32⟩
  | 106 => ⟨S_, .f32⟩
  | 107 => ⟨S4096x16, .f32⟩
  | 108 => ⟨S4096x16, .f32⟩
  | 109 => ⟨S4096x16, .f32⟩
  | 110 => ⟨S4096x16, .f32⟩
  | 111 => ⟨S4096x16, .f32⟩
  | 112 => ⟨S_, .f32⟩
  | 113 => ⟨S4096x16, .f32⟩
  | 114 => ⟨S4096x8, .f32⟩
  | 115 => ⟨S_, .i32⟩
  | 116 => ⟨S1, .i32⟩
  | 117 => ⟨S4096x16, .f32⟩
  | 118 => ⟨S16x4096, .f32⟩
  | 119 => ⟨S4096x4096, .f32⟩
  | 120 => ⟨S4096x4096, .f32⟩
  | 121 => ⟨S4096x4096, .f32⟩
  | 122 => ⟨S_, .f32⟩
  | 123 => ⟨S4096x4096, .f32⟩
  | 124 => ⟨S4096x4096, .f32⟩
  | 125 => ⟨S_, .f32⟩
  | 126 => ⟨S4096x4096, .f32⟩
  | 127 => ⟨S4096x4096, .f32⟩
  | _ => ⟨S4096x128, .f32⟩

abbrev hbmTy0_2 (i : Nat) : BufTy := match i % 128 with
  | 0 => ⟨S16x4096, .f32⟩
  | 1 => ⟨S4096x4096, .f32⟩
  | 2 => ⟨S4096x4096, .f32⟩
  | 3 => ⟨S4096x4096, .f32⟩
  | 4 => ⟨S_, .f32⟩
  | 5 => ⟨S4096x4096, .f32⟩
  | 6 => ⟨S4096x4096, .f32⟩
  | 7 => ⟨S_, .f32⟩
  | 8 => ⟨S4096x4096, .f32⟩
  | 9 => ⟨S4096x4096, .f32⟩
  | 10 => ⟨S4096x4096, .i32⟩
  | 11 => ⟨S4096x4096, .i32⟩
  | 12 => ⟨S_, .i32⟩
  | 13 => ⟨S4096x4096, .i32⟩
  | 14 => ⟨S4096x4096, .i32⟩
  | 15 => ⟨S4096x4096, .i1⟩
  | 16 => ⟨S4096x4096, .f32⟩
  | 17 => ⟨S_, .i32⟩
  | 18 => ⟨S131072, .i32⟩
  | 19 => ⟨S131072, .i1⟩
  | 20 => ⟨S_, .i32⟩
  | 21 => ⟨S131072, .i32⟩
  | 22 => ⟨S131072, .i32⟩
  | 23 => ⟨S131072, .i32⟩
  | 24 => ⟨S_, .i32⟩
  | 25 => ⟨S131072, .i32⟩
  | 26 => ⟨S131072, .i1⟩
  | 27 => ⟨S_, .i32⟩
  | 28 => ⟨S131072, .i32⟩
  | 29 => ⟨S131072, .i32⟩
  | 30 => ⟨S131072, .i32⟩
  | 31 => ⟨S131072x1, .i32⟩
  | 32 => ⟨S131072x1, .i32⟩
  | 33 => ⟨S131072x2, .i32⟩
  | 34 => ⟨S_, .f32⟩
  | 35 => ⟨S131072, .f32⟩
  | 36 => ⟨S4096x4096, .f32⟩
  | 37 => ⟨S_, .i32⟩
  | 38 => ⟨S131072, .i32⟩
  | 39 => ⟨S131072, .i1⟩
  | 40 => ⟨S_, .i32⟩
  | 41 => ⟨S131072, .i32⟩
  | 42 => ⟨S131072, .i32⟩
  | 43 => ⟨S131072, .i32⟩
  | 44 => ⟨S_, .i32⟩
  | 45 => ⟨S131072, .i32⟩
  | 46 => ⟨S131072, .i1⟩
  | 47 => ⟨S_, .i32⟩
  | 48 => ⟨S131072, .i32⟩
  | 49 => ⟨S131072, .i32⟩
  | 50 => ⟨S131072, .i32⟩
  | 51 => ⟨S131072x1, .i32⟩
  | 52 => ⟨S131072x1, .i32⟩
  | 53 => ⟨S131072x2, .i32⟩
  | 54 => ⟨S_, .f32⟩
  | 55 => ⟨S131072, .f32⟩
  | 56 => ⟨S4096x4096, .f32⟩
  | 57 => ⟨S_, .i32⟩
  | 58 => ⟨S131072, .i32⟩
  | 59 => ⟨S131072, .i1⟩
  | 60 => ⟨S_, .i32⟩
  | 61 => ⟨S131072, .i32⟩
  | 62 => ⟨S131072, .i32⟩
  | 63 => ⟨S131072, .i32⟩
  | 64 => ⟨S_, .i32⟩
  | 65 => ⟨S131072, .i32⟩
  | 66 => ⟨S131072, .i1⟩
  | 67 => ⟨S_, .i32⟩
  | 68 => ⟨S131072, .i32⟩
  | 69 => ⟨S131072, .i32⟩
  | 70 => ⟨S131072, .i32⟩
  | 71 => ⟨S131072x1, .i32⟩
  | 72 => ⟨S131072x1, .i32⟩
  | 73 => ⟨S131072x2, .i32⟩
  | 74 => ⟨S131072, .f32⟩
  | 75 => ⟨S131072x1, .f32⟩
  | 76 => ⟨S4096x64, .f32⟩
  | 77 => ⟨S_, .i32⟩
  | 78 => ⟨S131072, .i32⟩
  | 79 => ⟨S131072, .i1⟩
  | 80 => ⟨S_, .i32⟩
  | 81 => ⟨S131072, .i32⟩
  | 82 => ⟨S131072, .i32⟩
  | 83 => ⟨S131072, .i32⟩
  | 84 => ⟨S131072x1, .i32⟩
  | 85 => ⟨S1, .i32⟩
  | 86 => ⟨S_, .i32⟩
  | 87 => ⟨S131072x1, .i32⟩
  | 88 => ⟨S131072x1, .i1⟩
  | 89 => ⟨S1x1, .i32⟩
  | 90 => ⟨S131072x1, .i32⟩
  | 91 => ⟨S131072x1, .i1⟩
  | 92 => ⟨S131072x1, .i1⟩
  | 93 => ⟨S_, .i1⟩
  | 94 => ⟨S131072, .i1⟩
  | 95 => ⟨S131072x64, .f32⟩
  | 96 => ⟨S131072x64, .i1⟩
  | 97 => ⟨S_, .f32⟩
  | 98 => ⟨S131072x64, .f32⟩
  | 99 => ⟨S131072x64, .f32⟩
  | 100 => ⟨S131072x64, .f32⟩
  | 101 => ⟨S131072x64, .f32⟩
  | 102 => ⟨S_, .f32⟩
  | 103 => ⟨S4096x64, .f32⟩
  | 104 => ⟨S131072x1, .i32⟩
  | 105 => ⟨S4096x64, .f32⟩
  | 106 => ⟨S_, .f32⟩
  | 107 => ⟨S131072x1, .f32⟩
  | 108 => ⟨S_, .f32⟩
  | 109 => ⟨S4096x1, .f32⟩
  | 110 => ⟨S131072x1, .i32⟩
  | 111 => ⟨S4096x1, .f32⟩
  | 112 => ⟨S_, .f32⟩
  | 113 => ⟨S_, .f32⟩
  | 114 => ⟨S4096x1, .f32⟩
  | 115 => ⟨S4096x1, .f32⟩
  | 116 => ⟨S4096x64, .f32⟩
  | 117 => ⟨S4096x64, .f32⟩
  | 118 => ⟨S4096x64, .f32⟩
  | 119 => ⟨S_, .f32⟩
  | 120 => ⟨S4096x64, .f32⟩
  | 121 => ⟨S4096x64, .f32⟩
  | 122 => ⟨S4096x64, .f32⟩
  | 123 => ⟨S_, .i32⟩
  | 124 => ⟨S131072, .i32⟩
  | 125 => ⟨S131072, .i1⟩
  | 126 => ⟨S_, .i32⟩
  | 127 => ⟨S131072, .i32⟩
  | _ => ⟨S4096x128, .f32⟩

abbrev hbmTy0_3 (i : Nat) : BufTy := match i % 128 with
  | 0 => ⟨S131072, .i32⟩
  | 1 => ⟨S131072, .i32⟩
  | 2 => ⟨S131072x1, .i32⟩
  | 3 => ⟨S1, .i32⟩
  | 4 => ⟨S_, .i32⟩
  | 5 => ⟨S131072x1, .i32⟩
  | 6 => ⟨S131072x1, .i1⟩
  | 7 => ⟨S1x1, .i32⟩
  | 8 => ⟨S131072x1, .i32⟩
  | 9 => ⟨S131072x1, .i1⟩
  | 10 => ⟨S131072x1, .i1⟩
  | 11 => ⟨S_, .i1⟩
  | 12 => ⟨S131072, .i1⟩
  | 13 => ⟨S131072x64, .f32⟩
  | 14 => ⟨S131072x64, .i1⟩
  | 15 => ⟨S_, .f32⟩
  | 16 => ⟨S131072x64, .f32⟩
  | 17 => ⟨S131072x64, .f32⟩
  | 18 => ⟨S131072x64, .f32⟩
  | 19 => ⟨S131072x64, .f32⟩
  | 20 => ⟨S_, .f32⟩
  | 21 => ⟨S4096x64, .f32⟩
  | 22 => ⟨S131072x1, .i32⟩
  | 23 => ⟨S4096x64, .f32⟩
  | 24 => ⟨S_, .f32⟩
  | 25 => ⟨S131072x1, .f32⟩
  | 26 => ⟨S_, .f32⟩
  | 27 => ⟨S4096x1, .f32⟩
  | 28 => ⟨S131072x1, .i32⟩
  | 29 => ⟨S4096x1, .f32⟩
  | 30 => ⟨S_, .f32⟩
  | 31 => ⟨S_, .f32⟩
  | 32 => ⟨S4096x1, .f32⟩
  | 33 => ⟨S4096x1, .f32⟩
  | 34 => ⟨S4096x64, .f32⟩
  | 35 => ⟨S4096x64, .f32⟩
  | 36 => ⟨S4096x64, .f32⟩
  | 37 => ⟨S_, .f32⟩
  | 38 => ⟨S4096x64, .f32⟩
  | 39 => ⟨S4096x64, .f32⟩
  | 40 => ⟨S_, .f32⟩
  | 41 => ⟨S64, .f32⟩
  | 42 => ⟨S1x64, .f32⟩
  | 43 => ⟨S_, .f32⟩
  | 44 => ⟨S1x64, .f32⟩
  | 45 => ⟨S1x64, .f32⟩
  | 46 => ⟨S1x2, .f32⟩
  | 47 => ⟨S_, .f32⟩
  | 48 => ⟨S_, .f32⟩
  | 49 => ⟨S_, .f32⟩
  | 50 => ⟨S_, .f32⟩
  | 51 => ⟨S_, .f32⟩
  | 52 => ⟨S_, .f32⟩
  | 53 => ⟨S_, .f32⟩
  | 54 => ⟨S1, .f32⟩
  | 55 => ⟨S_, .f32⟩
  | 56 => ⟨S1, .f32⟩
  | 57 => ⟨S1, .f32⟩
  | 58 => ⟨S1x1, .f32⟩
  | 59 => ⟨S1x2, .f32⟩
  | 60 => ⟨S1x2, .f32⟩
  | 61 => ⟨S1x2, .f32⟩
  | 62 => ⟨S_, .f32⟩
  | 63 => ⟨S1, .f32⟩
  | 64 => ⟨S1x1, .f32⟩
  | 65 => ⟨S1x1, .f32⟩
  | 66 => ⟨S1x2, .f32⟩
  | 67 => ⟨S1x2, .f32⟩
  | 68 => ⟨S_, .f32⟩
  | 69 => ⟨S1, .f32⟩
  | 70 => ⟨S_, .f32⟩
  | 71 => ⟨S1, .f32⟩
  | 72 => ⟨S1, .f32⟩
  | 73 => ⟨S1x1, .f32⟩
  | 74 => ⟨S1x2, .f32⟩
  | 75 => ⟨S1x2, .f32⟩
  | 76 => ⟨S1x2, .f32⟩
  | 77 => ⟨S_, .f32⟩
  | 78 => ⟨S1, .f32⟩
  | 79 => ⟨S1x1, .f32⟩
  | 80 => ⟨S1x2, .f32⟩
  | 81 => ⟨S1x2, .f32⟩
  | 82 => ⟨S_, .f32⟩
  | 83 => ⟨S1x2, .f32⟩
  | 84 => ⟨S1x2, .f32⟩
  | 85 => ⟨S1x2, .f32⟩
  | 86 => ⟨S1x2, .f32⟩
  | 87 => ⟨S1x2, .f32⟩
  | 88 => ⟨S_, .f32⟩
  | 89 => ⟨S_, .f32⟩
  | 90 => ⟨S_, .f32⟩
  | 91 => ⟨S_, .f32⟩
  | 92 => ⟨S_, .f32⟩
  | 93 => ⟨S_, .f32⟩
  | 94 => ⟨S_, .f32⟩
  | 95 => ⟨S4096x4096, .f32⟩
  | 96 => ⟨S4096x4096, .f32⟩
  | 97 => ⟨S4096x4096, .f32⟩
  | 98 => ⟨S4096x4096, .f32⟩
  | 99 => ⟨S_, .f32⟩
  | 100 => ⟨S4096x4096, .f32⟩
  | 101 => ⟨S4096x4096, .f32⟩
  | 102 => ⟨S_, .f32⟩
  | 103 => ⟨S4096x4096, .f32⟩
  | 104 => ⟨S4096x4096, .f32⟩
  | 105 => ⟨S_, .f32⟩
  | 106 => ⟨S4096x4096, .f32⟩
  | 107 => ⟨S4096x4096, .f32⟩
  | 108 => ⟨S4096x4096, .f32⟩
  | 109 => ⟨S4096x4096, .f32⟩
  | 110 => ⟨S4096x4096, .f32⟩
  | 111 => ⟨S_, .f32⟩
  | 112 => ⟨S_, .f32⟩
  | 113 => ⟨S_, .f32⟩
  | 114 => ⟨S_, .f32⟩
  | 115 => ⟨S_, .f32⟩
  | 116 => ⟨S_, .f32⟩
  | 117 => ⟨S4096x16, .f32⟩
  | 118 => ⟨S4096x16, .f32⟩
  | 119 => ⟨S4096x16, .f32⟩
  | 120 => ⟨S4096x16, .f32⟩
  | 121 => ⟨S4096x16, .f32⟩
  | 122 => ⟨S4096x16, .f32⟩
  | 123 => ⟨S_, .f32⟩
  | 124 => ⟨S_, .f32⟩
  | 125 => ⟨S_, .f32⟩
  | 126 => ⟨S_, .f32⟩
  | 127 => ⟨S_, .f32⟩
  | _ => ⟨S4096x128, .f32⟩

abbrev hbmTy0_4 (i : Nat) : BufTy := match i % 128 with
  | 0 => ⟨S_, .f32⟩
  | 1 => ⟨S_, .f32⟩
  | 2 => ⟨S_, .f32⟩
  | 3 => ⟨S_, .f32⟩
  | 4 => ⟨S131072, .f32⟩
  | _ => ⟨S4096x128, .f32⟩

abbrev hbmTy (i : Nat) : BufTy := match i / 128 with
  | 0 => hbmTy0_0 i
  | 1 => hbmTy0_1 i
  | 2 => hbmTy0_2 i
  | 3 => hbmTy0_3 i
  | 4 => hbmTy0_4 i
  | _ => ⟨S4096x128, .f32⟩

abbrev bufTy : (tb : Table) → Fin (tcTables nBuf tb) → BufTy
  | .hbm, ⟨i, _⟩ => hbmTy i
  | _, _ => ⟨S4096x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_v0 : Ref sig .tc := ⟨.hbm, 9, rfl⟩
abbrev main_v1 : Ref sig .tc := ⟨.hbm, 10, rfl⟩
abbrev main_v2 : Ref sig .tc := ⟨.hbm, 11, rfl⟩
abbrev main_v3 : Ref sig .tc := ⟨.hbm, 12, rfl⟩
abbrev main_v4 : Ref sig .tc := ⟨.hbm, 13, rfl⟩
abbrev main_call0_c : Ref sig .tc := ⟨.hbm, 14, rfl⟩
abbrev main_call0_v0 : Ref sig .tc := ⟨.hbm, 15, rfl⟩
abbrev main_call0_v1 : Ref sig .tc := ⟨.hbm, 16, rfl⟩
abbrev main_call0_c_0 : Ref sig .tc := ⟨.hbm, 17, rfl⟩
abbrev main_call0_v2 : Ref sig .tc := ⟨.hbm, 18, rfl⟩
abbrev main_call0_v3 : Ref sig .tc := ⟨.hbm, 19, rfl⟩
abbrev main_call0_v4 : Ref sig .tc := ⟨.hbm, 20, rfl⟩
abbrev main_call0_v5 : Ref sig .tc := ⟨.hbm, 21, rfl⟩
abbrev main_call0_c_1 : Ref sig .tc := ⟨.hbm, 22, rfl⟩
abbrev main_call0_c_2 : Ref sig .tc := ⟨.hbm, 23, rfl⟩
abbrev main_call0_v6 : Ref sig .tc := ⟨.hbm, 24, rfl⟩
abbrev main_call0_v7 : Ref sig .tc := ⟨.hbm, 25, rfl⟩
abbrev main_call0_v8 : Ref sig .tc := ⟨.hbm, 26, rfl⟩
abbrev main_call0_v9 : Ref sig .tc := ⟨.hbm, 27, rfl⟩
abbrev main_call0_v10 : Ref sig .tc := ⟨.hbm, 28, rfl⟩
abbrev main_call0_v11 : Ref sig .tc := ⟨.hbm, 29, rfl⟩
abbrev main_call0_c_3 : Ref sig .tc := ⟨.hbm, 30, rfl⟩
abbrev main_call0_v12 : Ref sig .tc := ⟨.hbm, 31, rfl⟩
abbrev main_call0_v13 : Ref sig .tc := ⟨.hbm, 32, rfl⟩
abbrev main_call0_v14 : Ref sig .tc := ⟨.hbm, 33, rfl⟩
abbrev main_call0_cst : Ref sig .tc := ⟨.hbm, 34, rfl⟩
abbrev main_call0_v15 : Ref sig .tc := ⟨.hbm, 35, rfl⟩
abbrev main_v5 : Ref sig .tc := ⟨.hbm, 36, rfl⟩
abbrev main_cst : Ref sig .tc := ⟨.hbm, 37, rfl⟩
abbrev main_v6 : Ref sig .tc := ⟨.hbm, 38, rfl⟩
abbrev main_v7 : Ref sig .tc := ⟨.hbm, 39, rfl⟩
abbrev main_v8 : Ref sig .tc := ⟨.hbm, 40, rfl⟩
abbrev main_cst_0 : Ref sig .tc := ⟨.hbm, 41, rfl⟩
abbrev main_v9 : Ref sig .tc := ⟨.hbm, 42, rfl⟩
abbrev main_cst_1 : Ref sig .tc := ⟨.hbm, 43, rfl⟩
abbrev main_v10 : Ref sig .tc := ⟨.hbm, 44, rfl⟩
abbrev main_v11 : Ref sig .tc := ⟨.hbm, 45, rfl⟩
abbrev main_v12 : Ref sig .tc := ⟨.hbm, 46, rfl⟩
abbrev main_cst_2 : Ref sig .tc := ⟨.hbm, 47, rfl⟩
abbrev main_call1_v0 : Ref sig .tc := ⟨.hbm, 48, rfl⟩
abbrev main_call1_v1 : Ref sig .tc := ⟨.hbm, 49, rfl⟩
abbrev main_v13 : Ref sig .tc := ⟨.hbm, 50, rfl⟩
abbrev main_v14 : Ref sig .tc := ⟨.hbm, 51, rfl⟩
abbrev main_v15 : Ref sig .tc := ⟨.hbm, 52, rfl⟩
abbrev main_v16 : Ref sig .tc := ⟨.hbm, 53, rfl⟩
abbrev main_call2_cst : Ref sig .tc := ⟨.hbm, 54, rfl⟩
abbrev main_call2_v0 : Ref sig .tc := ⟨.hbm, 55, rfl⟩
abbrev main_v17 : Ref sig .tc := ⟨.hbm, 56, rfl⟩
abbrev main_v18 : Ref sig .tc := ⟨.hbm, 57, rfl⟩
abbrev main_call3_c : Ref sig .tc := ⟨.hbm, 58, rfl⟩
abbrev main_call3_v0 : Ref sig .tc := ⟨.hbm, 59, rfl⟩
abbrev main_call3_v1 : Ref sig .tc := ⟨.hbm, 60, rfl⟩
abbrev main_call3_c_0 : Ref sig .tc := ⟨.hbm, 61, rfl⟩
abbrev main_call3_v2 : Ref sig .tc := ⟨.hbm, 62, rfl⟩
abbrev main_call3_v3 : Ref sig .tc := ⟨.hbm, 63, rfl⟩
abbrev main_call3_v4 : Ref sig .tc := ⟨.hbm, 64, rfl⟩
abbrev main_call3_v5 : Ref sig .tc := ⟨.hbm, 65, rfl⟩
abbrev main_call3_c_1 : Ref sig .tc := ⟨.hbm, 66, rfl⟩
abbrev main_call3_c_2 : Ref sig .tc := ⟨.hbm, 67, rfl⟩
abbrev main_call3_v6 : Ref sig .tc := ⟨.hbm, 68, rfl⟩
abbrev main_call3_v7 : Ref sig .tc := ⟨.hbm, 69, rfl⟩
abbrev main_call3_v8 : Ref sig .tc := ⟨.hbm, 70, rfl⟩
abbrev main_call3_v9 : Ref sig .tc := ⟨.hbm, 71, rfl⟩
abbrev main_call3_v10 : Ref sig .tc := ⟨.hbm, 72, rfl⟩
abbrev main_call3_v11 : Ref sig .tc := ⟨.hbm, 73, rfl⟩
abbrev main_call3_c_3 : Ref sig .tc := ⟨.hbm, 74, rfl⟩
abbrev main_call3_v12 : Ref sig .tc := ⟨.hbm, 75, rfl⟩
abbrev main_call3_v13 : Ref sig .tc := ⟨.hbm, 76, rfl⟩
abbrev main_call3_v14 : Ref sig .tc := ⟨.hbm, 77, rfl⟩
abbrev main_call3_cst : Ref sig .tc := ⟨.hbm, 78, rfl⟩
abbrev main_call3_v15 : Ref sig .tc := ⟨.hbm, 79, rfl⟩
abbrev main_v19 : Ref sig .tc := ⟨.hbm, 80, rfl⟩
abbrev main_cst_3 : Ref sig .tc := ⟨.hbm, 81, rfl⟩
abbrev main_v20 : Ref sig .tc := ⟨.hbm, 82, rfl⟩
abbrev main_v21 : Ref sig .tc := ⟨.hbm, 83, rfl⟩
abbrev main_v22 : Ref sig .tc := ⟨.hbm, 84, rfl⟩
abbrev main_cst_4 : Ref sig .tc := ⟨.hbm, 85, rfl⟩
abbrev main_v23 : Ref sig .tc := ⟨.hbm, 86, rfl⟩
abbrev main_cst_5 : Ref sig .tc := ⟨.hbm, 87, rfl⟩
abbrev main_v24 : Ref sig .tc := ⟨.hbm, 88, rfl⟩
abbrev main_v25 : Ref sig .tc := ⟨.hbm, 89, rfl⟩
abbrev main_v26 : Ref sig .tc := ⟨.hbm, 90, rfl⟩
abbrev main_cst_6 : Ref sig .tc := ⟨.hbm, 91, rfl⟩
abbrev main_call4_v0 : Ref sig .tc := ⟨.hbm, 92, rfl⟩
abbrev main_call4_v1 : Ref sig .tc := ⟨.hbm, 93, rfl⟩
abbrev main_v27 : Ref sig .tc := ⟨.hbm, 94, rfl⟩
abbrev main_v28 : Ref sig .tc := ⟨.hbm, 95, rfl⟩
abbrev main_v29 : Ref sig .tc := ⟨.hbm, 96, rfl⟩
abbrev main_v30 : Ref sig .tc := ⟨.hbm, 97, rfl⟩
abbrev main_call5_cst : Ref sig .tc := ⟨.hbm, 98, rfl⟩
abbrev main_call5_v0 : Ref sig .tc := ⟨.hbm, 99, rfl⟩
abbrev main_v31 : Ref sig .tc := ⟨.hbm, 100, rfl⟩
abbrev main_cst_7 : Ref sig .tc := ⟨.hbm, 101, rfl⟩
abbrev main_v32 : Ref sig .tc := ⟨.hbm, 102, rfl⟩
abbrev main_v33 : Ref sig .tc := ⟨.hbm, 103, rfl⟩
abbrev main_cst_8 : Ref sig .tc := ⟨.hbm, 104, rfl⟩
abbrev main_v34 : Ref sig .tc := ⟨.hbm, 105, rfl⟩
abbrev main_v35 : Ref sig .tc := ⟨.hbm, 106, rfl⟩
abbrev main_v36 : Ref sig .tc := ⟨.hbm, 107, rfl⟩
abbrev main_v37 : Ref sig .tc := ⟨.hbm, 108, rfl⟩
abbrev main_call6_c : Ref sig .tc := ⟨.hbm, 109, rfl⟩
abbrev main_call6_v0 : Ref sig .tc := ⟨.hbm, 110, rfl⟩
abbrev main_call6_v1 : Ref sig .tc := ⟨.hbm, 111, rfl⟩
abbrev main_call6_c_0 : Ref sig .tc := ⟨.hbm, 112, rfl⟩
abbrev main_call6_v2 : Ref sig .tc := ⟨.hbm, 113, rfl⟩
abbrev main_call6_v3 : Ref sig .tc := ⟨.hbm, 114, rfl⟩
abbrev main_call6_v4 : Ref sig .tc := ⟨.hbm, 115, rfl⟩
abbrev main_call6_v5 : Ref sig .tc := ⟨.hbm, 116, rfl⟩
abbrev main_call6_c_1 : Ref sig .tc := ⟨.hbm, 117, rfl⟩
abbrev main_call6_c_2 : Ref sig .tc := ⟨.hbm, 118, rfl⟩
abbrev main_call6_v6 : Ref sig .tc := ⟨.hbm, 119, rfl⟩
abbrev main_call6_v7 : Ref sig .tc := ⟨.hbm, 120, rfl⟩
abbrev main_call6_v8 : Ref sig .tc := ⟨.hbm, 121, rfl⟩
abbrev main_call6_v9 : Ref sig .tc := ⟨.hbm, 122, rfl⟩
abbrev main_call6_v10 : Ref sig .tc := ⟨.hbm, 123, rfl⟩
abbrev main_call6_v11 : Ref sig .tc := ⟨.hbm, 124, rfl⟩
abbrev main_call6_c_3 : Ref sig .tc := ⟨.hbm, 125, rfl⟩
abbrev main_call6_v12 : Ref sig .tc := ⟨.hbm, 126, rfl⟩
abbrev main_call6_v13 : Ref sig .tc := ⟨.hbm, 127, rfl⟩
abbrev main_call6_v14 : Ref sig .tc := ⟨.hbm, 128, rfl⟩
abbrev main_call6_cst : Ref sig .tc := ⟨.hbm, 129, rfl⟩
abbrev main_call6_v15 : Ref sig .tc := ⟨.hbm, 130, rfl⟩
abbrev main_v38 : Ref sig .tc := ⟨.hbm, 131, rfl⟩
abbrev main_cst_9 : Ref sig .tc := ⟨.hbm, 132, rfl⟩
abbrev main_v39 : Ref sig .tc := ⟨.hbm, 133, rfl⟩
abbrev main_v40 : Ref sig .tc := ⟨.hbm, 134, rfl⟩
abbrev main_v41 : Ref sig .tc := ⟨.hbm, 135, rfl⟩
abbrev main_cst_10 : Ref sig .tc := ⟨.hbm, 136, rfl⟩
abbrev main_v42 : Ref sig .tc := ⟨.hbm, 137, rfl⟩
abbrev main_cst_11 : Ref sig .tc := ⟨.hbm, 138, rfl⟩
abbrev main_v43 : Ref sig .tc := ⟨.hbm, 139, rfl⟩
abbrev main_v44 : Ref sig .tc := ⟨.hbm, 140, rfl⟩
abbrev main_v45 : Ref sig .tc := ⟨.hbm, 141, rfl⟩
abbrev main_cst_12 : Ref sig .tc := ⟨.hbm, 142, rfl⟩
abbrev main_call7_v0 : Ref sig .tc := ⟨.hbm, 143, rfl⟩
abbrev main_call7_v1 : Ref sig .tc := ⟨.hbm, 144, rfl⟩
abbrev main_v46 : Ref sig .tc := ⟨.hbm, 145, rfl⟩
abbrev main_v47 : Ref sig .tc := ⟨.hbm, 146, rfl⟩
abbrev main_v48 : Ref sig .tc := ⟨.hbm, 147, rfl⟩
abbrev main_v49 : Ref sig .tc := ⟨.hbm, 148, rfl⟩
abbrev main_call8_cst : Ref sig .tc := ⟨.hbm, 149, rfl⟩
abbrev main_call8_v0 : Ref sig .tc := ⟨.hbm, 150, rfl⟩
abbrev main_v50 : Ref sig .tc := ⟨.hbm, 151, rfl⟩
abbrev main_v51 : Ref sig .tc := ⟨.hbm, 152, rfl⟩
abbrev main_call9_c : Ref sig .tc := ⟨.hbm, 153, rfl⟩
abbrev main_call9_v0 : Ref sig .tc := ⟨.hbm, 154, rfl⟩
abbrev main_call9_v1 : Ref sig .tc := ⟨.hbm, 155, rfl⟩
abbrev main_call9_c_0 : Ref sig .tc := ⟨.hbm, 156, rfl⟩
abbrev main_call9_v2 : Ref sig .tc := ⟨.hbm, 157, rfl⟩
abbrev main_call9_v3 : Ref sig .tc := ⟨.hbm, 158, rfl⟩
abbrev main_call9_v4 : Ref sig .tc := ⟨.hbm, 159, rfl⟩
abbrev main_call9_v5 : Ref sig .tc := ⟨.hbm, 160, rfl⟩
abbrev main_call9_c_1 : Ref sig .tc := ⟨.hbm, 161, rfl⟩
abbrev main_call9_c_2 : Ref sig .tc := ⟨.hbm, 162, rfl⟩
abbrev main_call9_v6 : Ref sig .tc := ⟨.hbm, 163, rfl⟩
abbrev main_call9_v7 : Ref sig .tc := ⟨.hbm, 164, rfl⟩
abbrev main_call9_v8 : Ref sig .tc := ⟨.hbm, 165, rfl⟩
abbrev main_call9_v9 : Ref sig .tc := ⟨.hbm, 166, rfl⟩
abbrev main_call9_v10 : Ref sig .tc := ⟨.hbm, 167, rfl⟩
abbrev main_call9_v11 : Ref sig .tc := ⟨.hbm, 168, rfl⟩
abbrev main_call9_c_3 : Ref sig .tc := ⟨.hbm, 169, rfl⟩
abbrev main_call9_v12 : Ref sig .tc := ⟨.hbm, 170, rfl⟩
abbrev main_call9_v13 : Ref sig .tc := ⟨.hbm, 171, rfl⟩
abbrev main_call9_v14 : Ref sig .tc := ⟨.hbm, 172, rfl⟩
abbrev main_call9_cst : Ref sig .tc := ⟨.hbm, 173, rfl⟩
abbrev main_call9_v15 : Ref sig .tc := ⟨.hbm, 174, rfl⟩
abbrev main_v52 : Ref sig .tc := ⟨.hbm, 175, rfl⟩
abbrev main_cst_13 : Ref sig .tc := ⟨.hbm, 176, rfl⟩
abbrev main_v53 : Ref sig .tc := ⟨.hbm, 177, rfl⟩
abbrev main_v54 : Ref sig .tc := ⟨.hbm, 178, rfl⟩
abbrev main_v55 : Ref sig .tc := ⟨.hbm, 179, rfl⟩
abbrev main_cst_14 : Ref sig .tc := ⟨.hbm, 180, rfl⟩
abbrev main_v56 : Ref sig .tc := ⟨.hbm, 181, rfl⟩
abbrev main_cst_15 : Ref sig .tc := ⟨.hbm, 182, rfl⟩
abbrev main_v57 : Ref sig .tc := ⟨.hbm, 183, rfl⟩
abbrev main_v58 : Ref sig .tc := ⟨.hbm, 184, rfl⟩
abbrev main_v59 : Ref sig .tc := ⟨.hbm, 185, rfl⟩
abbrev main_cst_16 : Ref sig .tc := ⟨.hbm, 186, rfl⟩
abbrev main_call10_v0 : Ref sig .tc := ⟨.hbm, 187, rfl⟩
abbrev main_call10_v1 : Ref sig .tc := ⟨.hbm, 188, rfl⟩
abbrev main_v60 : Ref sig .tc := ⟨.hbm, 189, rfl⟩
abbrev main_v61 : Ref sig .tc := ⟨.hbm, 190, rfl⟩
abbrev main_v62 : Ref sig .tc := ⟨.hbm, 191, rfl⟩
abbrev main_v63 : Ref sig .tc := ⟨.hbm, 192, rfl⟩
abbrev main_v64 : Ref sig .tc := ⟨.hbm, 193, rfl⟩
abbrev main_call11_c : Ref sig .tc := ⟨.hbm, 194, rfl⟩
abbrev main_call11_v0 : Ref sig .tc := ⟨.hbm, 195, rfl⟩
abbrev main_call11_v1 : Ref sig .tc := ⟨.hbm, 196, rfl⟩
abbrev main_call11_c_0 : Ref sig .tc := ⟨.hbm, 197, rfl⟩
abbrev main_call11_v2 : Ref sig .tc := ⟨.hbm, 198, rfl⟩
abbrev main_call11_v3 : Ref sig .tc := ⟨.hbm, 199, rfl⟩
abbrev main_call11_v4 : Ref sig .tc := ⟨.hbm, 200, rfl⟩
abbrev main_call11_v5 : Ref sig .tc := ⟨.hbm, 201, rfl⟩
abbrev main_call11_c_1 : Ref sig .tc := ⟨.hbm, 202, rfl⟩
abbrev main_call11_c_2 : Ref sig .tc := ⟨.hbm, 203, rfl⟩
abbrev main_call11_v6 : Ref sig .tc := ⟨.hbm, 204, rfl⟩
abbrev main_call11_v7 : Ref sig .tc := ⟨.hbm, 205, rfl⟩
abbrev main_call11_v8 : Ref sig .tc := ⟨.hbm, 206, rfl⟩
abbrev main_call11_v9 : Ref sig .tc := ⟨.hbm, 207, rfl⟩
abbrev main_call11_v10 : Ref sig .tc := ⟨.hbm, 208, rfl⟩
abbrev main_call11_v11 : Ref sig .tc := ⟨.hbm, 209, rfl⟩
abbrev main_call11_c_3 : Ref sig .tc := ⟨.hbm, 210, rfl⟩
abbrev main_call11_v12 : Ref sig .tc := ⟨.hbm, 211, rfl⟩
abbrev main_call11_v13 : Ref sig .tc := ⟨.hbm, 212, rfl⟩
abbrev main_call11_v14 : Ref sig .tc := ⟨.hbm, 213, rfl⟩
abbrev main_call11_cst : Ref sig .tc := ⟨.hbm, 214, rfl⟩
abbrev main_call11_v15 : Ref sig .tc := ⟨.hbm, 215, rfl⟩
abbrev main_v65 : Ref sig .tc := ⟨.hbm, 216, rfl⟩
abbrev main_cst_17 : Ref sig .tc := ⟨.hbm, 217, rfl⟩
abbrev main_v66 : Ref sig .tc := ⟨.hbm, 218, rfl⟩
abbrev main_v67 : Ref sig .tc := ⟨.hbm, 219, rfl⟩
abbrev main_v68 : Ref sig .tc := ⟨.hbm, 220, rfl⟩
abbrev main_cst_18 : Ref sig .tc := ⟨.hbm, 221, rfl⟩
abbrev main_v69 : Ref sig .tc := ⟨.hbm, 222, rfl⟩
abbrev main_cst_19 : Ref sig .tc := ⟨.hbm, 223, rfl⟩
abbrev main_v70 : Ref sig .tc := ⟨.hbm, 224, rfl⟩
abbrev main_v71 : Ref sig .tc := ⟨.hbm, 225, rfl⟩
abbrev main_v72 : Ref sig .tc := ⟨.hbm, 226, rfl⟩
abbrev main_cst_20 : Ref sig .tc := ⟨.hbm, 227, rfl⟩
abbrev main_call12_v0 : Ref sig .tc := ⟨.hbm, 228, rfl⟩
abbrev main_call12_v1 : Ref sig .tc := ⟨.hbm, 229, rfl⟩
abbrev main_v73 : Ref sig .tc := ⟨.hbm, 230, rfl⟩
abbrev main_v74 : Ref sig .tc := ⟨.hbm, 231, rfl⟩
abbrev main_v75 : Ref sig .tc := ⟨.hbm, 232, rfl⟩
abbrev main_v76 : Ref sig .tc := ⟨.hbm, 233, rfl⟩
abbrev main_cst_21 : Ref sig .tc := ⟨.hbm, 234, rfl⟩
abbrev main_v77 : Ref sig .tc := ⟨.hbm, 235, rfl⟩
abbrev main_v78 : Ref sig .tc := ⟨.hbm, 236, rfl⟩
abbrev main_v79 : Ref sig .tc := ⟨.hbm, 237, rfl⟩
abbrev main_v80 : Ref sig .tc := ⟨.hbm, 238, rfl⟩
abbrev main_v81 : Ref sig .tc := ⟨.hbm, 239, rfl⟩
abbrev main_cst_22 : Ref sig .tc := ⟨.hbm, 240, rfl⟩
abbrev main_v82 : Ref sig .tc := ⟨.hbm, 241, rfl⟩
abbrev main_v83 : Ref sig .tc := ⟨.hbm, 242, rfl⟩
abbrev main_c : Ref sig .tc := ⟨.hbm, 243, rfl⟩
abbrev main_v84 : Ref sig .tc := ⟨.hbm, 244, rfl⟩
abbrev main_v85 : Ref sig .tc := ⟨.hbm, 245, rfl⟩
abbrev main_v86 : Ref sig .tc := ⟨.hbm, 246, rfl⟩
abbrev main_v87 : Ref sig .tc := ⟨.hbm, 247, rfl⟩
abbrev main_v88 : Ref sig .tc := ⟨.hbm, 248, rfl⟩
abbrev main_v89 : Ref sig .tc := ⟨.hbm, 249, rfl⟩
abbrev main_cst_23 : Ref sig .tc := ⟨.hbm, 250, rfl⟩
abbrev main_v90 : Ref sig .tc := ⟨.hbm, 251, rfl⟩
abbrev main_v91 : Ref sig .tc := ⟨.hbm, 252, rfl⟩
abbrev main_cst_24 : Ref sig .tc := ⟨.hbm, 253, rfl⟩
abbrev main_v92 : Ref sig .tc := ⟨.hbm, 254, rfl⟩
abbrev main_v93 : Ref sig .tc := ⟨.hbm, 255, rfl⟩
abbrev main_v94 : Ref sig .tc := ⟨.hbm, 256, rfl⟩
abbrev main_v95 : Ref sig .tc := ⟨.hbm, 257, rfl⟩
abbrev main_v96 : Ref sig .tc := ⟨.hbm, 258, rfl⟩
abbrev main_v97 : Ref sig .tc := ⟨.hbm, 259, rfl⟩
abbrev main_cst_25 : Ref sig .tc := ⟨.hbm, 260, rfl⟩
abbrev main_v98 : Ref sig .tc := ⟨.hbm, 261, rfl⟩
abbrev main_v99 : Ref sig .tc := ⟨.hbm, 262, rfl⟩
abbrev main_cst_26 : Ref sig .tc := ⟨.hbm, 263, rfl⟩
abbrev main_v100 : Ref sig .tc := ⟨.hbm, 264, rfl⟩
abbrev main_v101 : Ref sig .tc := ⟨.hbm, 265, rfl⟩
abbrev main_v102 : Ref sig .tc := ⟨.hbm, 266, rfl⟩
abbrev main_v103 : Ref sig .tc := ⟨.hbm, 267, rfl⟩
abbrev main_c_27 : Ref sig .tc := ⟨.hbm, 268, rfl⟩
abbrev main_v104 : Ref sig .tc := ⟨.hbm, 269, rfl⟩
abbrev main_v105 : Ref sig .tc := ⟨.hbm, 270, rfl⟩
abbrev main_v106 : Ref sig .tc := ⟨.hbm, 271, rfl⟩
abbrev main_v107 : Ref sig .tc := ⟨.hbm, 272, rfl⟩
abbrev main_c_28 : Ref sig .tc := ⟨.hbm, 273, rfl⟩
abbrev main_v108 : Ref sig .tc := ⟨.hbm, 274, rfl⟩
abbrev main_v109 : Ref sig .tc := ⟨.hbm, 275, rfl⟩
abbrev main_c_29 : Ref sig .tc := ⟨.hbm, 276, rfl⟩
abbrev main_v110 : Ref sig .tc := ⟨.hbm, 277, rfl⟩
abbrev main_v111 : Ref sig .tc := ⟨.hbm, 278, rfl⟩
abbrev main_v112 : Ref sig .tc := ⟨.hbm, 279, rfl⟩
abbrev main_c_30 : Ref sig .tc := ⟨.hbm, 280, rfl⟩
abbrev main_v113 : Ref sig .tc := ⟨.hbm, 281, rfl⟩
abbrev main_v114 : Ref sig .tc := ⟨.hbm, 282, rfl⟩
abbrev main_c_31 : Ref sig .tc := ⟨.hbm, 283, rfl⟩
abbrev main_v115 : Ref sig .tc := ⟨.hbm, 284, rfl⟩
abbrev main_v116 : Ref sig .tc := ⟨.hbm, 285, rfl⟩
abbrev main_v117 : Ref sig .tc := ⟨.hbm, 286, rfl⟩
abbrev main_v118 : Ref sig .tc := ⟨.hbm, 287, rfl⟩
abbrev main_v119 : Ref sig .tc := ⟨.hbm, 288, rfl⟩
abbrev main_v120 : Ref sig .tc := ⟨.hbm, 289, rfl⟩
abbrev main_cst_32 : Ref sig .tc := ⟨.hbm, 290, rfl⟩
abbrev main_v121 : Ref sig .tc := ⟨.hbm, 291, rfl⟩
abbrev main_v122 : Ref sig .tc := ⟨.hbm, 292, rfl⟩
abbrev main_c_33 : Ref sig .tc := ⟨.hbm, 293, rfl⟩
abbrev main_v123 : Ref sig .tc := ⟨.hbm, 294, rfl⟩
abbrev main_v124 : Ref sig .tc := ⟨.hbm, 295, rfl⟩
abbrev main_c_34 : Ref sig .tc := ⟨.hbm, 296, rfl⟩
abbrev main_v125 : Ref sig .tc := ⟨.hbm, 297, rfl⟩
abbrev main_v126 : Ref sig .tc := ⟨.hbm, 298, rfl⟩
abbrev main_v127 : Ref sig .tc := ⟨.hbm, 299, rfl⟩
abbrev main_c_35 : Ref sig .tc := ⟨.hbm, 300, rfl⟩
abbrev main_v128 : Ref sig .tc := ⟨.hbm, 301, rfl⟩
abbrev main_v129 : Ref sig .tc := ⟨.hbm, 302, rfl⟩
abbrev main_c_36 : Ref sig .tc := ⟨.hbm, 303, rfl⟩
abbrev main_v130 : Ref sig .tc := ⟨.hbm, 304, rfl⟩
abbrev main_v131 : Ref sig .tc := ⟨.hbm, 305, rfl⟩
abbrev main_v132 : Ref sig .tc := ⟨.hbm, 306, rfl⟩
abbrev main_v133 : Ref sig .tc := ⟨.hbm, 307, rfl⟩
abbrev main_v134 : Ref sig .tc := ⟨.hbm, 308, rfl⟩
abbrev main_v135 : Ref sig .tc := ⟨.hbm, 309, rfl⟩
abbrev main_cst_37 : Ref sig .tc := ⟨.hbm, 310, rfl⟩
abbrev main_v136 : Ref sig .tc := ⟨.hbm, 311, rfl⟩
abbrev main_v137 : Ref sig .tc := ⟨.hbm, 312, rfl⟩
abbrev main_c_38 : Ref sig .tc := ⟨.hbm, 313, rfl⟩
abbrev main_v138 : Ref sig .tc := ⟨.hbm, 314, rfl⟩
abbrev main_v139 : Ref sig .tc := ⟨.hbm, 315, rfl⟩
abbrev main_c_39 : Ref sig .tc := ⟨.hbm, 316, rfl⟩
abbrev main_v140 : Ref sig .tc := ⟨.hbm, 317, rfl⟩
abbrev main_v141 : Ref sig .tc := ⟨.hbm, 318, rfl⟩
abbrev main_v142 : Ref sig .tc := ⟨.hbm, 319, rfl⟩
abbrev main_c_40 : Ref sig .tc := ⟨.hbm, 320, rfl⟩
abbrev main_v143 : Ref sig .tc := ⟨.hbm, 321, rfl⟩
abbrev main_v144 : Ref sig .tc := ⟨.hbm, 322, rfl⟩
abbrev main_c_41 : Ref sig .tc := ⟨.hbm, 323, rfl⟩
abbrev main_v145 : Ref sig .tc := ⟨.hbm, 324, rfl⟩
abbrev main_v146 : Ref sig .tc := ⟨.hbm, 325, rfl⟩
abbrev main_v147 : Ref sig .tc := ⟨.hbm, 326, rfl⟩
abbrev main_v148 : Ref sig .tc := ⟨.hbm, 327, rfl⟩
abbrev main_v149 : Ref sig .tc := ⟨.hbm, 328, rfl⟩
abbrev main_v150 : Ref sig .tc := ⟨.hbm, 329, rfl⟩
abbrev main_v151 : Ref sig .tc := ⟨.hbm, 330, rfl⟩
abbrev main_v152 : Ref sig .tc := ⟨.hbm, 331, rfl⟩
abbrev main_v153 : Ref sig .tc := ⟨.hbm, 332, rfl⟩
abbrev main_call13_c : Ref sig .tc := ⟨.hbm, 333, rfl⟩
abbrev main_call13_v0 : Ref sig .tc := ⟨.hbm, 334, rfl⟩
abbrev main_call13_v1 : Ref sig .tc := ⟨.hbm, 335, rfl⟩
abbrev main_call13_c_0 : Ref sig .tc := ⟨.hbm, 336, rfl⟩
abbrev main_call13_v2 : Ref sig .tc := ⟨.hbm, 337, rfl⟩
abbrev main_call13_v3 : Ref sig .tc := ⟨.hbm, 338, rfl⟩
abbrev main_call13_v4 : Ref sig .tc := ⟨.hbm, 339, rfl⟩
abbrev main_call13_v5 : Ref sig .tc := ⟨.hbm, 340, rfl⟩
abbrev main_call13_c_1 : Ref sig .tc := ⟨.hbm, 341, rfl⟩
abbrev main_call13_c_2 : Ref sig .tc := ⟨.hbm, 342, rfl⟩
abbrev main_call13_v6 : Ref sig .tc := ⟨.hbm, 343, rfl⟩
abbrev main_call13_v7 : Ref sig .tc := ⟨.hbm, 344, rfl⟩
abbrev main_call13_v8 : Ref sig .tc := ⟨.hbm, 345, rfl⟩
abbrev main_call13_v9 : Ref sig .tc := ⟨.hbm, 346, rfl⟩
abbrev main_call13_v10 : Ref sig .tc := ⟨.hbm, 347, rfl⟩
abbrev main_call13_v11 : Ref sig .tc := ⟨.hbm, 348, rfl⟩
abbrev main_call13_c_3 : Ref sig .tc := ⟨.hbm, 349, rfl⟩
abbrev main_call13_v12 : Ref sig .tc := ⟨.hbm, 350, rfl⟩
abbrev main_call13_v13 : Ref sig .tc := ⟨.hbm, 351, rfl⟩
abbrev main_call13_v14 : Ref sig .tc := ⟨.hbm, 352, rfl⟩
abbrev main_call13_cst : Ref sig .tc := ⟨.hbm, 353, rfl⟩
abbrev main_call13_v15 : Ref sig .tc := ⟨.hbm, 354, rfl⟩
abbrev main_v154 : Ref sig .tc := ⟨.hbm, 355, rfl⟩
abbrev main_v155 : Ref sig .tc := ⟨.hbm, 356, rfl⟩
abbrev main_v156 : Ref sig .tc := ⟨.hbm, 357, rfl⟩
abbrev main_cst_42 : Ref sig .tc := ⟨.hbm, 358, rfl⟩
abbrev main_v157 : Ref sig .tc := ⟨.hbm, 359, rfl⟩
abbrev main_v158 : Ref sig .tc := ⟨.hbm, 360, rfl⟩
abbrev main_v159 : Ref sig .tc := ⟨.hbm, 361, rfl⟩
abbrev main_cst_43 : Ref sig .tc := ⟨.hbm, 362, rfl⟩
abbrev main_v160 : Ref sig .tc := ⟨.hbm, 363, rfl⟩
abbrev main_cst_44 : Ref sig .tc := ⟨.hbm, 364, rfl⟩
abbrev main_v161 : Ref sig .tc := ⟨.hbm, 365, rfl⟩
abbrev main_v162 : Ref sig .tc := ⟨.hbm, 366, rfl⟩
abbrev main_v163 : Ref sig .tc := ⟨.hbm, 367, rfl⟩
abbrev main_cst_45 : Ref sig .tc := ⟨.hbm, 368, rfl⟩
abbrev main_call14_v0 : Ref sig .tc := ⟨.hbm, 369, rfl⟩
abbrev main_call14_v1 : Ref sig .tc := ⟨.hbm, 370, rfl⟩
abbrev main_v164 : Ref sig .tc := ⟨.hbm, 371, rfl⟩
abbrev main_v165 : Ref sig .tc := ⟨.hbm, 372, rfl⟩
abbrev main_v166 : Ref sig .tc := ⟨.hbm, 373, rfl⟩
abbrev main_v167 : Ref sig .tc := ⟨.hbm, 374, rfl⟩
abbrev main_call15_cst : Ref sig .tc := ⟨.hbm, 375, rfl⟩
abbrev main_call15_v0 : Ref sig .tc := ⟨.hbm, 376, rfl⟩
abbrev main_v168 : Ref sig .tc := ⟨.hbm, 377, rfl⟩
abbrev main_v169 : Ref sig .tc := ⟨.hbm, 378, rfl⟩
abbrev main_call16_c : Ref sig .tc := ⟨.hbm, 379, rfl⟩
abbrev main_call16_v0 : Ref sig .tc := ⟨.hbm, 380, rfl⟩
abbrev main_call16_v1 : Ref sig .tc := ⟨.hbm, 381, rfl⟩
abbrev main_call16_c_0 : Ref sig .tc := ⟨.hbm, 382, rfl⟩
abbrev main_call16_v2 : Ref sig .tc := ⟨.hbm, 383, rfl⟩
abbrev main_call16_v3 : Ref sig .tc := ⟨.hbm, 384, rfl⟩
abbrev main_call16_v4 : Ref sig .tc := ⟨.hbm, 385, rfl⟩
abbrev main_call16_v5 : Ref sig .tc := ⟨.hbm, 386, rfl⟩
abbrev main_call16_c_1 : Ref sig .tc := ⟨.hbm, 387, rfl⟩
abbrev main_call16_c_2 : Ref sig .tc := ⟨.hbm, 388, rfl⟩
abbrev main_call16_v6 : Ref sig .tc := ⟨.hbm, 389, rfl⟩
abbrev main_call16_v7 : Ref sig .tc := ⟨.hbm, 390, rfl⟩
abbrev main_call16_v8 : Ref sig .tc := ⟨.hbm, 391, rfl⟩
abbrev main_call16_v9 : Ref sig .tc := ⟨.hbm, 392, rfl⟩
abbrev main_call16_v10 : Ref sig .tc := ⟨.hbm, 393, rfl⟩
abbrev main_call16_v11 : Ref sig .tc := ⟨.hbm, 394, rfl⟩
abbrev main_call16_c_3 : Ref sig .tc := ⟨.hbm, 395, rfl⟩
abbrev main_call16_v12 : Ref sig .tc := ⟨.hbm, 396, rfl⟩
abbrev main_call16_v13 : Ref sig .tc := ⟨.hbm, 397, rfl⟩
abbrev main_call16_v14 : Ref sig .tc := ⟨.hbm, 398, rfl⟩
abbrev main_call16_cst : Ref sig .tc := ⟨.hbm, 399, rfl⟩
abbrev main_call16_v15 : Ref sig .tc := ⟨.hbm, 400, rfl⟩
abbrev main_v170 : Ref sig .tc := ⟨.hbm, 401, rfl⟩
abbrev main_v171 : Ref sig .tc := ⟨.hbm, 402, rfl⟩
abbrev main_v172 : Ref sig .tc := ⟨.hbm, 403, rfl⟩
abbrev main_cst_46 : Ref sig .tc := ⟨.hbm, 404, rfl⟩
abbrev main_v173 : Ref sig .tc := ⟨.hbm, 405, rfl⟩
abbrev main_v174 : Ref sig .tc := ⟨.hbm, 406, rfl⟩
abbrev main_v175 : Ref sig .tc := ⟨.hbm, 407, rfl⟩
abbrev main_cst_47 : Ref sig .tc := ⟨.hbm, 408, rfl⟩
abbrev main_v176 : Ref sig .tc := ⟨.hbm, 409, rfl⟩
abbrev main_cst_48 : Ref sig .tc := ⟨.hbm, 410, rfl⟩
abbrev main_v177 : Ref sig .tc := ⟨.hbm, 411, rfl⟩
abbrev main_v178 : Ref sig .tc := ⟨.hbm, 412, rfl⟩
abbrev main_v179 : Ref sig .tc := ⟨.hbm, 413, rfl⟩
abbrev main_cst_49 : Ref sig .tc := ⟨.hbm, 414, rfl⟩
abbrev main_call17_v0 : Ref sig .tc := ⟨.hbm, 415, rfl⟩
abbrev main_call17_v1 : Ref sig .tc := ⟨.hbm, 416, rfl⟩
abbrev main_v180 : Ref sig .tc := ⟨.hbm, 417, rfl⟩
abbrev main_v181 : Ref sig .tc := ⟨.hbm, 418, rfl⟩
abbrev main_v182 : Ref sig .tc := ⟨.hbm, 419, rfl⟩
abbrev main_v183 : Ref sig .tc := ⟨.hbm, 420, rfl⟩
abbrev main_call18_cst : Ref sig .tc := ⟨.hbm, 421, rfl⟩
abbrev main_call18_v0 : Ref sig .tc := ⟨.hbm, 422, rfl⟩
abbrev main_v184 : Ref sig .tc := ⟨.hbm, 423, rfl⟩
abbrev main_cst_50 : Ref sig .tc := ⟨.hbm, 424, rfl⟩
abbrev main_v185 : Ref sig .tc := ⟨.hbm, 425, rfl⟩
abbrev main_v186 : Ref sig .tc := ⟨.hbm, 426, rfl⟩
abbrev main_cst_51 : Ref sig .tc := ⟨.hbm, 427, rfl⟩
abbrev main_v187 : Ref sig .tc := ⟨.hbm, 428, rfl⟩
abbrev main_v188 : Ref sig .tc := ⟨.hbm, 429, rfl⟩
abbrev main_v189 : Ref sig .tc := ⟨.hbm, 430, rfl⟩
abbrev main_cst_52 : Ref sig .tc := ⟨.hbm, 431, rfl⟩
abbrev main_v190 : Ref sig .tc := ⟨.hbm, 432, rfl⟩
abbrev main_cst_53 : Ref sig .tc := ⟨.hbm, 433, rfl⟩
abbrev main_v191 : Ref sig .tc := ⟨.hbm, 434, rfl⟩
abbrev main_cst_54 : Ref sig .tc := ⟨.hbm, 435, rfl⟩
abbrev main_v192 : Ref sig .tc := ⟨.hbm, 436, rfl⟩
abbrev main_call19_cst : Ref sig .tc := ⟨.hbm, 437, rfl⟩
abbrev main_call19_v0 : Ref sig .tc := ⟨.hbm, 438, rfl⟩
abbrev main_call19_cst_0 : Ref sig .tc := ⟨.hbm, 439, rfl⟩
abbrev main_call19_v1 : Ref sig .tc := ⟨.hbm, 440, rfl⟩
abbrev main_call19_v2 : Ref sig .tc := ⟨.hbm, 441, rfl⟩
abbrev main_call19_v3 : Ref sig .tc := ⟨.hbm, 442, rfl⟩
abbrev main_call19_v4 : Ref sig .tc := ⟨.hbm, 443, rfl⟩
abbrev main_call19_v5 : Ref sig .tc := ⟨.hbm, 444, rfl⟩
abbrev main_call19_v6 : Ref sig .tc := ⟨.hbm, 445, rfl⟩
abbrev main_call19_cst_1 : Ref sig .tc := ⟨.hbm, 446, rfl⟩
abbrev main_call19_v7 : Ref sig .tc := ⟨.hbm, 447, rfl⟩
abbrev main_call19_v8 : Ref sig .tc := ⟨.hbm, 448, rfl⟩
abbrev main_call19_v9 : Ref sig .tc := ⟨.hbm, 449, rfl⟩
abbrev main_call19_v10 : Ref sig .tc := ⟨.hbm, 450, rfl⟩
abbrev main_v193 : Ref sig .tc := ⟨.hbm, 451, rfl⟩
abbrev main_cst_55 : Ref sig .tc := ⟨.hbm, 452, rfl⟩
abbrev main_v194 : Ref sig .tc := ⟨.hbm, 453, rfl⟩
abbrev main_cst_56 : Ref sig .tc := ⟨.hbm, 454, rfl⟩
abbrev main_v195 : Ref sig .tc := ⟨.hbm, 455, rfl⟩
abbrev main_v196 : Ref sig .tc := ⟨.hbm, 456, rfl⟩
abbrev main_v197 : Ref sig .tc := ⟨.hbm, 457, rfl⟩
abbrev main_v198 : Ref sig .tc := ⟨.hbm, 458, rfl⟩
abbrev main_v199 : Ref sig .tc := ⟨.hbm, 459, rfl⟩
abbrev main_v200 : Ref sig .tc := ⟨.hbm, 460, rfl⟩
abbrev main_cst_57 : Ref sig .tc := ⟨.hbm, 461, rfl⟩
abbrev main_v201 : Ref sig .tc := ⟨.hbm, 462, rfl⟩
abbrev main_v202 : Ref sig .tc := ⟨.hbm, 463, rfl⟩
abbrev main_v203 : Ref sig .tc := ⟨.hbm, 464, rfl⟩
abbrev main_v204 : Ref sig .tc := ⟨.hbm, 465, rfl⟩
abbrev main_cst_58 : Ref sig .tc := ⟨.hbm, 466, rfl⟩
abbrev main_v205 : Ref sig .tc := ⟨.hbm, 467, rfl⟩
abbrev main_v206 : Ref sig .tc := ⟨.hbm, 468, rfl⟩
abbrev main_v207 : Ref sig .tc := ⟨.hbm, 469, rfl⟩
abbrev main_v208 : Ref sig .tc := ⟨.hbm, 470, rfl⟩
abbrev main_v209 : Ref sig .tc := ⟨.hbm, 471, rfl⟩
abbrev main_cst_59 : Ref sig .tc := ⟨.hbm, 472, rfl⟩
abbrev main_v210 : Ref sig .tc := ⟨.hbm, 473, rfl⟩
abbrev main_cst_60 : Ref sig .tc := ⟨.hbm, 474, rfl⟩
abbrev main_v211 : Ref sig .tc := ⟨.hbm, 475, rfl⟩
abbrev main_cst_61 : Ref sig .tc := ⟨.hbm, 476, rfl⟩
abbrev main_v212 : Ref sig .tc := ⟨.hbm, 477, rfl⟩
abbrev main_cst_62 : Ref sig .tc := ⟨.hbm, 478, rfl⟩
abbrev main_v213 : Ref sig .tc := ⟨.hbm, 479, rfl⟩
abbrev main_v214 : Ref sig .tc := ⟨.hbm, 480, rfl⟩
abbrev main_v215 : Ref sig .tc := ⟨.hbm, 481, rfl⟩
abbrev main_v216 : Ref sig .tc := ⟨.hbm, 482, rfl⟩
abbrev main_cst_63 : Ref sig .tc := ⟨.hbm, 483, rfl⟩
abbrev main_v217 : Ref sig .tc := ⟨.hbm, 484, rfl⟩
abbrev main_v218 : Ref sig .tc := ⟨.hbm, 485, rfl⟩
abbrev main_cst_64 : Ref sig .tc := ⟨.hbm, 486, rfl⟩
abbrev main_v219 : Ref sig .tc := ⟨.hbm, 487, rfl⟩
abbrev main_v220 : Ref sig .tc := ⟨.hbm, 488, rfl⟩
abbrev main_cst_65 : Ref sig .tc := ⟨.hbm, 489, rfl⟩
abbrev main_v221 : Ref sig .tc := ⟨.hbm, 490, rfl⟩
abbrev main_v222 : Ref sig .tc := ⟨.hbm, 491, rfl⟩
abbrev main_v223 : Ref sig .tc := ⟨.hbm, 492, rfl⟩
abbrev main_v224 : Ref sig .tc := ⟨.hbm, 493, rfl⟩
abbrev main_v225 : Ref sig .tc := ⟨.hbm, 494, rfl⟩
abbrev main_cst_66 : Ref sig .tc := ⟨.hbm, 495, rfl⟩
abbrev main_v226 : Ref sig .tc := ⟨.hbm, 496, rfl⟩
abbrev main_cst_67 : Ref sig .tc := ⟨.hbm, 497, rfl⟩
abbrev main_v227 : Ref sig .tc := ⟨.hbm, 498, rfl⟩
abbrev main_v228 : Ref sig .tc := ⟨.hbm, 499, rfl⟩
abbrev main_cst_68 : Ref sig .tc := ⟨.hbm, 500, rfl⟩
abbrev main_v229 : Ref sig .tc := ⟨.hbm, 501, rfl⟩
abbrev main_v230 : Ref sig .tc := ⟨.hbm, 502, rfl⟩
abbrev main_v231 : Ref sig .tc := ⟨.hbm, 503, rfl⟩
abbrev main_v232 : Ref sig .tc := ⟨.hbm, 504, rfl⟩
abbrev main_v233 : Ref sig .tc := ⟨.hbm, 505, rfl⟩
abbrev main_v234 : Ref sig .tc := ⟨.hbm, 506, rfl⟩
abbrev main_cst_69 : Ref sig .tc := ⟨.hbm, 507, rfl⟩
abbrev main_v235 : Ref sig .tc := ⟨.hbm, 508, rfl⟩
abbrev main_cst_70 : Ref sig .tc := ⟨.hbm, 509, rfl⟩
abbrev main_v236 : Ref sig .tc := ⟨.hbm, 510, rfl⟩
abbrev main_v237 : Ref sig .tc := ⟨.hbm, 511, rfl⟩
abbrev main_cst_71 : Ref sig .tc := ⟨.hbm, 512, rfl⟩
abbrev main_v238 : Ref sig .tc := ⟨.hbm, 513, rfl⟩
abbrev main_v239 : Ref sig .tc := ⟨.hbm, 514, rfl⟩
abbrev main_v240 : Ref sig .tc := ⟨.hbm, 515, rfl⟩
abbrev main_v241 : Ref sig .tc := ⟨.hbm, 516, rfl⟩

abbrev nD : Nat := 1
abbrev τ : Topo := Topo.v7x

variable {F : FTy → Type} [FloatOps F]
-- ==== Proof.Region.lean ====
/-
  One kernel region of a program of several, as a segment between two valuations of the unscoped buffers.

  Nothing here knows which program it serves: the region is any pipeline whose body owes nothing, keeps no semaphore of its
  own, reads no table and has the scoped buffers it does not stage as its only invariant. What the region leaves in its
  windows' arrays is given as ONE fact per window: any contents the relational data allow at the end are the ones named.
-/
module

public import Idealize.ShloMosaic.Lib.Pipeline.FrameBody
public import Idealize.ShloMosaic.Lib.Pipeline.RegionsLoop
public import Idealize.ShloMosaic.Lib.Pipeline.DatRel
public import Idealize.ShloMosaic.Lib.Tactic

@[expose] public section

noncomputable section

namespace Cert.Segment

open Idealize.ShloMosaic Idealize.ShloMosaic.TcCoe
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (RDat PCfg pin WinFacts arrRef ΦA ucRefs)

variable {nD : Nat} {τ : Topo} {sig : RefSig} {Val : EltTy → Type} {Λ₀ : Labels}
variable {U : Type} [URA U] {P : Type} [Fintype P]

local notation "𝕄" => MT nD τ sig Unit Val ℕ U ℕ

/-- What rides beside the unscoped buffers: the generator register at some state, and the core's dues, at nothing. -/
abbrev Rest (c : Dev nD) : sProp 𝕄 :=
  iprop((∃ r, prngReg c r) ∗ ∃ W, owes (c : Thread nD τ) (0 : CellTallies nD τ sig Unit) W)

/-- A host stretch between two valuations, `Rest` riding along. -/
abbrev host (pcs : P → PCfg sig Λ₀ Val) (defs₀ : Defs nD τ sig Val Λ₀) (𝒱₀ : Variants)
    (L : GSem nD τ sig → Finset Unit) (lv : GSem nD τ sig → Unit → ℕ)
    (ops : List (HloOp τ sig Val)) (hsub : ops.Forall fun op => op.bufs ⊆ StableHlo.tcRefs τ sig)
    (hfresh : ops.Forall fun op => op.fresh = ∅) (W : Dev nD → Valuation τ sig Val) :
    Pipeline.HostSeg (Name := ℕ) (U := U) pcs defs₀ 𝒱₀ L lv :=
  Pipeline.HostSeg.ofOps _ _ _ _ _ (ucRefs τ sig) ops
    (fun op h => Pipeline.sub_ucRefs op ((List.forall_iff_forall_mem.mp hsub) op h))
    (fun op h => (List.forall_iff_forall_mem.mp hfresh) op h) W Rest

variable (pcs : P → PCfg sig Λ₀ Val) (a : (p : P) → (pcs p).Adm)
  (rdats : (p : P) → (c : Dev nD) → RDat τ Val Unit ℕ U ℕ (pin pcs a p) c)
  (defs₀ : Defs nD τ sig Val Λ₀) (𝒱₀ : Variants)
  (L : GSem nD τ sig → Finset Unit) (lv : GSem nD τ sig → Unit → ℕ)

omit [Fintype P] in
/-- The windows' arrays after the region, at whatever contents they may hold, and the other unscoped buffers as they were
    at the entry, are all the unscoped buffers at the exit valuation — when every contents allowed are the exit
    valuation's, and it differs from the entry's only at the arrays. -/
theorem buffers_of_arraysAt [∀ e, Nonempty (Val e)] {p : P} (hw : WinFacts (pin pcs a p).spec)
    (harr : ∀ w, ((pin pcs a p).spec w).arr.IsWhole) (c : Dev nD)
    (hshare : ∀ w, (rdats p c).share w = fullShare) (V V' : Valuation τ sig Val) (n : Nat)
    (hexit : ∀ w F, (rdats p c).ArrAt w n F → F = V' (Proc.devRef .tc (arrRef (pin pcs a p).spec w)))
    (hrest : ∀ b : Ref sig .tc, b ∉ Finset.univ.image (arrRef (pin pcs a p).spec) →
      V' (Proc.devRef .tc b) = V (Proc.devRef .tc b)) :
    (iprop((rdats p c).arraysAt n ∗ Pipeline.unscopedRest (pin pcs a p).spec c fun b => V (Proc.devRef .tc b)) : sProp 𝕄)
      ⊢ StableHlo.held (c : Thread nD τ) (ucRefs τ sig) V' := by
  rw [← Pipeline.unscopedBufs_held c V', Pipeline.unscopedBufs_split (pin pcs a) p hw.arr_unscoped hw.arr_inj c]
  refine sep_mono ?_ (Entails.of_eq ?_)
  · unfold RDat.arraysAt
    refine bigSep_mono fun w _ => ?_
    show (iprop(∃ F, ⌜(rdats p c).ArrAt w n F⌝ ∗ ((pin pcs a p).win w).arr.view.loc (c.tc : Thread nD τ)
        ↦[((pin pcs a p).win w).arr.view.set]{(rdats p c).share w} F) : sProp 𝕄) ⊢ _
    iintro ⟨%F, %hF, H⟩
    obtain rfl := hexit w F hF
    rw [(harr w).set_eq_univ, hshare]
    iexact H
  · unfold Pipeline.unscopedRest
    exact bigSep_congr fun b hb => by dsimp only; rw [hrest b (Finset.mem_sdiff.mp hb).2]

/-- The segment of one region: entered with every unscoped buffer at `V c`, left with them at `V' c`. -/
def region [∀ e, Nonempty (Val e)] (p : P) (hw : WinFacts (pin pcs a p).spec)
    (hpos : ∀ w : Fin (pin pcs a p).W, 0 < ((pin pcs a p).spec w).block.numel)
    (hstage : ∀ (w : Fin (pin pcs a p).W) (s : Fin ((pin pcs a p).spec w).nbuf), (((pin pcs a p).spec w).stage s).IsWhole)
    (harr : ∀ w, ((pin pcs a p).spec w).arr.IsWhole) (hK : IsEmpty (Fin (pcs p).pre.K))
    (hbody : ∀ c, (rdats p c).BodyObligation defs₀ 𝒱₀ () Set.univ)
    (hΦ0 : ∀ c, (rdats p c).Φ 0 = ΦA (pin pcs a p).spec c)
    (hΦN : ∀ c, (rdats p c).Φ (Fin.last (pin pcs a p).N) = ΦA (pin pcs a p).spec c)
    (howed : ∀ c t, (rdats p c).owed t = 0) (hrec : ∀ c, (rdats p c).recorded 0 = Set.univ)
    (hshare : ∀ c w, (rdats p c).share w = fullShare) (V V' : Dev nD → Valuation τ sig Val)
    (hA : ∀ c w, (rdats p c).A w = V c (Proc.devRef .tc (arrRef (pin pcs a p).spec w)))
    (hexit : ∀ c w F, (rdats p c).ArrAt w (pin pcs a p).N F →
      F = V' c (Proc.devRef .tc (arrRef (pin pcs a p).spec w)))
    (hrest : ∀ c (b : Ref sig .tc), b ∉ Finset.univ.image (arrRef (pin pcs a p).spec) →
      V' c (Proc.devRef .tc b) = V c (Proc.devRef .tc b)) :
    RDat.RegionSeg pcs a rdats () defs₀ 𝒱₀ L lv p where
  win := hw.to₀
  block_pos := hpos
  stage_whole := hstage
  K := PEmpty
  osem k := k.elim
  ho := Pipeline.OwnSemFacts.none _
  hbody := hbody
  hwaits := RDat.hwaits_of_owed_zero pcs a rdats () L lv p howed
  pre c := iprop(StableHlo.held (c : Thread nD τ) (ucRefs τ sig) (V c) ∗ Rest c)
  post c := iprop(StableHlo.held (c : Thread nD τ) (ucRefs τ sig) (V' c) ∗ Rest c)
  X c := iprop(∃ r, prngReg c r)
  Y c := iprop(∃ r, prngReg c r)
  Z c := Pipeline.unscopedRest (Ix := Unit) (Name := ℕ) (U := U) (Lvl := ℕ) (pin pcs a p).spec c
    fun b => V c (Proc.devRef .tc b)
  hentry c := by
    rw [Pipeline.ownSems0_none]
    have hsplit := RDat.arrays_of_unscopedBufs pcs a rdats hw harr c (hshare c)
      (fun b => V c (Proc.devRef .tc b)) (hA c)
    rw [Pipeline.unscopedBufs_held c (V c)] at hsplit
    iintro ⟨⟨Hub, Hp, HO⟩, -, -⟩
    ihave H := hsplit $$ Hub
    icases H with ⟨Ha, Hrest⟩
    imodintro
    isplitl [Ha]; · iexact Ha
    isplitr
    · unfold Pipeline.prefHeld; rw [Finset.univ_eq_empty, BI.bigSep_empty]; iempintro
    isplitl [HO]
    · unfold RDat.owesAt Pipeline.owesWithin
      rw [howed]
      icases HO with ⟨%W, HO⟩; iexists W; isplitr
      · ipureintro; intro x _; exact Or.inl (by rw [hrec]; trivial)
      iexact HO
    isplitl [Hp]; · iexact Hp
    iexact Hrest
  hin c := by
    rw [hΦ0]; unfold ΦA
    iintro ⟨Hp, -, Hr⟩
    isplitl [Hr]; · iexact Hr
    iexact Hp
  hout c := by
    rw [Pipeline.ownSems0_none, hΦN]; unfold ΦA
    iintro ⟨Hr, Hp⟩
    isplitl [Hp]; · iexact Hp
    isplitr; · iempintro
    iexact Hr
  hexit c := by
    have hjoin := buffers_of_arraysAt pcs a rdats hw harr c (hshare c) (V c) (V' c) _ (hexit c) (hrest c)
    iintro ⟨Ha, HO, HY, Hrest⟩
    imodintro
    isplitl [Ha Hrest]
    · iapply hjoin; isplitl [Ha] <;> iassumption
    isplitl [HY]; · iexact HY
    unfold RDat.owesAt Pipeline.owesWithin
    rw [howed]
    icases HO with ⟨%W, -, HO⟩; iexists W; iexact HO

end Cert.Segment

end
-- ==== Proof.BodiesI.lean ====
/-
  The five kernel bodies of `KernelIdeal`, each at any point of its grid: what a body leaves in its output window from what its
  input windows hold, at the contents `V` its region is entered with.

  Regions 0 to 3 are the four graph-convolution combines: the body stores one whole block. Region 4 is the decoder sweep:
  its output block stays in place over the whole grid and point `t` stores row `t` of it alone, so what it leaves is said of
  the rows up to `t`.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.DatRel
public import Idealize.ShloMosaic.Lib.Pipeline.ArrRel
public import Idealize.ShloMosaic.Lib.WritesUnit
public import Idealize.ShloMosaic.Lib.ValueIdxCore
public import Idealize.ShloMosaic.Lib.Tactic
public import Idealize.ShloMosaic.Lib.WordCmp

@[expose] public section

-- a rectangle of production extents is decided one coordinate at a time
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F]

local notation "𝕄" => MT nD τ sig Unit (Elt F) ℕ (UR sig nD τ) ℕ

variable (V : Dev nD → Valuation τ sig (Elt F))

/-! ## Region 0: `hidden layers of both heads` -/

/-- Window `w`'s block at point `t`, read off its array as the region finds it. -/
def block0 (c : Dev nD) (w : Fin cfg0.W) (t : Fin cfg0.N) :
    ((cfg0.win w).xblock (cfg0.grid.coords t)).Idx → Elt F (cfg0.win w).elt :=
  ((cfg0.win w).blk t).view.read (Elt F) (V c (Proc.devRef .tc (Pipeline.arrRef spec0 w)))

/-- What the body leaves in its output window: the one payload, stored over the whole block. -/
def left0 (s t : Vec F S512x128 .f32) (d : Vec F S512x1 .f32) (w : Vec F S128x128 .f32) : Vec F S512x128 .f32 :=
  View.canon [⟨Rect.unit (s := S512x128) ![0, 0] S512x128.size inb_S512x128_S512x128_0_0,
    k0_pay1 (View.ld w (Rect.unit (s := S128x128) ![0, 0] S128x128.size inb_S128x128_S128x128_0_0))
      (View.ld s (Rect.unit (s := S512x128) ![0, 0] S512x128.size inb_S512x128_S512x128_0_0))
      (View.ld t (Rect.unit (s := S512x128) ![0, 0] S512x128.size inb_S512x128_S512x128_0_0))
      (View.ld d (Rect.unit (s := S512x1) ![0, 0] S512x1.size inb_S512x1_S512x1_0_0))⟩]

set_option maxHeartbeats 1000000 in
/-- The body on whole buffers: the inputs stay, the output ends at `left0` of them. -/
theorem run0 (c : Dev nD) (E : Set ℕ) (i : grid0.Coords) (a1 : Memref sig .tc .vmem S512x128 .f32) (h1 : a1.IsWhole)
    (a2 : Memref sig .tc .vmem S512x128 .f32) (h2 : a2.IsWhole) (a3 : Memref sig .tc .vmem S512x1 .f32) (h3 : a3.IsWhole)
    (a4 : Memref sig .tc .vmem S128x128 .f32) (h4 : a4.IsWhole) (a5 : Memref sig .tc .vmem S512x128 .f32) (h5 : a5.IsWhole)
    (x0 x1 : Vec F S512x128 .f32) (x2 : Vec F S512x1 .f32) (x3 : Vec F S128x128 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3
        ∗ (∃ d, owns (c : Thread nD τ) a5 fullShare d)
        ∗ (iprop(owns (c : Thread nD τ) a1 fullShare x0 ∗ owns (c : Thread nD τ) a2 fullShare x1
          ∗ owns (c : Thread nD τ) a3 fullShare x2 ∗ owns (c : Thread nD τ) a4 fullShare x3
          ∗ owns (c : Thread nD τ) a5 fullShare (left0 x0 x1 x2 x3)) -∗ K ⟨⟩))
      ⊢ wp frame (wpE (defs₀ (F := F)) Variants.none c none) E (cc0_body i a1 h1 a2 h2 a3 h3 a4 h4 a5 h5) K := by
  simp only [cc0_body_eq_skeleton]; unfold cc0_body_skel
  unfold owns
  iintro ⟨⟨%f0, %e0, H0⟩, ⟨%f1, %e1, H1⟩, ⟨%f2, %e2, H2⟩, ⟨%f3, %e3, H3⟩, ⟨%d4, %f4, -, H4⟩, Hk⟩
  subst e0 e1 e2 e3
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H4
  ipureintro
  exact View.read_writes_eq_canon _ _ _ (View.cover_of_tiled _ S512x128.size (by rfl))

/-- The region's proof data on core `c`: each input keeps its block, the output ends at `left0` of them. -/
def dat0 (c : Dev nD) : Dat τ (Elt F) Unit ℕ (UR sig nD τ) ℕ cfg0 c where
  A w := V c (Proc.devRef .tc (Pipeline.arrRef spec0 w))
  after w t := match w with
    | ⟨0, _⟩ => block0 V c 0 t
    | ⟨1, _⟩ => block0 V c 1 t
    | ⟨2, _⟩ => block0 V c 2 t
    | ⟨3, _⟩ => block0 V c 3 t
    | ⟨4, _⟩ => left0 (block0 V c 0 t) (block0 V c 1 t) (block0 V c 2 t) (block0 V c 3 t)
  Φ _ := Pipeline.ΦA spec0 c
  q _ := fullShare
  owed _ := 0

theorem A_dat0 (c : Dev nD) (w : Fin cfg0.W) :
    (dat0 V c).A w = V c (Proc.devRef .tc (Pipeline.arrRef spec0 w)) := by dsimp only [dat0]

theorem after_dat0 (c : Dev nD) (t : Fin cfg0.N) :
    (dat0 V c).after 0 t = block0 V c 0 t ∧ (dat0 V c).after 1 t = block0 V c 1 t
      ∧ (dat0 V c).after 2 t = block0 V c 2 t ∧ (dat0 V c).after 3 t = block0 V c 3 t
      ∧ (dat0 V c).after 4 t = left0 (block0 V c 0 t) (block0 V c 1 t) (block0 V c 2 t) (block0 V c 3 t) := by
  dsimp only [dat0]; exact ⟨rfl, rfl, rfl, rfl, rfl⟩

/-- An input window's buffer holds its block at every point, fetched there or not. -/
theorem before_dat0 (c : Dev nD) (t : Fin cfg0.N) :
    (∀ d, (dat0 V c).before 0 t d = block0 V c 0 t) ∧ (∀ d, (dat0 V c).before 1 t d = block0 V c 1 t)
      ∧ (∀ d, (dat0 V c).before 2 t d = block0 V c 2 t) ∧ (∀ d, (dat0 V c).before 3 t d = block0 V c 3 t) := by
  refine ⟨fun d => ?_, fun d => ?_, fun d => ?_, fun d => ?_⟩
  · refine ((dat0 V c).before_in_eq_fetched 0 rfl (fun _ => rfl) (fun _ _ _ => rfl) (fun t => ?_) t d).trans ?_
    · rw [(after_dat0 V c t).1]; unfold Dat.blockOf block0; rw [A_dat0]; try rfl
    · unfold Dat.fetched Dat.blockOf block0; rw [A_dat0]; try rfl
  · refine ((dat0 V c).before_in_eq_fetched 1 rfl (fun _ => rfl) (fun _ _ _ => rfl) (fun t => ?_) t d).trans ?_
    · rw [(after_dat0 V c t).2.1]; unfold Dat.blockOf block0; rw [A_dat0]; try rfl
    · unfold Dat.fetched Dat.blockOf block0; rw [A_dat0]; try rfl
  · refine ((dat0 V c).before_in_eq_fetched 2 rfl (fun _ => rfl) (fun _ _ _ => rfl) (fun t => ?_) t d).trans ?_
    · rw [(after_dat0 V c t).2.2.1]; unfold Dat.blockOf block0; rw [A_dat0]; try rfl
    · unfold Dat.fetched Dat.blockOf block0; rw [A_dat0]; try rfl
  · refine ((dat0 V c).before_in_eq_fetched 3 rfl (fun _ => rfl) (fun _ _ _ => rfl) (fun t => ?_) t d).trans ?_
    · rw [(after_dat0 V c t).2.2.2.1]; unfold Dat.blockOf block0; rw [A_dat0]; try rfl
    · unfold Dat.fetched Dat.blockOf block0; rw [A_dat0]; try rfl

/-- What the body is called with at point `t`, and what it returns. -/
def given0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d))
    ∗ (∃ d, owns (c : Thread nD τ) (st0_3 t) fullShare ((dat0 V c).before 3 t d))
    ∗ (∃ d, owns (c : Thread nD τ) (st0_4 t) fullShare ((dat0 V c).before 4 t d)))

@[inherit_doc given0] def returned0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t)
    ∗ owns (c : Thread nD τ) (st0_3 t) fullShare ((dat0 V c).after 3 t)
    ∗ owns (c : Thread nD τ) (st0_4 t) fullShare ((dat0 V c).after 4 t))

theorem point0 (c : Dev nD) (t : Fin cfg0.N) :
    given0 V c t ⊢ wp frame (wpE (defs₀ (F := F)) Variants.none c none) Set.univ (bodyAt0 t)
      (fun _ => returned0 V c t) := by
  unfold given0 returned0 bodyAt0
  obtain ⟨b0, b1, b2, b3⟩ := before_dat0 V c t
  obtain ⟨e0, e1, e2, e3, e4⟩ := after_dat0 V c t
  simp only [b0, b1, b2, b3]
  rw [show (dat0 V c).Φ t.succ = (dat0 V c).Φ t.castSucc from rfl,
    show (dat0 V c).owesAt () t.succ = (dat0 V c).owesAt () t.castSucc from rfl, e0, e1, e2, e3, e4]
  iintro ⟨HΦ, Ho, ⟨%d0, H0⟩, ⟨%d1, H1⟩, ⟨%d2, H2⟩, ⟨%d3, H3⟩, ⟨%d4, H4⟩⟩
  iapply (run0 c Set.univ (grid0.coords t) _ _ _ _ _ _ _ _ _ _ (block0 V c 0 t) (block0 V c 1 t)
    (block0 V c 2 t) (block0 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 0, at every point. -/
theorem obligation0 (c : Dev nD) : BodyObligation (dat0 (F := F) V c) (defs₀ (F := F)) Variants.none () Set.univ := fun t => by
  rw [bigSep_W0, bigSep_W0, show defs₀ (F := F) .tc cfg0.body (cfg0.bodyArgs t (cfg0.slots t)) = bodyAt0 t from by
    unfold defs₀; rw [Defs.onTc_tc]]
  exact triple_restated (point0 V c t) rfl .rfl fun _ => .rfl

/-! ## Region 1: `second layers, mean and log-variance` -/

/-- Window `w`'s block at point `t`, read off its array as the region finds it. -/
def block1 (c : Dev nD) (w : Fin cfg1.W) (t : Fin cfg1.N) :
    ((cfg1.win w).xblock (cfg1.grid.coords t)).Idx → Elt F (cfg1.win w).elt :=
  ((cfg1.win w).blk t).view.read (Elt F) (V c (Proc.devRef .tc (Pipeline.arrRef spec1 w)))

/-- What the body leaves in its output window: the one payload, stored over the whole block. -/
def left1 (s t : Vec F S512x128 .f32) (d : Vec F S512x1 .f32) (w : Vec F S128x96 .f32) : Vec F S512x96 .f32 :=
  View.canon [⟨Rect.unit (s := S512x96) ![0, 0] S512x96.size inb_S512x96_S512x96_0_0,
    k1_pay1 (View.ld w (Rect.unit (s := S128x96) ![0, 0] S128x96.size inb_S128x96_S128x96_0_0))
      (View.ld s (Rect.unit (s := S512x128) ![0, 0] S512x128.size inb_S512x128_S512x128_0_0))
      (View.ld t (Rect.unit (s := S512x128) ![0, 0] S512x128.size inb_S512x128_S512x128_0_0))
      (View.ld d (Rect.unit (s := S512x1) ![0, 0] S512x1.size inb_S512x1_S512x1_0_0))⟩]

set_option maxHeartbeats 1000000 in
/-- The body on whole buffers: the inputs stay, the output ends at `left1` of them. -/
theorem run1 (c : Dev nD) (E : Set ℕ) (i : grid1.Coords) (a1 : Memref sig .tc .vmem S512x128 .f32) (h1 : a1.IsWhole)
    (a2 : Memref sig .tc .vmem S512x128 .f32) (h2 : a2.IsWhole) (a3 : Memref sig .tc .vmem S512x1 .f32) (h3 : a3.IsWhole)
    (a4 : Memref sig .tc .vmem S128x96 .f32) (h4 : a4.IsWhole) (a5 : Memref sig .tc .vmem S512x96 .f32) (h5 : a5.IsWhole)
    (x0 x1 : Vec F S512x128 .f32) (x2 : Vec F S512x1 .f32) (x3 : Vec F S128x96 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3
        ∗ (∃ d, owns (c : Thread nD τ) a5 fullShare d)
        ∗ (iprop(owns (c : Thread nD τ) a1 fullShare x0 ∗ owns (c : Thread nD τ) a2 fullShare x1
          ∗ owns (c : Thread nD τ) a3 fullShare x2 ∗ owns (c : Thread nD τ) a4 fullShare x3
          ∗ owns (c : Thread nD τ) a5 fullShare (left1 x0 x1 x2 x3)) -∗ K ⟨⟩))
      ⊢ wp frame (wpE (defs₀ (F := F)) Variants.none c none) E (cc1_body i a1 h1 a2 h2 a3 h3 a4 h4 a5 h5) K := by
  simp only [cc1_body_eq_skeleton]; unfold cc1_body_skel
  unfold owns
  iintro ⟨⟨%f0, %e0, H0⟩, ⟨%f1, %e1, H1⟩, ⟨%f2, %e2, H2⟩, ⟨%f3, %e3, H3⟩, ⟨%d4, %f4, -, H4⟩, Hk⟩
  subst e0 e1 e2 e3
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H4
  ipureintro
  exact View.read_writes_eq_canon _ _ _ (View.cover_of_tiled _ S512x96.size (by rfl))

/-- The region's proof data on core `c`: each input keeps its block, the output ends at `left1` of them. -/
def dat1 (c : Dev nD) : Dat τ (Elt F) Unit ℕ (UR sig nD τ) ℕ cfg1 c where
  A w := V c (Proc.devRef .tc (Pipeline.arrRef spec1 w))
  after w t := match w with
    | ⟨0, _⟩ => block1 V c 0 t
    | ⟨1, _⟩ => block1 V c 1 t
    | ⟨2, _⟩ => block1 V c 2 t
    | ⟨3, _⟩ => block1 V c 3 t
    | ⟨4, _⟩ => left1 (block1 V c 0 t) (block1 V c 1 t) (block1 V c 2 t) (block1 V c 3 t)
  Φ _ := Pipeline.ΦA spec1 c
  q _ := fullShare
  owed _ := 0

theorem A_dat1 (c : Dev nD) (w : Fin cfg1.W) :
    (dat1 V c).A w = V c (Proc.devRef .tc (Pipeline.arrRef spec1 w)) := by dsimp only [dat1]

theorem after_dat1 (c : Dev nD) (t : Fin cfg1.N) :
    (dat1 V c).after 0 t = block1 V c 0 t ∧ (dat1 V c).after 1 t = block1 V c 1 t
      ∧ (dat1 V c).after 2 t = block1 V c 2 t ∧ (dat1 V c).after 3 t = block1 V c 3 t
      ∧ (dat1 V c).after 4 t = left1 (block1 V c 0 t) (block1 V c 1 t) (block1 V c 2 t) (block1 V c 3 t) := by
  dsimp only [dat1]; exact ⟨rfl, rfl, rfl, rfl, rfl⟩

/-- An input window's buffer holds its block at every point, fetched there or not. -/
theorem before_dat1 (c : Dev nD) (t : Fin cfg1.N) :
    (∀ d, (dat1 V c).before 0 t d = block1 V c 0 t) ∧ (∀ d, (dat1 V c).before 1 t d = block1 V c 1 t)
      ∧ (∀ d, (dat1 V c).before 2 t d = block1 V c 2 t) ∧ (∀ d, (dat1 V c).before 3 t d = block1 V c 3 t) := by
  refine ⟨fun d => ?_, fun d => ?_, fun d => ?_, fun d => ?_⟩
  · refine ((dat1 V c).before_in_eq_fetched 0 rfl (fun _ => rfl) (fun _ _ _ => rfl) (fun t => ?_) t d).trans ?_
    · rw [(after_dat1 V c t).1]; unfold Dat.blockOf block1; rw [A_dat1]; try rfl
    · unfold Dat.fetched Dat.blockOf block1; rw [A_dat1]; try rfl
  · refine ((dat1 V c).before_in_eq_fetched 1 rfl (fun _ => rfl) (fun _ _ _ => rfl) (fun t => ?_) t d).trans ?_
    · rw [(after_dat1 V c t).2.1]; unfold Dat.blockOf block1; rw [A_dat1]; try rfl
    · unfold Dat.fetched Dat.blockOf block1; rw [A_dat1]; try rfl
  · refine ((dat1 V c).before_in_eq_fetched 2 rfl (fun _ => rfl) (fun _ _ _ => rfl) (fun t => ?_) t d).trans ?_
    · rw [(after_dat1 V c t).2.2.1]; unfold Dat.blockOf block1; rw [A_dat1]; try rfl
    · unfold Dat.fetched Dat.blockOf block1; rw [A_dat1]; try rfl
  · refine ((dat1 V c).before_in_eq_fetched 3 rfl (fun _ => rfl) (fun _ _ _ => rfl) (fun t => ?_) t d).trans ?_
    · rw [(after_dat1 V c t).2.2.2.1]; unfold Dat.blockOf block1; rw [A_dat1]; try rfl
    · unfold Dat.fetched Dat.blockOf block1; rw [A_dat1]; try rfl

/-- What the body is called with at point `t`, and what it returns. -/
def given1 (c : Dev nD) (t : Fin cfg1.N) : sProp 𝕄 :=
  iprop((dat1 V c).Φ t.castSucc ∗ (dat1 V c).owesAt () t.castSucc
    ∗ (∃ d, owns (c : Thread nD τ) (st1_0 t) fullShare ((dat1 V c).before 0 t d))
    ∗ (∃ d, owns (c : Thread nD τ) (st1_1 t) fullShare ((dat1 V c).before 1 t d))
    ∗ (∃ d, owns (c : Thread nD τ) (st1_2 t) fullShare ((dat1 V c).before 2 t d))
    ∗ (∃ d, owns (c : Thread nD τ) (st1_3 t) fullShare ((dat1 V c).before 3 t d))
    ∗ (∃ d, owns (c : Thread nD τ) (st1_4 t) fullShare ((dat1 V c).before 4 t d)))

@[inherit_doc given1] def returned1 (c : Dev nD) (t : Fin cfg1.N) : sProp 𝕄 :=
  iprop((dat1 V c).Φ t.succ ∗ (dat1 V c).owesAt () t.succ
    ∗ owns (c : Thread nD τ) (st1_0 t) fullShare ((dat1 V c).after 0 t)
    ∗ owns (c : Thread nD τ) (st1_1 t) fullShare ((dat1 V c).after 1 t)
    ∗ owns (c : Thread nD τ) (st1_2 t) fullShare ((dat1 V c).after 2 t)
    ∗ owns (c : Thread nD τ) (st1_3 t) fullShare ((dat1 V c).after 3 t)
    ∗ owns (c : Thread nD τ) (st1_4 t) fullShare ((dat1 V c).after 4 t))

theorem point1 (c : Dev nD) (t : Fin cfg1.N) :
    given1 V c t ⊢ wp frame (wpE (defs₀ (F := F)) Variants.none c none) Set.univ (bodyAt1 t)
      (fun _ => returned1 V c t) := by
  unfold given1 returned1 bodyAt1
  obtain ⟨b0, b1, b2, b3⟩ := before_dat1 V c t
  obtain ⟨e0, e1, e2, e3, e4⟩ := after_dat1 V c t
  simp only [b0, b1, b2, b3]
  rw [show (dat1 V c).Φ t.succ = (dat1 V c).Φ t.castSucc from rfl,
    show (dat1 V c).owesAt () t.succ = (dat1 V c).owesAt () t.castSucc from rfl, e0, e1, e2, e3, e4]
  iintro ⟨HΦ, Ho, ⟨%d0, H0⟩, ⟨%d1, H1⟩, ⟨%d2, H2⟩, ⟨%d3, H3⟩, ⟨%d4, H4⟩⟩
  iapply (run1 c Set.univ (grid1.coords t) _ _ _ _ _ _ _ _ _ _ (block1 V c 0 t) (block1 V c 1 t)
    (block1 V c 2 t) (block1 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 1, at every point. -/
theorem obligation1 (c : Dev nD) : BodyObligation (dat1 (F := F) V c) (defs₀ (F := F)) Variants.none () Set.univ := fun t => by
  rw [bigSep_W1, bigSep_W1, show defs₀ (F := F) .tc cfg1.body (cfg1.bodyArgs t (cfg1.slots t)) = bodyAt1 t from by
    unfold defs₀; rw [Defs.onTc_tc]]
  exact triple_restated (point1 V c t) rfl .rfl fun _ => .rfl

/-! ## Region 2: `masked first layer` -/

/-- Window `w`'s block at point `t`, read off its array as the region finds it. -/
def block2 (c : Dev nD) (w : Fin cfg2.W) (t : Fin cfg2.N) :
    ((cfg2.win w).xblock (cfg2.grid.coords t)).Idx → Elt F (cfg2.win w).elt :=
  ((cfg2.win w).blk t).view.read (Elt F) (V c (Proc.devRef .tc (Pipeline.arrRef spec2 w)))

/-- What the body leaves in its output window: the one payload, stored over the whole block. -/
def left2 (s t : Vec F S512x128 .f32) (d : Vec F S512x1 .f32) (w : Vec F S128x64 .f32) : Vec F S512x64 .f32 :=
  View.canon [⟨Rect.unit (s := S512x64) ![0, 0] S512x64.size inb_S512x64_S512x64_0_0,
    k2_pay1 (View.ld w (Rect.unit (s := S128x64) ![0, 0] S128x64.size inb_S128x64_S128x64_0_0))
      (View.ld s (Rect.unit (s := S512x128) ![0, 0] S512x128.size inb_S512x128_S512x128_0_0))
      (View.ld t (Rect.unit (s := S512x128) ![0, 0] S512x128.size inb_S512x128_S512x128_0_0))
      (View.ld d (Rect.unit (s := S512x1) ![0, 0] S512x1.size inb_S512x1_S512x1_0_0))⟩]

set_option maxHeartbeats 1000000 in
/-- The body on whole buffers: the inputs stay, the output ends at `left2` of them. -/
theorem run2 (c : Dev nD) (E : Set ℕ) (i : grid2.Coords) (a1 : Memref sig .tc .vmem S512x128 .f32) (h1 : a1.IsWhole)
    (a2 : Memref sig .tc .vmem S512x128 .f32) (h2 : a2.IsWhole) (a3 : Memref sig .tc .vmem S512x1 .f32) (h3 : a3.IsWhole)
    (a4 : Memref sig .tc .vmem S128x64 .f32) (h4 : a4.IsWhole) (a5 : Memref sig .tc .vmem S512x64 .f32) (h5 : a5.IsWhole)
    (x0 x1 : Vec F S512x128 .f32) (x2 : Vec F S512x1 .f32) (x3 : Vec F S128x64 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3
        ∗ (∃ d, owns (c : Thread nD τ) a5 fullShare d)
        ∗ (iprop(owns (c : Thread nD τ) a1 fullShare x0 ∗ owns (c : Thread nD τ) a2 fullShare x1
          ∗ owns (c : Thread nD τ) a3 fullShare x2 ∗ owns (c : Thread nD τ) a4 fullShare x3
          ∗ owns (c : Thread nD τ) a5 fullShare (left2 x0 x1 x2 x3)) -∗ K ⟨⟩))
      ⊢ wp frame (wpE (defs₀ (F := F)) Variants.none c none) E (cc2_body i a1 h1 a2 h2 a3 h3 a4 h4 a5 h5) K := by
  simp only [cc2_body_eq_skeleton]; unfold cc2_body_skel
  unfold owns
  iintro ⟨⟨%f0, %e0, H0⟩, ⟨%f1, %e1, H1⟩, ⟨%f2, %e2, H2⟩, ⟨%f3, %e3, H3⟩, ⟨%d4, %f4, -, H4⟩, Hk⟩
  subst e0 e1 e2 e3
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H4
  ipureintro
  exact View.read_writes_eq_canon _ _ _ (View.cover_of_tiled _ S512x64.size (by rfl))

/-- The region's proof data on core `c`: each input keeps its block, the output ends at `left2` of them. -/
def dat2 (c : Dev nD) : Dat τ (Elt F) Unit ℕ (UR sig nD τ) ℕ cfg2 c where
  A w := V c (Proc.devRef .tc (Pipeline.arrRef spec2 w))
  after w t := match w with
    | ⟨0, _⟩ => block2 V c 0 t
    | ⟨1, _⟩ => block2 V c 1 t
    | ⟨2, _⟩ => block2 V c 2 t
    | ⟨3, _⟩ => block2 V c 3 t
    | ⟨4, _⟩ => left2 (block2 V c 0 t) (block2 V c 1 t) (block2 V c 2 t) (block2 V c 3 t)
  Φ _ := Pipeline.ΦA spec2 c
  q _ := fullShare
  owed _ := 0

theorem A_dat2 (c : Dev nD) (w : Fin cfg2.W) :
    (dat2 V c).A w = V c (Proc.devRef .tc (Pipeline.arrRef spec2 w)) := by dsimp only [dat2]

theorem after_dat2 (c : Dev nD) (t : Fin cfg2.N) :
    (dat2 V c).after 0 t = block2 V c 0 t ∧ (dat2 V c).after 1 t = block2 V c 1 t
      ∧ (dat2 V c).after 2 t = block2 V c 2 t ∧ (dat2 V c).after 3 t = block2 V c 3 t
      ∧ (dat2 V c).after 4 t = left2 (block2 V c 0 t) (block2 V c 1 t) (block2 V c 2 t) (block2 V c 3 t) := by
  dsimp only [dat2]; exact ⟨rfl, rfl, rfl, rfl, rfl⟩

/-- An input window's buffer holds its block at every point, fetched there or not. -/
theorem before_dat2 (c : Dev nD) (t : Fin cfg2.N) :
    (∀ d, (dat2 V c).before 0 t d = block2 V c 0 t) ∧ (∀ d, (dat2 V c).before 1 t d = block2 V c 1 t)
      ∧ (∀ d, (dat2 V c).before 2 t d = block2 V c 2 t) ∧ (∀ d, (dat2 V c).before 3 t d = block2 V c 3 t) := by
  refine ⟨fun d => ?_, fun d => ?_, fun d => ?_, fun d => ?_⟩
  · refine ((dat2 V c).before_in_eq_fetched 0 rfl (fun _ => rfl) (fun _ _ _ => rfl) (fun t => ?_) t d).trans ?_
    · rw [(after_dat2 V c t).1]; unfold Dat.blockOf block2; rw [A_dat2]; try rfl
    · unfold Dat.fetched Dat.blockOf block2; rw [A_dat2]; try rfl
  · refine ((dat2 V c).before_in_eq_fetched 1 rfl (fun _ => rfl) (fun _ _ _ => rfl) (fun t => ?_) t d).trans ?_
    · rw [(after_dat2 V c t).2.1]; unfold Dat.blockOf block2; rw [A_dat2]; try rfl
    · unfold Dat.fetched Dat.blockOf block2; rw [A_dat2]; try rfl
  · refine ((dat2 V c).before_in_eq_fetched 2 rfl (fun _ => rfl) (fun _ _ _ => rfl) (fun t => ?_) t d).trans ?_
    · rw [(after_dat2 V c t).2.2.1]; unfold Dat.blockOf block2; rw [A_dat2]; try rfl
    · unfold Dat.fetched Dat.blockOf block2; rw [A_dat2]; try rfl
  · refine ((dat2 V c).before_in_eq_fetched 3 rfl (fun _ => rfl) (fun _ _ _ => rfl) (fun t => ?_) t d).trans ?_
    · rw [(after_dat2 V c t).2.2.2.1]; unfold Dat.blockOf block2; rw [A_dat2]; try rfl
    · unfold Dat.fetched Dat.blockOf block2; rw [A_dat2]; try rfl

/-- What the body is called with at point `t`, and what it returns. -/
def given2 (c : Dev nD) (t : Fin cfg2.N) : sProp 𝕄 :=
  iprop((dat2 V c).Φ t.castSucc ∗ (dat2 V c).owesAt () t.castSucc
    ∗ (∃ d, owns (c : Thread nD τ) (st2_0 t) fullShare ((dat2 V c).before 0 t d))
    ∗ (∃ d, owns (c : Thread nD τ) (st2_1 t) fullShare ((dat2 V c).before 1 t d))
    ∗ (∃ d, owns (c : Thread nD τ) (st2_2 t) fullShare ((dat2 V c).before 2 t d))
    ∗ (∃ d, owns (c : Thread nD τ) (st2_3 t) fullShare ((dat2 V c).before 3 t d))
    ∗ (∃ d, owns (c : Thread nD τ) (st2_4 t) fullShare ((dat2 V c).before 4 t d)))

@[inherit_doc given2] def returned2 (c : Dev nD) (t : Fin cfg2.N) : sProp 𝕄 :=
  iprop((dat2 V c).Φ t.succ ∗ (dat2 V c).owesAt () t.succ
    ∗ owns (c : Thread nD τ) (st2_0 t) fullShare ((dat2 V c).after 0 t)
    ∗ owns (c : Thread nD τ) (st2_1 t) fullShare ((dat2 V c).after 1 t)
    ∗ owns (c : Thread nD τ) (st2_2 t) fullShare ((dat2 V c).after 2 t)
    ∗ owns (c : Thread nD τ) (st2_3 t) fullShare ((dat2 V c).after 3 t)
    ∗ owns (c : Thread nD τ) (st2_4 t) fullShare ((dat2 V c).after 4 t))

theorem point2 (c : Dev nD) (t : Fin cfg2.N) :
    given2 V c t ⊢ wp frame (wpE (defs₀ (F := F)) Variants.none c none) Set.univ (bodyAt2 t)
      (fun _ => returned2 V c t) := by
  unfold given2 returned2 bodyAt2
  obtain ⟨b0, b1, b2, b3⟩ := before_dat2 V c t
  obtain ⟨e0, e1, e2, e3, e4⟩ := after_dat2 V c t
  simp only [b0, b1, b2, b3]
  rw [show (dat2 V c).Φ t.succ = (dat2 V c).Φ t.castSucc from rfl,
    show (dat2 V c).owesAt () t.succ = (dat2 V c).owesAt () t.castSucc from rfl, e0, e1, e2, e3, e4]
  iintro ⟨HΦ, Ho, ⟨%d0, H0⟩, ⟨%d1, H1⟩, ⟨%d2, H2⟩, ⟨%d3, H3⟩, ⟨%d4, H4⟩⟩
  iapply (run2 c Set.univ (grid2.coords t) _ _ _ _ _ _ _ _ _ _ (block2 V c 0 t) (block2 V c 1 t)
    (block2 V c 2 t) (block2 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 2, at every point. -/
theorem obligation2 (c : Dev nD) : BodyObligation (dat2 (F := F) V c) (defs₀ (F := F)) Variants.none () Set.univ := fun t => by
  rw [bigSep_W2, bigSep_W2, show defs₀ (F := F) .tc cfg2.body (cfg2.bodyArgs t (cfg2.slots t)) = bodyAt2 t from by
    unfold defs₀; rw [Defs.onTc_tc]]
  exact triple_restated (point2 V c t) rfl .rfl fun _ => .rfl

/-! ## Region 3: `masked second layer` -/

/-- Window `w`'s block at point `t`, read off its array as the region finds it. -/
def block3 (c : Dev nD) (w : Fin cfg3.W) (t : Fin cfg3.N) :
    ((cfg3.win w).xblock (cfg3.grid.coords t)).Idx → Elt F (cfg3.win w).elt :=
  ((cfg3.win w).blk t).view.read (Elt F) (V c (Proc.devRef .tc (Pipeline.arrRef spec3 w)))

/-- What the body leaves in its output window: the one payload, stored over the whole block. -/
def left3 (s t : Vec F S512x64 .f32) (d : Vec F S512x1 .f32) (w : Vec F S64x64 .f32) : Vec F S512x64 .f32 :=
  View.canon [⟨Rect.unit (s := S512x64) ![0, 0] S512x64.size inb_S512x64_S512x64_0_0,
    k3_pay1 (View.ld w (Rect.unit (s := S64x64) ![0, 0] S64x64.size inb_S64x64_S64x64_0_0))
      (View.ld s (Rect.unit (s := S512x64) ![0, 0] S512x64.size inb_S512x64_S512x64_0_0))
      (View.ld t (Rect.unit (s := S512x64) ![0, 0] S512x64.size inb_S512x64_S512x64_0_0))
      (View.ld d (Rect.unit (s := S512x1) ![0, 0] S512x1.size inb_S512x1_S512x1_0_0))⟩]

set_option maxHeartbeats 1000000 in
/-- The body on whole buffers: the inputs stay, the output ends at `left3` of them. -/
theorem run3 (c : Dev nD) (E : Set ℕ) (i : grid3.Coords) (a1 : Memref sig .tc .vmem S512x64 .f32) (h1 : a1.IsWhole)
    (a2 : Memref sig .tc .vmem S512x64 .f32) (h2 : a2.IsWhole) (a3 : Memref sig .tc .vmem S512x1 .f32) (h3 : a3.IsWhole)
    (a4 : Memref sig .tc .vmem S64x64 .f32) (h4 : a4.IsWhole) (a5 : Memref sig .tc .vmem S512x64 .f32) (h5 : a5.IsWhole)
    (x0 x1 : Vec F S512x64 .f32) (x2 : Vec F S512x1 .f32) (x3 : Vec F S64x64 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3
        ∗ (∃ d, owns (c : Thread nD τ) a5 fullShare d)
        ∗ (iprop(owns (c : Thread nD τ) a1 fullShare x0 ∗ owns (c : Thread nD τ) a2 fullShare x1
          ∗ owns (c : Thread nD τ) a3 fullShare x2 ∗ owns (c : Thread nD τ) a4 fullShare x3
          ∗ owns (c : Thread nD τ) a5 fullShare (left3 x0 x1 x2 x3)) -∗ K ⟨⟩))
      ⊢ wp frame (wpE (defs₀ (F := F)) Variants.none c none) E (cc3_body i a1 h1 a2 h2 a3 h3 a4 h4 a5 h5) K := by
  simp only [cc3_body_eq_skeleton]; unfold cc3_body_skel
  unfold owns
  iintro ⟨⟨%f0, %e0, H0⟩, ⟨%f1, %e1, H1⟩, ⟨%f2, %e2, H2⟩, ⟨%f3, %e3, H3⟩, ⟨%d4, %f4, -, H4⟩, Hk⟩
  subst e0 e1 e2 e3
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  iexists _; isplitr
  swap; · iexact H4
  ipureintro
  exact View.read_writes_eq_canon _ _ _ (View.cover_of_tiled _ S512x64.size (by rfl))

/-- The region's proof data on core `c`: each input keeps its block, the output ends at `left3` of them. -/
def dat3 (c : Dev nD) : Dat τ (Elt F) Unit ℕ (UR sig nD τ) ℕ cfg3 c where
  A w := V c (Proc.devRef .tc (Pipeline.arrRef spec3 w))
  after w t := match w with
    | ⟨0, _⟩ => block3 V c 0 t
    | ⟨1, _⟩ => block3 V c 1 t
    | ⟨2, _⟩ => block3 V c 2 t
    | ⟨3, _⟩ => block3 V c 3 t
    | ⟨4, _⟩ => left3 (block3 V c 0 t) (block3 V c 1 t) (block3 V c 2 t) (block3 V c 3 t)
  Φ _ := Pipeline.ΦA spec3 c
  q _ := fullShare
  owed _ := 0

theorem A_dat3 (c : Dev nD) (w : Fin cfg3.W) :
    (dat3 V c).A w = V c (Proc.devRef .tc (Pipeline.arrRef spec3 w)) := by dsimp only [dat3]

theorem after_dat3 (c : Dev nD) (t : Fin cfg3.N) :
    (dat3 V c).after 0 t = block3 V c 0 t ∧ (dat3 V c).after 1 t = block3 V c 1 t
      ∧ (dat3 V c).after 2 t = block3 V c 2 t ∧ (dat3 V c).after 3 t = block3 V c 3 t
      ∧ (dat3 V c).after 4 t = left3 (block3 V c 0 t) (block3 V c 1 t) (block3 V c 2 t) (block3 V c 3 t) := by
  dsimp only [dat3]; exact ⟨rfl, rfl, rfl, rfl, rfl⟩

/-- An input window's buffer holds its block at every point, fetched there or not. -/
theorem before_dat3 (c : Dev nD) (t : Fin cfg3.N) :
    (∀ d, (dat3 V c).before 0 t d = block3 V c 0 t) ∧ (∀ d, (dat3 V c).before 1 t d = block3 V c 1 t)
      ∧ (∀ d, (dat3 V c).before 2 t d = block3 V c 2 t) ∧ (∀ d, (dat3 V c).before 3 t d = block3 V c 3 t) := by
  refine ⟨fun d => ?_, fun d => ?_, fun d => ?_, fun d => ?_⟩
  · refine ((dat3 V c).before_in_eq_fetched 0 rfl (fun _ => rfl) (fun _ _ _ => rfl) (fun t => ?_) t d).trans ?_
    · rw [(after_dat3 V c t).1]; unfold Dat.blockOf block3; rw [A_dat3]; try rfl
    · unfold Dat.fetched Dat.blockOf block3; rw [A_dat3]; try rfl
  · refine ((dat3 V c).before_in_eq_fetched 1 rfl (fun _ => rfl) (fun _ _ _ => rfl) (fun t => ?_) t d).trans ?_
    · rw [(after_dat3 V c t).2.1]; unfold Dat.blockOf block3; rw [A_dat3]; try rfl
    · unfold Dat.fetched Dat.blockOf block3; rw [A_dat3]; try rfl
  · refine ((dat3 V c).before_in_eq_fetched 2 rfl (fun _ => rfl) (fun _ _ _ => rfl) (fun t => ?_) t d).trans ?_
    · rw [(after_dat3 V c t).2.2.1]; unfold Dat.blockOf block3; rw [A_dat3]; try rfl
    · unfold Dat.fetched Dat.blockOf block3; rw [A_dat3]; try rfl
  · refine ((dat3 V c).before_in_eq_fetched 3 rfl (fun _ => rfl) (fun _ _ _ => rfl) (fun t => ?_) t d).trans ?_
    · rw [(after_dat3 V c t).2.2.2.1]; unfold Dat.blockOf block3; rw [A_dat3]; try rfl
    · unfold Dat.fetched Dat.blockOf block3; rw [A_dat3]; try rfl

/-- What the body is called with at point `t`, and what it returns. -/
def given3 (c : Dev nD) (t : Fin cfg3.N) : sProp 𝕄 :=
  iprop((dat3 V c).Φ t.castSucc ∗ (dat3 V c).owesAt () t.castSucc
    ∗ (∃ d, owns (c : Thread nD τ) (st3_0 t) fullShare ((dat3 V c).before 0 t d))
    ∗ (∃ d, owns (c : Thread nD τ) (st3_1 t) fullShare ((dat3 V c).before 1 t d))
    ∗ (∃ d, owns (c : Thread nD τ) (st3_2 t) fullShare ((dat3 V c).before 2 t d))
    ∗ (∃ d, owns (c : Thread nD τ) (st3_3 t) fullShare ((dat3 V c).before 3 t d))
    ∗ (∃ d, owns (c : Thread nD τ) (st3_4 t) fullShare ((dat3 V c).before 4 t d)))

@[inherit_doc given3] def returned3 (c : Dev nD) (t : Fin cfg3.N) : sProp 𝕄 :=
  iprop((dat3 V c).Φ t.succ ∗ (dat3 V c).owesAt () t.succ
    ∗ owns (c : Thread nD τ) (st3_0 t) fullShare ((dat3 V c).after 0 t)
    ∗ owns (c : Thread nD τ) (st3_1 t) fullShare ((dat3 V c).after 1 t)
    ∗ owns (c : Thread nD τ) (st3_2 t) fullShare ((dat3 V c).after 2 t)
    ∗ owns (c : Thread nD τ) (st3_3 t) fullShare ((dat3 V c).after 3 t)
    ∗ owns (c : Thread nD τ) (st3_4 t) fullShare ((dat3 V c).after 4 t))

theorem point3 (c : Dev nD) (t : Fin cfg3.N) :
    given3 V c t ⊢ wp frame (wpE (defs₀ (F := F)) Variants.none c none) Set.univ (bodyAt3 t)
      (fun _ => returned3 V c t) := by
  unfold given3 returned3 bodyAt3
  obtain ⟨b0, b1, b2, b3⟩ := before_dat3 V c t
  obtain ⟨e0, e1, e2, e3, e4⟩ := after_dat3 V c t
  simp only [b0, b1, b2, b3]
  rw [show (dat3 V c).Φ t.succ = (dat3 V c).Φ t.castSucc from rfl,
    show (dat3 V c).owesAt () t.succ = (dat3 V c).owesAt () t.castSucc from rfl, e0, e1, e2, e3, e4]
  iintro ⟨HΦ, Ho, ⟨%d0, H0⟩, ⟨%d1, H1⟩, ⟨%d2, H2⟩, ⟨%d3, H3⟩, ⟨%d4, H4⟩⟩
  iapply (run3 c Set.univ (grid3.coords t) _ _ _ _ _ _ _ _ _ _ (block3 V c 0 t) (block3 V c 1 t)
    (block3 V c 2 t) (block3 V c 3 t) _)
  isplitl [H0]; · iexact H0
  isplitl [H1]; · iexact H1
  isplitl [H2]; · iexact H2
  isplitl [H3]; · iexact H3
  isplitl [H4]; · iexists _; iexact H4
  iintro ⟨H0, H1, H2, H3, H4⟩
  isplitl [HΦ]; · iexact HΦ
  isplitl [Ho]; · iexact Ho
  isplitl [H0]; · iexact H0
  isplitl [H1]; · iexact H1
  isplitl [H2]; · iexact H2
  isplitl [H3]; · iexact H3
  iexact H4

/-- The body obligation of region 3, at every point. -/
theorem obligation3 (c : Dev nD) : BodyObligation (dat3 (F := F) V c) (defs₀ (F := F)) Variants.none () Set.univ := fun t => by
  rw [bigSep_W3, bigSep_W3, show defs₀ (F := F) .tc cfg3.body (cfg3.bodyArgs t (cfg3.slots t)) = bodyAt3 t from by
    unfold defs₀; rw [Defs.onTc_tc]]
  exact triple_restated (point3 V c t) rfl .rfl fun _ => .rfl

end Cert.KernelIdeal.Body

end
-- ==== Proof.SweepI.lean ====
/-
  The body of the decoder sweep of `KernelIdeal` (region 4), at any point of its grid, at the contents `V` the region is
  entered with. The output block [32, 128] stays in place over the whole grid and point `t` stores row `t` of it alone, so
  what the body leaves there is said of the rows up to `t`: each is the payload of its own point.
-/
module

public import proofs.«01_k».proof.Proof.Gen.KernelIdeal.Launch
public import proofs.«01_k».proof.Proof.Gen.KernelIdeal.Skeleton
public import proofs.«01_k».proof.Proof.Gen.KernelIdeal.Points
public import Idealize.ShloMosaic.Lib.Pipeline.FrameBody
public import Idealize.ShloMosaic.Lib.Pipeline.DatRel
public import Idealize.ShloMosaic.Lib.Pipeline.ArrRel
public import Idealize.ShloMosaic.Lib.WritesUnit
public import Idealize.ShloMosaic.Lib.ValueIdxCore
public import Idealize.ShloMosaic.Lib.Tactic
public import Idealize.ShloMosaic.Lib.WordCmp

@[expose] public section

-- a rectangle of production extents is decided one coordinate at a time
set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)
open Idealize.ShloMosaic.ValueIdx
open Cert.KernelIdeal.Gen

variable {F : FTy → Type} [FloatOps F]

local notation "𝕄" => MT nD τ sig Unit (Elt F) ℕ (UR sig nD τ) ℕ

variable (V : Dev nD → Valuation τ sig (Elt F))

/-! ## Region 4: the decoder sweep -/

/-- Window `w`'s block at point `t`, read off its array as the region finds it. -/
def block4 (c : Dev nD) (w : Fin cfg4.W) (t : Fin cfg4.N) :
    ((cfg4.win w).xblock (cfg4.grid.coords t)).Idx → Elt F (cfg4.win w).elt :=
  ((cfg4.win w).blk t).view.read (Elt F) (V c (Proc.devRef .tc (Pipeline.arrRef spec4 w)))

/-- The row the body stores at grid point `i`: the two sums of the cross entropy, the masked sum and the divergence sum. -/
def row4 (i : grid4.Coords) (z : Vec F S128x16 .f32) (zt : Vec F S16x4096 .f32) (zm : Vec F S8x4096 .f32)
    (mu lv : Vec F S128x16 .f32) (org : Vec F S128x4096 .f32) : FVec F S1x128 .f32 :=
  k4_pay1
    (k4_pay5 (View.ld z (Rect.unit (s := S128x16) ![0, 0] S128x16.size inb_S128x16_S128x16_0_0))
      (View.ld zt (Rect.unit (s := S16x4096) ![0, 0] S16x4096.size inb_S16x4096_S16x4096_0_0)))
    (k4_pay6 i (View.ld z (Rect.unit (s := S128x16) ![0, 0] S128x16.size inb_S128x16_S128x16_0_0))
      (View.ld zt (Rect.unit (s := S16x4096) ![0, 0] S16x4096.size inb_S16x4096_S16x4096_0_0))
      (View.ld org (Rect.unit (s := S128x4096) ![0, 0] S128x4096.size inb_S128x4096_S128x4096_0_0)))
    (k4_pay7 (View.ld z (Rect.unit (s := S128x16) ![0, 0] S128x16.size inb_S128x16_S128x16_0_0))
      (View.ld zm (Rect.unit (s := S8x4096) ![0, 0] S8x4096.size inb_S8x4096_S8x4096_0_0)))
    (View.ld mu (Rect.unit (s := S128x16) ![0, 0] S128x16.size inb_S128x16_S128x16_0_0))
    (View.ld lv (Rect.unit (s := S128x16) ![0, 0] S128x16.size inb_S128x16_S128x16_0_0))

/-- The offset of the stored row is the grid coordinate. -/
theorem off4 (i : grid4.Coords) : k4_off1 i = ![(i 0).val, 0] := by
  have h : (i 0).val < 32 := (i 0).isLt
  unfold k4_off1
  funext a
  match a with
  | 0 => simp [Scalar.indexCast]; omega
  | 1 => rfl

/-- What the body leaves in the output block, from what it found there: row `i` is the payload, the others stay. -/
theorem stored4 {κ : Kind} {sp : Space} (v : View sig κ sp S32x128 .f32) (f : v.ty.Contents (Elt F)) (i : grid4.Coords)
    (p : FVec F S1x128 .f32) (y : S32x128.Idx) :
    v.read (Elt F) (v.writes (Elt F) f [⟨Rect.unit (s := S32x128) (k4_off1 i) S1x128.size (k4_off1_inb i), p⟩]) y
      = if (y 0).val = (i 0).val then p (ix2 0 (y 1)) else v.read (Elt F) f y := by
  split
  · rename_i h
    refine View.read_writes_cons_rows_of_mem v f (k4_off1_inb i) p [] y (ix2 0 (y 1)) (off4 i) ?_ ?_
    · simpa using h
    · rfl
  · rename_i h
    rw [View.read_writes_cons_rows_of_not_mem v f (k4_off1_inb i) p [] y (o := (i 0).val) (W := 1) (off4 i) rfl (by omega)]
    rfl

set_option maxHeartbeats 2000000 in
/-- The body on whole buffers: the inputs stay, row `i` of the output ends at `row4` of them and its other rows stay. -/
theorem run4 (c : Dev nD) (E : Set ℕ) (i : grid4.Coords) (a1 : Memref sig .tc .vmem S128x16 .f32) (h1 : a1.IsWhole)
    (a2 : Memref sig .tc .vmem S16x4096 .f32) (h2 : a2.IsWhole) (a3 : Memref sig .tc .vmem S8x4096 .f32) (h3 : a3.IsWhole)
    (a4 : Memref sig .tc .vmem S128x16 .f32) (h4 : a4.IsWhole) (a5 : Memref sig .tc .vmem S128x16 .f32) (h5 : a5.IsWhole)
    (a6 : Memref sig .tc .vmem S128x4096 .f32) (h6 : a6.IsWhole) (a7 : Memref sig .tc .vmem S32x128 .f32) (h7 : a7.IsWhole)
    (x0 : Vec F S128x16 .f32) (x1 : Vec F S16x4096 .f32) (x2 : Vec F S8x4096 .f32) (x3 x4 : Vec F S128x16 .f32)
    (x5 : Vec F S128x4096 .f32) (d : Vec F S32x128 .f32) (K : PUnit → sProp 𝕄) :
    iprop(owns (c : Thread nD τ) a1 fullShare x0 ∗ owns (c : Thread nD τ) a2 fullShare x1
        ∗ owns (c : Thread nD τ) a3 fullShare x2 ∗ owns (c : Thread nD τ) a4 fullShare x3
        ∗ owns (c : Thread nD τ) a5 fullShare x4 ∗ owns (c : Thread nD τ) a6 fullShare x5
        ∗ owns (c : Thread nD τ) a7 fullShare d
        ∗ (iprop(owns (c : Thread nD τ) a1 fullShare x0 ∗ owns (c : Thread nD τ) a2 fullShare x1
          ∗ owns (c : Thread nD τ) a3 fullShare x2 ∗ owns (c : Thread nD τ) a4 fullShare x3
          ∗ owns (c : Thread nD τ) a5 fullShare x4 ∗ owns (c : Thread nD τ) a6 fullShare x5
          ∗ owns (c : Thread nD τ) a7 fullShare (fun y : S32x128.Idx =>
              if (y 0).val = (i 0).val then row4 i x0 x1 x2 x3 x4 x5 (ix2 0 (y 1)) else d y)) -∗ K ⟨⟩))
      ⊢ wp frame (wpE (defs₀ (F := F)) Variants.none c none) E
        (cc4__sweep_body i a1 h1 a2 h2 a3 h3 a4 h4 a5 h5 a6 h6 a7 h7) K := by
  simp only [cc4__sweep_body_eq_skeleton, k4_part1_eq_skeleton]; unfold cc4__sweep_body_skel
  simp only [k4_part1_eq_skeleton]; unfold k4_part1_skel
  unfold owns
  iintro ⟨⟨%f0, %e0, H0⟩, ⟨%f1, %e1, H1⟩, ⟨%f2, %e2, H2⟩, ⟨%f3, %e3, H3⟩, ⟨%f4, %e4, H4⟩, ⟨%f5, %e5, H5⟩, ⟨%f6, %e6, H6⟩, Hk⟩
  subst e0 e1 e2 e3 e4 e5 e6
  sl_exec
  sl_step
  iapply Hk
  isplitl [H0]; · iexists f0; isplitr; · ipureintro; rfl
                  iexact H0
  isplitl [H1]; · iexists f1; isplitr; · ipureintro; rfl
                  iexact H1
  isplitl [H2]; · iexists f2; isplitr; · ipureintro; rfl
                  iexact H2
  isplitl [H3]; · iexists f3; isplitr; · ipureintro; rfl
                  iexact H3
  isplitl [H4]; · iexists f4; isplitr; · ipureintro; rfl
                  iexact H4
  isplitl [H5]; · iexists f5; isplitr; · ipureintro; rfl
                  iexact H5
  iexists _; isplitr
  swap; · iexact H6
  ipureintro
  exact funext fun y => stored4 _ _ i _ y

/-! ### The region's proof data -/

/-- Grid point `r`, the one that stores row `r`. -/
def pt4 (r : Fin 32) : Fin cfg4.N := ⟨r.val, lt_of_lt_of_eq r.isLt N_4.symm⟩

/-- The row stored at point `t`, from the blocks the region is entered with. -/
def payload4 (c : Dev nD) (t : Fin cfg4.N) : FVec F S1x128 .f32 :=
  row4 (grid4.coords t) (block4 V c 0 t) (block4 V c 1 t) (block4 V c 2 t) (block4 V c 3 t) (block4 V c 4 t) (block4 V c 5 t)

/-- The whole output array after the sweep: row `t` is the payload of grid point `t`. -/
def rows4 (c : Dev nD) : Vec F S32x128 .f32 := fun y => payload4 V c (pt4 (y 0)) (ix2 0 (y 1))

/-- The exact part of the proof data on core `c`: each input keeps its block; the output's entry here is read only at the last point. -/
def dat4 (c : Dev nD) : Dat τ (Elt F) Unit ℕ (UR sig nD τ) ℕ cfg4 c where
  A w := V c (Proc.devRef .tc (Pipeline.arrRef spec4 w))
  after w t := match w with
    | ⟨0, _⟩ => block4 V c 0 t
    | ⟨1, _⟩ => block4 V c 1 t
    | ⟨2, _⟩ => block4 V c 2 t
    | ⟨3, _⟩ => block4 V c 3 t
    | ⟨4, _⟩ => block4 V c 4 t
    | ⟨5, _⟩ => block4 V c 5 t
    | ⟨6, _⟩ => rows4 V c
  Φ _ := Pipeline.ΦA spec4 c
  q _ := fullShare
  owed _ := 0

/-- The one window whose contents are held to a predicate. -/
abbrev held4 : Fin cfg4.W → Bool
  | ⟨6, _⟩ => true
  | _ => false

/-- What is known of the output block after point `t`: its rows up to `t` are the payloads. -/
def Rows4 (c : Dev nD) : (w : Fin cfg4.W) → Fin cfg4.N → ((cfg4.win w).block.Idx → Elt F (cfg4.win w).elt) → Prop
  | ⟨6, _⟩, t, X => ∀ y : S32x128.Idx, (y 0).val ≤ t.val → (show Vec F S32x128 .f32 from X) y = rows4 V c y
  | _, _, _ => True

/-- The region's proof data. -/
abbrev rdat4 (c : Dev nD) : Pipeline.RDat τ (Elt F) Unit ℕ (UR sig nD τ) ℕ cfg4 c := (dat4 V c).toRRel held4 (Rows4 V c)

theorem A_dat4 (c : Dev nD) (w : Fin cfg4.W) :
    (dat4 V c).A w = V c (Proc.devRef .tc (Pipeline.arrRef spec4 w)) := by dsimp only [dat4]

theorem after_dat4 (c : Dev nD) (t : Fin cfg4.N) :
    (dat4 V c).after 0 t = block4 V c 0 t ∧ (dat4 V c).after 1 t = block4 V c 1 t
      ∧ (dat4 V c).after 2 t = block4 V c 2 t ∧ (dat4 V c).after 3 t = block4 V c 3 t
      ∧ (dat4 V c).after 4 t = block4 V c 4 t ∧ (dat4 V c).after 5 t = block4 V c 5 t := by
  dsimp only [dat4]; exact ⟨rfl, rfl, rfl, rfl, rfl, rfl⟩

/-- An input window's buffer holds its block at every point, fetched there or not. -/
theorem before_dat4 (c : Dev nD) (t : Fin cfg4.N) :
    (∀ d, (dat4 V c).before 0 t d = block4 V c 0 t) ∧ (∀ d, (dat4 V c).before 1 t d = block4 V c 1 t)
      ∧ (∀ d, (dat4 V c).before 2 t d = block4 V c 2 t) ∧ (∀ d, (dat4 V c).before 3 t d = block4 V c 3 t)
      ∧ (∀ d, (dat4 V c).before 4 t d = block4 V c 4 t) ∧ (∀ d, (dat4 V c).before 5 t d = block4 V c 5 t) := by
  refine ⟨fun d => ?_, fun d => ?_, fun d => ?_, fun d => ?_, fun d => ?_, fun d => ?_⟩
  · refine ((dat4 V c).before_in_eq_fetched 0 rfl (fun _ => rfl) (fun _ _ _ => rfl) (fun t => ?_) t d).trans ?_
    · rw [(after_dat4 V c t).1]; unfold Dat.blockOf block4; rw [A_dat4]; try rfl
    · unfold Dat.fetched Dat.blockOf block4; rw [A_dat4]; try rfl
  · refine ((dat4 V c).before_in_eq_fetched 1 rfl (fun _ => rfl) (fun _ _ _ => rfl) (fun t => ?_) t d).trans ?_
    · rw [(after_dat4 V c t).2.1]; unfold Dat.blockOf block4; rw [A_dat4]; try rfl
    · unfold Dat.fetched Dat.blockOf block4; rw [A_dat4]; try rfl
  · refine ((dat4 V c).before_in_eq_fetched 2 rfl (fun _ => rfl) (fun _ _ _ => rfl) (fun t => ?_) t d).trans ?_
    · rw [(after_dat4 V c t).2.2.1]; unfold Dat.blockOf block4; rw [A_dat4]; try rfl
    · unfold Dat.fetched Dat.blockOf block4; rw [A_dat4]; try rfl
  · refine ((dat4 V c).before_in_eq_fetched 3 rfl (fun _ => rfl) (fun _ _ _ => rfl) (fun t => ?_) t d).trans ?_
    · rw [(after_dat4 V c t).2.2.2.1]; unfold Dat.blockOf block4; rw [A_dat4]; try rfl
    · unfold Dat.fetched Dat.blockOf block4; rw [A_dat4]; try rfl
  · refine ((dat4 V c).before_in_eq_fetched 4 rfl (fun _ => rfl) (fun _ _ _ => rfl) (fun t => ?_) t d).trans ?_
    · rw [(after_dat4 V c t).2.2.2.2.1]; unfold Dat.blockOf block4; rw [A_dat4]; try rfl
    · unfold Dat.fetched Dat.blockOf block4; rw [A_dat4]; try rfl
  · refine ((dat4 V c).before_in_eq_fetched 5 rfl (fun _ => rfl) (fun _ _ _ => rfl) (fun t => ?_) t d).trans ?_
    · rw [(after_dat4 V c t).2.2.2.2.2]; unfold Dat.blockOf block4; rw [A_dat4]; try rfl
    · unfold Dat.fetched Dat.blockOf block4; rw [A_dat4]; try rfl

/-- Before point `t` the rows below `t` of the output block are the payloads of their points. -/
theorem finds4 (c : Dev nD) (t : Fin cfg4.N) (Y : (cfg4.win 6).block.Idx → Elt F (cfg4.win 6).elt)
    (h : (rdat4 V c).Finds 6 t Y) (y : S32x128.Idx) (hy : (y 0).val < t.val) :
    (show Vec F S32x128 .f32 from Y) y = rows4 V c y := by
  have ht : t.val ≠ 0 := by omega
  have hN : t.val < 32 := lt_of_lt_of_eq t.isLt N_4
  rcases ((rdat4 V c).finds_of_pos (w := 6) (t := t) rfl ht Y).mp h with hf | hl
  · have := (flush4_6 _).mp hf
    dsimp only at this
    omega
  · exact (dat4 V c).toRRel_leaves (w := 6) rfl hl y (by dsimp only; omega)

/-- What the body is called with at point `t`, and what it returns. -/
def given4 (c : Dev nD) (t : Fin cfg4.N) : sProp 𝕄 :=
  iprop((dat4 V c).Φ t.castSucc ∗ (dat4 V c).owesAt () t.castSucc
    ∗ (∃ d, owns (c : Thread nD τ) (st4_0 t) fullShare ((dat4 V c).before 0 t d))
    ∗ (∃ d, owns (c : Thread nD τ) (st4_1 t) fullShare ((dat4 V c).before 1 t d))
    ∗ (∃ d, owns (c : Thread nD τ) (st4_2 t) fullShare ((dat4 V c).before 2 t d))
    ∗ (∃ d, owns (c : Thread nD τ) (st4_3 t) fullShare ((dat4 V c).before 3 t d))
    ∗ (∃ d, owns (c : Thread nD τ) (st4_4 t) fullShare ((dat4 V c).before 4 t d))
    ∗ (∃ d, owns (c : Thread nD τ) (st4_5 t) fullShare ((dat4 V c).before 5 t d))
    ∗ (∃ Y, ⌜(rdat4 V c).Finds 6 t Y⌝ ∗ owns (c : Thread nD τ) (st4_6 t) fullShare Y))

@[inherit_doc given4] def returned4 (c : Dev nD) (t : Fin cfg4.N) : sProp 𝕄 :=
  iprop((dat4 V c).Φ t.succ ∗ (dat4 V c).owesAt () t.succ
    ∗ owns (c : Thread nD τ) (st4_0 t) fullShare ((dat4 V c).after 0 t)
    ∗ owns (c : Thread nD τ) (st4_1 t) fullShare ((dat4 V c).after 1 t)
    ∗ owns (c : Thread nD τ) (st4_2 t) fullShare ((dat4 V c).after 2 t)
    ∗ owns (c : Thread nD τ) (st4_3 t) fullShare ((dat4 V c).after 3 t)
    ∗ owns (c : Thread nD τ) (st4_4 t) fullShare ((dat4 V c).after 4 t)
    ∗ owns (c : Thread nD τ) (st4_5 t) fullShare ((dat4 V c).after 5 t)
    ∗ (∃ X, ⌜Rows4 V c 6 t X⌝ ∗ owns (c : Thread nD τ) (st4_6 t) fullShare X))

/-- The grid coordinate of point `t` is `t`. -/
theorem coords4 (t : Fin cfg4.N) : ((grid4.coords t) 0).val = t.val := by
  have hN : t.val < 32 := lt_of_lt_of_eq t.isLt N_4
  have hs : grid4.stride 0 = 1 := by decide
  have : (grid4.coords t 0).val = t.val / grid4.stride 0 % 32 := rfl
  rw [hs] at this
  omega

theorem point4 (c : Dev nD) (t : Fin cfg4.N) :
    given4 V c t ⊢ wp frame (wpE (defs₀ (F := F)) Variants.none c none) Set.univ (bodyAt4 t)
      (fun _ => returned4 V c t) := by
  unfold given4 returned4 bodyAt4
  obtain ⟨b0, b1, b2, b3, b4, b5⟩ := before_dat4 V c t
  obtain ⟨e0, e1, e2, e3, e4, e5⟩ := after_dat4 V c t
  simp only [b0, b1, b2, b3, b4, b5]
  rw [show (dat4 V c).Φ t.succ = (dat4 V c).Φ t.castSucc from rfl,
    show (dat4 V c).owesAt () t.succ = (dat4 V c).owesAt () t.castSucc from rfl, e0, e1, e2, e3, e4, e5]
  iintro ⟨HΦ, Ho, ⟨%d0, H0⟩, ⟨%d1, H1⟩, ⟨%d2, H2⟩, ⟨%d3, H3⟩, ⟨%d4, H4⟩, ⟨%d5, H5⟩, ⟨%Y, %hY, H6⟩⟩
  iapply (run4 c Set.univ (grid4.coords t) _ _ _ _ _ _ _ _ _ _ _ _ _ _ (block4 V c 0 t) (block4 V c 1 t)
    (block4 V c 2 t) (block4 V c 3 t) (block4 V c 4 t) (block4 V c 5 t) Y _)
  isplitl [H0]; · iexact H0
  isplitl [H1]; · iexact H1
  isplitl [H2]; · iexact H2
  isplitl [H3]; · iexact H3
  isplitl [H4]; · iexact H4
  isplitl [H5]; · iexact H5
  isplitl [H6]; · iexact H6
  iintro ⟨H0, H1, H2, H3, H4, H5, H6⟩
  isplitl [HΦ]; · iexact HΦ
  isplitl [Ho]; · iexact Ho
  isplitl [H0]; · iexact H0
  isplitl [H1]; · iexact H1
  isplitl [H2]; · iexact H2
  isplitl [H3]; · iexact H3
  isplitl [H4]; · iexact H4
  isplitl [H5]; · iexact H5
  iexists _; isplitr
  swap; · iexact H6
  ipureintro
  intro y hy
  show (if (y 0).val = ((grid4.coords t) 0).val then _ else _) = _
  rw [coords4]
  split
  · rename_i h
    have ht : pt4 (y 0) = t := Fin.ext h
    show payload4 V c t _ = rows4 V c y
    rw [← ht]; rfl
  · rename_i h
    exact finds4 V c t Y hY y (by omega)

/-- The body obligation of region 4, at every point. -/
theorem obligation4 (c : Dev nD) : (rdat4 (F := F) V c).BodyObligation (defs₀ (F := F)) Variants.none () Set.univ := by
  refine Pipeline.BodyObligationRel.toRRel _ (fun t => ?_)
  rw [bigSep_W4, bigSep_W4, show defs₀ (F := F) .tc cfg4.body (cfg4.bodyArgs t (cfg4.slots t)) = bodyAt4 t from by
    unfold defs₀; rw [Defs.onTc_tc]]
  exact triple_restated (point4 V c t) rfl .rfl fun _ => .rfl

/-- After the sweep the output array is what ONE write-back of all the payloads leaves. -/
theorem arrAt4 (c : Dev nD) (G) (h : (rdat4 (F := F) V c).ArrAt 6 cfg4.N G) : G = (dat4 V c).arrAt 6 cfg4.N := by
  obtain ⟨X, hX, hA⟩ := h.exists_exact
  refine (hA (dat4 V c).after fun u hu hf => ?_).trans rfl
  funext y
  have ht : u.val = 31 := by
    have h1 := (flush4_6 u).mp hf
    have h2 : u.val < 32 := lt_of_lt_of_eq u.isLt N_4
    omega
  exact ((dat4 V c).toRRel_leaves (w := 6) rfl (hX u hu hf) y (by rw [ht]; exact Nat.le_of_lt_succ (y 0).isLt)).symm

end Cert.KernelIdeal.Body

end
-- ==== Proof.RunI.lean ====
/-
  @main of `KernelIdeal` from launch to end: its host stretches and its five kernel regions in order, each between two contents of
  the unscoped buffers. The contents after a region are those before it with the region's output array at what the data of
  its body say, so the final contents are one expression in the launch memory; every run ends with them.
-/
module

public import proofs.«01_k».proof.Proof.Region
public import proofs.«01_k».proof.Proof.BodiesI
public import proofs.«01_k».proof.Proof.SweepI
public import proofs.«01_k».proof.Proof.Gen.KernelIdeal.Regions
public import Idealize.ShloMosaic.Lib.Pipeline.Cells
public import Idealize.ShloMosaic.Lib.Pipeline.ArrRel

@[expose] public section

set_option maxRecDepth 16384

noncomputable section

namespace Cert.KernelIdeal.Body

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat RDat Cfg Window BodyObligation cellOf ucRefs arrRef)
open Cert.KernelIdeal.Gen

variable {F : FTy → Type} [FloatOps F]

local notation "𝕄" => MT nD τ sig Unit (Elt F) ℕ (UR sig nD τ) ℕ

variable (m : (ℓ : Loc nD τ sig) → Buf (Elt F) ℓ)

/-! ## What the regions leave -/

/-- The output array of region 0, from the contents before it. -/
def out0 (c : Dev nD) : Buf (Elt F) ((c : Thread nD τ).loc main_v14) :=
  (dat0 (V5 m) c).arrAt 4 cfg0.N

/-- The outputs of the regions up to 0, by the number of the boundary after each. -/
def outs0 : Outs (F := F) := fun J r c => match J with
  | _ => Function.update (V5 m c) main_v14 (out0 m c) r

/-- The output array of region 1, from the contents before it. -/
def out1 (c : Dev nD) : Buf (Elt F) ((c : Thread nD τ).loc main_v24) :=
  (dat1 (V8 m (outs0 m)) c).arrAt 4 cfg1.N

/-- The outputs of the regions up to 1, by the number of the boundary after each. -/
def outs1 : Outs (F := F) := fun J r c => match J with
  | 6 => Function.update (V5 m c) main_v14 (out0 m c) r
  | _ => Function.update (V8 m (outs0 m) c) main_v24 (out1 m c) r

/-- The output array of region 2, from the contents before it. -/
def out2 (c : Dev nD) : Buf (Elt F) ((c : Thread nD τ).loc main_v58) :=
  (dat2 (V12 m (outs1 m)) c).arrAt 4 cfg2.N

/-- The outputs of the regions up to 2, by the number of the boundary after each. -/
def outs2 : Outs (F := F) := fun J r c => match J with
  | 6 => Function.update (V5 m c) main_v14 (out0 m c) r
  | 9 => Function.update (V8 m (outs0 m) c) main_v24 (out1 m c) r
  | _ => Function.update (V12 m (outs1 m) c) main_v58 (out2 m c) r

/-- The output array of region 3, from the contents before it. -/
def out3 (c : Dev nD) : Buf (Elt F) ((c : Thread nD τ).loc main_v65) :=
  (dat3 (V15 m (outs2 m)) c).arrAt 4 cfg3.N

/-- The outputs of the regions up to 3, by the number of the boundary after each. -/
def outs3 : Outs (F := F) := fun J r c => match J with
  | 6 => Function.update (V5 m c) main_v14 (out0 m c) r
  | 9 => Function.update (V8 m (outs0 m) c) main_v24 (out1 m c) r
  | 13 => Function.update (V12 m (outs1 m) c) main_v58 (out2 m c) r
  | _ => Function.update (V15 m (outs2 m) c) main_v65 (out3 m c) r

/-- The output array of region 4, from the contents before it. -/
def out4 (c : Dev nD) : Buf (Elt F) ((c : Thread nD τ).loc main_v92) :=
  (dat4 (V17 m (outs3 m)) c).arrAt 6 cfg4.N

/-- The outputs of the regions up to 4, by the number of the boundary after each. -/
def outs4 : Outs (F := F) := fun J r c => match J with
  | 6 => Function.update (V5 m c) main_v14 (out0 m c) r
  | 9 => Function.update (V8 m (outs0 m) c) main_v24 (out1 m c) r
  | 13 => Function.update (V12 m (outs1 m) c) main_v58 (out2 m c) r
  | 16 => Function.update (V15 m (outs2 m) c) main_v65 (out3 m c) r
  | _ => Function.update (V17 m (outs3 m) c) main_v92 (out4 m c) r

/-- The outputs of all five regions. -/
abbrev outs : Outs (F := F) := outs4 m

theorem outs_0 (c : Dev nD) : outs m 6 main_v14 c = (dat0 (V5 m) c).arrAt 4 cfg0.N := by
  show Function.update (β := fun b : DevRef τ sig => b.ty.Contents (Elt F)) _ (Proc.devRef .tc main_v14) (out0 m c) (Proc.devRef .tc main_v14) = out0 m c
  exact Function.update_self _ _ _

theorem outs_1 (c : Dev nD) : outs m 9 main_v24 c = (dat1 (V8 m (outs m)) c).arrAt 4 cfg1.N := by
  show Function.update (β := fun b : DevRef τ sig => b.ty.Contents (Elt F)) _ (Proc.devRef .tc main_v24) (out1 m c) (Proc.devRef .tc main_v24) = out1 m c
  exact Function.update_self _ _ _

theorem outs_2 (c : Dev nD) : outs m 13 main_v58 c = (dat2 (V12 m (outs m)) c).arrAt 4 cfg2.N := by
  show Function.update (β := fun b : DevRef τ sig => b.ty.Contents (Elt F)) _ (Proc.devRef .tc main_v58) (out2 m c) (Proc.devRef .tc main_v58) = out2 m c
  exact Function.update_self _ _ _

theorem outs_3 (c : Dev nD) : outs m 16 main_v65 c = (dat3 (V15 m (outs m)) c).arrAt 4 cfg3.N := by
  show Function.update (β := fun b : DevRef τ sig => b.ty.Contents (Elt F)) _ (Proc.devRef .tc main_v65) (out3 m c) (Proc.devRef .tc main_v65) = out3 m c
  exact Function.update_self _ _ _

theorem outs_4 (c : Dev nD) : outs m 18 main_v92 c = (dat4 (V17 m (outs m)) c).arrAt 6 cfg4.N := by
  show Function.update (β := fun b : DevRef τ sig => b.ty.Contents (Elt F)) _ (Proc.devRef .tc main_v92) (out4 m c) (Proc.devRef .tc main_v92) = out4 m c
  exact Function.update_self _ _ _

/-! ## The regions as segments -/

/-- The data of the five regions, each from the contents before it; the sweep's is of what its rows may hold. -/
def rdats : (p : Fin 5) → (c : Dev nD) → RDat τ (Elt F) Unit ℕ (UR sig nD τ) ℕ (Pipeline.pin (pcfgs (F := F)) adm p) c
  | ⟨0, _⟩, c => (dat0 (V5 m) c).toR
  | ⟨1, _⟩, c => (dat1 (V8 m (outs m)) c).toR
  | ⟨2, _⟩, c => (dat2 (V12 m (outs m)) c).toR
  | ⟨3, _⟩, c => (dat3 (V15 m (outs m)) c).toR
  | ⟨4, _⟩, c => rdat4 (V17 m (outs m)) c

abbrev 𝒱₀ : Variants := Variants.none
abbrev L : GSem nD τ sig → Finset Unit := fun _ => ∅
abbrev lv : GSem nD τ sig → Unit → ℕ := fun _ _ => 0

/-- At the end of region 0 an input array holds what it held, and the output array what the data say. -/
theorem final0 (V : Dev nD → Valuation τ sig (Elt F)) (c : Dev nD) (X : Buf (Elt F) ((c : Thread nD τ).loc main_v14))
    (hX : X = (dat0 V c).arrAt 4 cfg0.N) (w : Fin cfg0.W) :
    (dat0 V c).arrAt w cfg0.N = Function.update (V c) (Proc.devRef .tc main_v14) X (Proc.devRef .tc (arrRef spec0 w)) := by
  by_cases hw : w = 4
  · subst hw hX; exact (Function.update_self (β := fun b : DevRef τ sig => b.ty.Contents (Elt F)) _ _ _).symm
  · have ho : (cfg0.win w).isOut = false := by revert hw; revert w; decide
    rw [(dat0 V c).arrAt_in w ho, A_dat0 V c w]
    exact (Function.update_of_ne (β := fun b : DevRef τ sig => b.ty.Contents (Elt F))
      (StableHlo.devRef_ne_of_ne fun e => hw (launch0.win.arr_inj e)) _ _).symm

/-- What region 0's arrays may hold at its end is what the contents after it say. -/
theorem exit0 (c : Dev nD) (w : Fin cfg0.W) (G) (h : (dat0 (V5 m) c).toR.ArrAt w cfg0.N G) :
    G = V6 m (outs m) c (Proc.devRef .tc (arrRef spec0 w)) := by
  rw [Dat.toR_arrAt (dat0 (V5 m) c) w cfg0.N G h]
  exact final0 (V5 m) c _ (outs_0 m c) w

theorem rest0 (c : Dev nD) (b : Ref sig .tc) (hb : b ∉ Finset.univ.image (arrRef spec0)) :
    V6 m (outs m) c (Proc.devRef .tc b) = V5 m c (Proc.devRef .tc b) :=
  V6_of m (outs m) c b fun h => hb (List.mem_singleton.mp h ▸ Finset.mem_image.mpr ⟨4, Finset.mem_univ _, rfl⟩)

set_option backward.isDefEq.respectTransparency.types false in
/-- Region 0 as a segment. -/
def reg0 : RDat.RegionSeg (pcfgs (F := F)) adm (rdats m) () defs₀ 𝒱₀ L lv 0 :=
  Cert.Segment.region (pcfgs (F := F)) adm (rdats m) defs₀ 𝒱₀ L lv 0 launch0.win launch0.block_pos launch0.stage_whole
    launch0.arr_whole (inferInstanceAs (IsEmpty (Fin 0)))
    (fun c => (obligation0 (V5 m) c).toR)
    (fun _ => rfl) (fun _ => rfl) (fun _ _ => rfl) (fun _ => rfl) (fun c => RDat.share_full (rdats m 0 c) fun _ => rfl)
    (V5 m) (V6 m (outs m)) (A_dat0 (V5 m)) (exit0 m) (rest0 m)

/-- At the end of region 1 an input array holds what it held, and the output array what the data say. -/
theorem final1 (V : Dev nD → Valuation τ sig (Elt F)) (c : Dev nD) (X : Buf (Elt F) ((c : Thread nD τ).loc main_v24))
    (hX : X = (dat1 V c).arrAt 4 cfg1.N) (w : Fin cfg1.W) :
    (dat1 V c).arrAt w cfg1.N = Function.update (V c) (Proc.devRef .tc main_v24) X (Proc.devRef .tc (arrRef spec1 w)) := by
  by_cases hw : w = 4
  · subst hw hX; exact (Function.update_self (β := fun b : DevRef τ sig => b.ty.Contents (Elt F)) _ _ _).symm
  · have ho : (cfg1.win w).isOut = false := by revert hw; revert w; decide
    rw [(dat1 V c).arrAt_in w ho, A_dat1 V c w]
    exact (Function.update_of_ne (β := fun b : DevRef τ sig => b.ty.Contents (Elt F))
      (StableHlo.devRef_ne_of_ne fun e => hw (launch1.win.arr_inj e)) _ _).symm

/-- What region 1's arrays may hold at its end is what the contents after it say. -/
theorem exit1 (c : Dev nD) (w : Fin cfg1.W) (G) (h : (dat1 (V8 m (outs m)) c).toR.ArrAt w cfg1.N G) :
    G = V9 m (outs m) c (Proc.devRef .tc (arrRef spec1 w)) := by
  rw [Dat.toR_arrAt (dat1 (V8 m (outs m)) c) w cfg1.N G h]
  exact final1 (V8 m (outs m)) c _ (outs_1 m c) w

theorem rest1 (c : Dev nD) (b : Ref sig .tc) (hb : b ∉ Finset.univ.image (arrRef spec1)) :
    V9 m (outs m) c (Proc.devRef .tc b) = V8 m (outs m) c (Proc.devRef .tc b) :=
  V9_of m (outs m) c b fun h => hb (List.mem_singleton.mp h ▸ Finset.mem_image.mpr ⟨4, Finset.mem_univ _, rfl⟩)

set_option backward.isDefEq.respectTransparency.types false in
/-- Region 1 as a segment. -/
def reg1 : RDat.RegionSeg (pcfgs (F := F)) adm (rdats m) () defs₀ 𝒱₀ L lv 1 :=
  Cert.Segment.region (pcfgs (F := F)) adm (rdats m) defs₀ 𝒱₀ L lv 1 launch1.win launch1.block_pos launch1.stage_whole
    launch1.arr_whole (inferInstanceAs (IsEmpty (Fin 0)))
    (fun c => (obligation1 (V8 m (outs m)) c).toR)
    (fun _ => rfl) (fun _ => rfl) (fun _ _ => rfl) (fun _ => rfl) (fun c => RDat.share_full (rdats m 1 c) fun _ => rfl)
    (V8 m (outs m)) (V9 m (outs m)) (A_dat1 (V8 m (outs m))) (exit1 m) (rest1 m)

/-- At the end of region 2 an input array holds what it held, and the output array what the data say. -/
theorem final2 (V : Dev nD → Valuation τ sig (Elt F)) (c : Dev nD) (X : Buf (Elt F) ((c : Thread nD τ).loc main_v58))
    (hX : X = (dat2 V c).arrAt 4 cfg2.N) (w : Fin cfg2.W) :
    (dat2 V c).arrAt w cfg2.N = Function.update (V c) (Proc.devRef .tc main_v58) X (Proc.devRef .tc (arrRef spec2 w)) := by
  by_cases hw : w = 4
  · subst hw hX; exact (Function.update_self (β := fun b : DevRef τ sig => b.ty.Contents (Elt F)) _ _ _).symm
  · have ho : (cfg2.win w).isOut = false := by revert hw; revert w; decide
    rw [(dat2 V c).arrAt_in w ho, A_dat2 V c w]
    exact (Function.update_of_ne (β := fun b : DevRef τ sig => b.ty.Contents (Elt F))
      (StableHlo.devRef_ne_of_ne fun e => hw (launch2.win.arr_inj e)) _ _).symm

/-- What region 2's arrays may hold at its end is what the contents after it say. -/
theorem exit2 (c : Dev nD) (w : Fin cfg2.W) (G) (h : (dat2 (V12 m (outs m)) c).toR.ArrAt w cfg2.N G) :
    G = V13 m (outs m) c (Proc.devRef .tc (arrRef spec2 w)) := by
  rw [Dat.toR_arrAt (dat2 (V12 m (outs m)) c) w cfg2.N G h]
  exact final2 (V12 m (outs m)) c _ (outs_2 m c) w

theorem rest2 (c : Dev nD) (b : Ref sig .tc) (hb : b ∉ Finset.univ.image (arrRef spec2)) :
    V13 m (outs m) c (Proc.devRef .tc b) = V12 m (outs m) c (Proc.devRef .tc b) :=
  V13_of m (outs m) c b fun h => hb (List.mem_singleton.mp h ▸ Finset.mem_image.mpr ⟨4, Finset.mem_univ _, rfl⟩)

set_option backward.isDefEq.respectTransparency.types false in
/-- Region 2 as a segment. -/
def reg2 : RDat.RegionSeg (pcfgs (F := F)) adm (rdats m) () defs₀ 𝒱₀ L lv 2 :=
  Cert.Segment.region (pcfgs (F := F)) adm (rdats m) defs₀ 𝒱₀ L lv 2 launch2.win launch2.block_pos launch2.stage_whole
    launch2.arr_whole (inferInstanceAs (IsEmpty (Fin 0)))
    (fun c => (obligation2 (V12 m (outs m)) c).toR)
    (fun _ => rfl) (fun _ => rfl) (fun _ _ => rfl) (fun _ => rfl) (fun c => RDat.share_full (rdats m 2 c) fun _ => rfl)
    (V12 m (outs m)) (V13 m (outs m)) (A_dat2 (V12 m (outs m))) (exit2 m) (rest2 m)

/-- At the end of region 3 an input array holds what it held, and the output array what the data say. -/
theorem final3 (V : Dev nD → Valuation τ sig (Elt F)) (c : Dev nD) (X : Buf (Elt F) ((c : Thread nD τ).loc main_v65))
    (hX : X = (dat3 V c).arrAt 4 cfg3.N) (w : Fin cfg3.W) :
    (dat3 V c).arrAt w cfg3.N = Function.update (V c) (Proc.devRef .tc main_v65) X (Proc.devRef .tc (arrRef spec3 w)) := by
  by_cases hw : w = 4
  · subst hw hX; exact (Function.update_self (β := fun b : DevRef τ sig => b.ty.Contents (Elt F)) _ _ _).symm
  · have ho : (cfg3.win w).isOut = false := by revert hw; revert w; decide
    rw [(dat3 V c).arrAt_in w ho, A_dat3 V c w]
    exact (Function.update_of_ne (β := fun b : DevRef τ sig => b.ty.Contents (Elt F))
      (StableHlo.devRef_ne_of_ne fun e => hw (launch3.win.arr_inj e)) _ _).symm

/-- What region 3's arrays may hold at its end is what the contents after it say. -/
theorem exit3 (c : Dev nD) (w : Fin cfg3.W) (G) (h : (dat3 (V15 m (outs m)) c).toR.ArrAt w cfg3.N G) :
    G = V16 m (outs m) c (Proc.devRef .tc (arrRef spec3 w)) := by
  rw [Dat.toR_arrAt (dat3 (V15 m (outs m)) c) w cfg3.N G h]
  exact final3 (V15 m (outs m)) c _ (outs_3 m c) w

theorem rest3 (c : Dev nD) (b : Ref sig .tc) (hb : b ∉ Finset.univ.image (arrRef spec3)) :
    V16 m (outs m) c (Proc.devRef .tc b) = V15 m (outs m) c (Proc.devRef .tc b) :=
  V16_of m (outs m) c b fun h => hb (List.mem_singleton.mp h ▸ Finset.mem_image.mpr ⟨4, Finset.mem_univ _, rfl⟩)

set_option backward.isDefEq.respectTransparency.types false in
/-- Region 3 as a segment. -/
def reg3 : RDat.RegionSeg (pcfgs (F := F)) adm (rdats m) () defs₀ 𝒱₀ L lv 3 :=
  Cert.Segment.region (pcfgs (F := F)) adm (rdats m) defs₀ 𝒱₀ L lv 3 launch3.win launch3.block_pos launch3.stage_whole
    launch3.arr_whole (inferInstanceAs (IsEmpty (Fin 0)))
    (fun c => (obligation3 (V15 m (outs m)) c).toR)
    (fun _ => rfl) (fun _ => rfl) (fun _ _ => rfl) (fun _ => rfl) (fun c => RDat.share_full (rdats m 3 c) fun _ => rfl)
    (V15 m (outs m)) (V16 m (outs m)) (A_dat3 (V15 m (outs m))) (exit3 m) (rest3 m)

/-- At the end of region 4 an input array holds what it held, and the output array what the data say. -/
theorem final4 (V : Dev nD → Valuation τ sig (Elt F)) (c : Dev nD) (X : Buf (Elt F) ((c : Thread nD τ).loc main_v92))
    (hX : X = (dat4 V c).arrAt 6 cfg4.N) (w : Fin cfg4.W) :
    (dat4 V c).arrAt w cfg4.N = Function.update (V c) (Proc.devRef .tc main_v92) X (Proc.devRef .tc (arrRef spec4 w)) := by
  by_cases hw : w = 6
  · subst hw hX; exact (Function.update_self (β := fun b : DevRef τ sig => b.ty.Contents (Elt F)) _ _ _).symm
  · have ho : (cfg4.win w).isOut = false := by revert hw; revert w; decide
    rw [(dat4 V c).arrAt_in w ho, A_dat4 V c w]
    exact (Function.update_of_ne (β := fun b : DevRef τ sig => b.ty.Contents (Elt F))
      (StableHlo.devRef_ne_of_ne fun e => hw (launch4.win.arr_inj e)) _ _).symm

/-- What region 4's arrays may hold at its end is what the contents after it say. -/
theorem exit4 (c : Dev nD) (w : Fin cfg4.W) (G) (h : (rdat4 (V17 m (outs m)) c).ArrAt w cfg4.N G) :
    G = V18 m (outs m) c (Proc.devRef .tc (arrRef spec4 w)) := by
  refine Eq.trans ?_ (final4 (V17 m (outs m)) c _ (outs_4 m c) w)
  by_cases hw : w = 6
  · subst hw; exact arrAt4 (V17 m (outs m)) c G h
  · have ho : (cfg4.win w).isOut = false := (by decide : ∀ w : Fin cfg4.W, ¬ w = 6 → (cfg4.win w).isOut = false) w hw
    rw [(dat4 (V17 m (outs m)) c).arrAt_in w ho]
    rw [(rdat4 (V17 m (outs m)) c).ArrAt_in w ho] at h
    exact h

theorem rest4 (c : Dev nD) (b : Ref sig .tc) (hb : b ∉ Finset.univ.image (arrRef spec4)) :
    V18 m (outs m) c (Proc.devRef .tc b) = V17 m (outs m) c (Proc.devRef .tc b) :=
  V18_of m (outs m) c b fun h => hb (List.mem_singleton.mp h ▸ Finset.mem_image.mpr ⟨6, Finset.mem_univ _, rfl⟩)

set_option backward.isDefEq.respectTransparency.types false in
/-- Region 4 as a segment. -/
def reg4 : RDat.RegionSeg (pcfgs (F := F)) adm (rdats m) () defs₀ 𝒱₀ L lv 4 :=
  Cert.Segment.region (pcfgs (F := F)) adm (rdats m) defs₀ 𝒱₀ L lv 4 launch4.win launch4.block_pos launch4.stage_whole
    launch4.arr_whole (inferInstanceAs (IsEmpty (Fin 0)))
    (fun c => obligation4 (V17 m (outs m)) c)
    (fun _ => rfl) (fun _ => rfl) (fun _ _ => rfl) (fun _ => rfl) (fun c => RDat.share_full (rdats m 4 c) fun _ => rfl)
    (V17 m (outs m)) (V18 m (outs m)) (A_dat4 (V17 m (outs m))) (exit4 m) (rest4 m)

/-! ## @main as segments, and the launch -/

/-- @main's segments in order: a host segment per stretch from the contents before it, a region per kernel call. -/
abbrev segs : List (RDat.Seg (pcfgs (F := F)) adm (rdats m) () defs₀ 𝒱₀ L lv) :=
  [ .host (Cert.Segment.host (pcfgs (F := F)) defs₀ 𝒱₀ L lv hostOps0 hostOps0_sub hostOps0_fresh (V0 m)),
    .host (Cert.Segment.host (pcfgs (F := F)) defs₀ 𝒱₀ L lv hostOps0_1 hostOps0_1_sub hostOps0_1_fresh (V1 m)),
    .host (Cert.Segment.host (pcfgs (F := F)) defs₀ 𝒱₀ L lv hostOps0_2 hostOps0_2_sub hostOps0_2_fresh (V2 m)),
    .host (Cert.Segment.host (pcfgs (F := F)) defs₀ 𝒱₀ L lv hostOps0_3 hostOps0_3_sub hostOps0_3_fresh (V3 m)),
    .host (Cert.Segment.host (pcfgs (F := F)) defs₀ 𝒱₀ L lv hostOps0_4 hostOps0_4_sub hostOps0_4_fresh (V4 m)),
    .region (reg0 m),
    .host (Cert.Segment.host (pcfgs (F := F)) defs₀ 𝒱₀ L lv hostOps1 hostOps1_sub hostOps1_fresh (V6 m (outs m))),
    .host (Cert.Segment.host (pcfgs (F := F)) defs₀ 𝒱₀ L lv hostOps1_1 hostOps1_1_sub hostOps1_1_fresh (V7 m (outs m))),
    .region (reg1 m),
    .host (Cert.Segment.host (pcfgs (F := F)) defs₀ 𝒱₀ L lv hostOps2 hostOps2_sub hostOps2_fresh (V9 m (outs m))),
    .host (Cert.Segment.host (pcfgs (F := F)) defs₀ 𝒱₀ L lv hostOps2_1 hostOps2_1_sub hostOps2_1_fresh (V10 m (outs m))),
    .host (Cert.Segment.host (pcfgs (F := F)) defs₀ 𝒱₀ L lv hostOps2_2 hostOps2_2_sub hostOps2_2_fresh (V11 m (outs m))),
    .region (reg2 m),
    .host (Cert.Segment.host (pcfgs (F := F)) defs₀ 𝒱₀ L lv hostOps3 hostOps3_sub hostOps3_fresh (V13 m (outs m))),
    .host (Cert.Segment.host (pcfgs (F := F)) defs₀ 𝒱₀ L lv hostOps3_1 hostOps3_1_sub hostOps3_1_fresh (V14 m (outs m))),
    .region (reg3 m),
    .host (Cert.Segment.host (pcfgs (F := F)) defs₀ 𝒱₀ L lv hostOps4 hostOps4_sub hostOps4_fresh (V16 m (outs m))),
    .region (reg4 m),
    .host (Cert.Segment.host (pcfgs (F := F)) defs₀ 𝒱₀ L lv hostOps5 hostOps5_sub hostOps5_fresh (V18 m (outs m))),
    .host (Cert.Segment.host (pcfgs (F := F)) defs₀ 𝒱₀ L lv hostOps5_1 hostOps5_1_sub hostOps5_1_fresh (V19 m (outs m))),
    .host (Cert.Segment.host (pcfgs (F := F)) defs₀ 𝒱₀ L lv hostOps5_2 hostOps5_2_sub hostOps5_2_fresh (V20 m (outs m))) ]

theorem main_run (c : Dev nD) : main (F := F) c = RDat.Seg.run (segs m) := (main_chain c).trans (by chain_rfl)

/-- The TensorCore has no unscoped semaphore. -/
theorem no_unscoped : ∀ sm : SemLoc sig, sm.isScoped .tc = true := by decide

theorem mem_uc (b : Ref sig .tc) (h : (Proc.devRef (τ := τ) .tc b).isScoped = false) :
    (Proc.devRef .tc b : DevRef τ sig) ∈ ucRefs τ sig :=
  Finset.mem_filter.mpr ⟨StableHlo.devRef_mem_tcRefs b, by simp [h]⟩

set_option backward.isDefEq.respectTransparency.types false in
/-- Every run of @main ends, nothing faulting, with each unscoped buffer at the final contents and every semaphore counter
    at zero. -/
theorem run (ρ : Dev nD → PrngReg) : θ_run defs (onTc (τ := τ) (main (F := F))) ⟨m, fun _ => 0, ρ⟩ (fun r =>
    (∀ (c : Dev nD), ∀ b ∈ ucRefs τ sig, r.2.mem (((c : Thread nD τ)).1, b) = V21 m (outs m) c b) ∧ r.2.sem = fun _ => 0) :=
  RDat.θ_run_regions_kit_sems (pcfgs (F := F)) adm (rdats m) () cellOf_inj emb₁ defs₀ 𝒱₀ L lv m ρ main (segs m)
    (fun c Q => by rw [main_run m c])
    (by simp only [segs, RDat.Seg.pipes_host, RDat.Seg.pipes_region, RDat.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (ucRefs τ sig) (V0 m c) ∗ Cert.Segment.Rest c))
    (Tₙ := fun c => iprop(StableHlo.held (c : Thread nD τ) (ucRefs τ sig) (V21 m (outs m) c) ∗ ∃ r, prngReg c r))
    (hch := ⟨fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun _ => .rfl, fun c => by
      dsimp only [RDat.Seg.post, Cert.Segment.host, Pipeline.HostSeg.ofOps]
      iintro ⟨Hh, Hp, HO⟩
      isplitl [Hh Hp]
      · isplitl [Hh]; · iexact Hh
        iexact Hp
      iexact HO⟩)
    (hinit := by
      refine Pipeline.initEach L lv fun c => ?_
      rw [show unscopedBufs c (fun b => m ((c : Thread nD τ).loc b)) = StableHlo.held (c : Thread nD τ) (ucRefs τ sig) (V0 m c)
        from Pipeline.unscopedBufs_held c (V0 m c)]
      iintro ⟨⟨Hh, -, HO, -, Hp, -⟩, -⟩
      imodintro
      isplitl [Hh]; · iexact Hh
      isplitl [Hp]; · iexists _; iexact Hp
      iexists ∅; iexact HO)
    (QY := fun c s => ∀ b ∈ ucRefs τ sig, s.mem (((c : Thread nD τ)).1, b) = V21 m (outs m) c b)
    (hfin := fun c s' => by
      iintro ⟨⟨Hh, -⟩, HSI⟩
      unfold StableHlo.held
      imodintro
      iapply (pointsTo_read_all (ucRefs τ sig) (fun b => (((c : Thread nD τ)).1, b)) (V21 m (outs m) c) s')
      isplitl [Hh] <;> iassumption)
    (hQ := fun s h hz => ⟨h, funext fun g => hz g (.inr (no_unscoped g.2))⟩)

/-- What a run leaves in the arguments: what was launched. -/
theorem args_of_final {mem : (ℓ : Loc nD τ sig) → Buf (Elt F) ℓ} (c : Dev nD)
    (h : ∀ b ∈ ucRefs τ sig, mem (((c : Thread nD τ)).1, b) = V21 m (outs m) c b) :
    mem ((c.tc : Thread nD τ).loc main_arg0) = m ((c.tc : Thread nD τ).loc main_arg0)
      ∧ mem ((c.tc : Thread nD τ).loc main_arg1) = m ((c.tc : Thread nD τ).loc main_arg1)
      ∧ mem ((c.tc : Thread nD τ).loc main_arg2) = m ((c.tc : Thread nD τ).loc main_arg2)
      ∧ mem ((c.tc : Thread nD τ).loc main_arg3) = m ((c.tc : Thread nD τ).loc main_arg3)
      ∧ mem ((c.tc : Thread nD τ).loc main_arg4) = m ((c.tc : Thread nD τ).loc main_arg4)
      ∧ mem ((c.tc : Thread nD τ).loc main_arg5) = m ((c.tc : Thread nD τ).loc main_arg5)
      ∧ mem ((c.tc : Thread nD τ).loc main_arg6) = m ((c.tc : Thread nD τ).loc main_arg6)
      ∧ mem ((c.tc : Thread nD τ).loc main_arg7) = m ((c.tc : Thread nD τ).loc main_arg7)
      ∧ mem ((c.tc : Thread nD τ).loc main_arg8) = m ((c.tc : Thread nD τ).loc main_arg8) :=
  ⟨(h _ (mem_uc main_arg0 (by decide))).trans (V21_main_arg0 m (outs m) c),
   (h _ (mem_uc main_arg1 (by decide))).trans (V21_main_arg1 m (outs m) c),
   (h _ (mem_uc main_arg2 (by decide))).trans (V21_main_arg2 m (outs m) c),
   (h _ (mem_uc main_arg3 (by decide))).trans (V21_main_arg3 m (outs m) c),
   (h _ (mem_uc main_arg4 (by decide))).trans (V21_main_arg4 m (outs m) c),
   (h _ (mem_uc main_arg5 (by decide))).trans (V21_main_arg5 m (outs m) c),
   (h _ (mem_uc main_arg6 (by decide))).trans (V21_main_arg6 m (outs m) c),
   (h _ (mem_uc main_arg7 (by decide))).trans (V21_main_arg7 m (outs m) c),
   (h _ (mem_uc main_arg8 (by decide))).trans (V21_main_arg8 m (outs m) c)⟩

/-- The frame: every run ends, nothing faulting, with the arguments as launched and every semaphore counter at zero. -/
theorem frame (ρ : Dev nD → PrngReg) : θ_run defs (onTc (τ := τ) (main (F := F))) ⟨m, fun _ => 0, ρ⟩ (fun r => (∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8))
      ∧ r.2.sem = fun _ => 0) :=
  (θ_run defs _ _).mono (fun _ h => ⟨fun c => args_of_final m c (h.1 c), h.2⟩) (run m ρ)

end Cert.KernelIdeal.Body

end
-- ==== Proof.Read.lean ====
/-
  The gathers and scatters of the two programs, read at an index.

  A table of one or two index words for each of `n` edges is read as functions from edges to nodes. A row gather takes a
  node's row, a row scatter sums the rows of the edges that name a node, a scatter of scalars into a matrix counts or
  marks the pairs that the edges name.
-/
module

public import Idealize.ShloMosaic.Lib.Pointwise
public import Idealize.ShloMosaic.Lib.Routing.Ops
public import Idealize.ShloMosaic.Lib.Routing.OpsPair
public import Idealize.ShloMosaic.Lib.Routing.OpsSet
public import Idealize.ShloMosaic.Lib.ReduceAll
public import Idealize.ShloMosaic.Lib.StableHlo.Predicate

@[expose] public section

noncomputable section

namespace Cert.Read

open Idealize.ShloMosaic

/-- The shape of a vector of `n`. -/
abbrev Sh1 (n : ℕ) : Shape := ⟨1, ![n]⟩
/-- The shape of a matrix of `n` rows and `k` columns. -/
abbrev Sh2 (n k : ℕ) : Shape := ⟨2, ![n, k]⟩

/-- The entry of a matrix of extended reals. -/
abbrev at2 {n k : ℕ} (X : FVec Ideal (Sh2 n k) .f32) (i : Fin n) (j : Fin k) : EReal := X (ix2 i j)

variable {n N D : ℕ}

/-- A word below 4096 is read the same signed and unsigned. -/
theorem toInt_small {b : BitVec 32} (h : b.toNat < 4096) : b.toInt = b.toNat :=
  StableHlo.Predicate.toInt_eq_toNat_of_lt (by omega)

/-- A vector as a column. -/
theorem col_apply {α : Type} (s : (Sh1 n).Idx → α)
    (hb : (Sh1 n).BroadcastsInDim (Sh2 n 1) (![0] : Fin 1 → Fin (Sh2 n 1).rank)) (e : Fin n) :
    broadcastInDim (Sh2 n 1) ![0] hb s (ix2 e (0 : Fin 1)) = s (ix1 e) := by
  rw [Pointwise.broadcastInDim_apply]
  refine congrArg s (funext fun a => Fin.ext ?_)
  match a with
  | ⟨0, _⟩ =>
    show (if h : n = 1 then (⟨0, _⟩ : Fin n) else ⟨e.val, _⟩).val = e.val
    split
    · show 0 = e.val
      omega
    · rfl

/-- A vector spread over the columns of a matrix. -/
theorem rows_apply {α : Type} (s : (Sh1 n).Idx → α)
    (hb : (Sh1 n).BroadcastsInDim (Sh2 n D) (![0] : Fin 1 → Fin (Sh2 n D).rank)) (e : Fin n) (f : Fin D) :
    broadcastInDim (Sh2 n D) ![0] hb s (ix2 e f) = s (ix1 e) := by
  rw [Pointwise.broadcastInDim_apply]
  refine congrArg s (funext fun a => Fin.ext ?_)
  match a with
  | ⟨0, _⟩ =>
    show (if h : n = 1 then (⟨0, _⟩ : Fin n) else ⟨e.val, _⟩).val = e.val
    split
    · show 0 = e.val
      omega
    · rfl

/-- A column spread over the columns of a matrix. -/
theorem spread_apply {α : Type} (s : (Sh2 n 1).Idx → α)
    (hb : (Sh2 n 1).BroadcastsInDim (Sh2 n D) (![0, 1] : Fin 2 → Fin (Sh2 n D).rank)) (e : Fin n) (f : Fin D) :
    broadcastInDim (Sh2 n D) ![0, 1] hb s (ix2 e f) = s (ix2 e (0 : Fin 1)) := by
  rw [Pointwise.broadcastInDim_apply]
  refine congrArg s (funext fun a => Fin.ext ?_)
  match a with
  | ⟨0, _⟩ =>
    show (if h : n = 1 then (⟨0, _⟩ : Fin n) else ⟨e.val, _⟩).val = e.val
    split
    · show 0 = e.val
      omega
    · rfl
  | ⟨1, _⟩ => rfl

/-- The index column that a take makes of a vector of node numbers, negative numbers wrapped, holds the numbers themselves. -/
theorem column_apply (s z c : IVec (Sh1 n) 32) (hz : ∀ i, z i = 0#32)
    (hb : (Sh1 n).BroadcastsInDim (Sh2 n 1) (![0] : Fin 1 → Fin (Sh2 n 1).rank)) (e : Fin n) (hs : (s (ix1 e)).toNat < 4096) :
    broadcastInDim (Sh2 n 1) ![0] hb (select (cmpi .slt s z) (addi s c) s) (ix2 e (0 : Fin 1)) = s (ix1 e) := by
  rw [col_apply]
  show Scalar.select (IntOp.cmpi .slt (s (ix1 e)) (z (ix1 e))) (addi s c (ix1 e)) (s (ix1 e)) = _
  rw [hz]
  exact Routing.wrap_of_lt _ _ (by norm_num; omega)

/-- A take of rows by an index column in range: row `e` of the result is row `b` of the table where the column holds `b`
    at `e`. The mask that guards the take against indices out of range is true. -/
theorem take_apply (g : GatherDims (Sh2 4096 D) (Sh2 n 1) (Sh2 n D)) (hoff : g.offsetDims = [1])
    (hcoll : g.collapsedSliceDims = [0]) (hob : g.operandBatchingDims = []) (hsim : g.startIndexMap = [0])
    (hivd : g.indexVectorDim = 1) (X : FVec Ideal (Sh2 4096 D) .f32) (I Z M : IVec (Sh2 n 1) 32)
    (hI : ∀ e : Fin n, (I (ix2 e (0 : Fin 1))).toNat < 4096) (hZ : ∀ i, Z i = 0#32) (hM : ∀ i, M i = 4095#32)
    {u : Shape} (init : u.Idx → BitVec 1) (hr : (Sh2 n 1).ReducesTo [1] (Sh1 n)) (hu : 0 < u.numel) (hi : ∀ i, init i = 1#1)
    (hb : (Sh1 n).BroadcastsInDim (Sh2 n D) (![0] : Fin 1 → Fin (Sh2 n D).rank)) (nan : FVec Ideal (Sh2 n D) .f32)
    (e : Fin n) (f : Fin D) (b : Fin 4096) (hbe : (I (ix2 e (0 : Fin 1))).toNat = b.val) :
    select (broadcastInDim (Sh2 n D) ![0] hb (Host.reduce IntOp.andi (andi (cmpi .sge I Z) (cmpi .sle I M)) init hr hu))
      (Host.gather g X I) nan (ix2 e f) = X (ix2 b f) := by
  have hmask : ∀ j, Host.reduce IntOp.andi (andi (cmpi .sge I Z) (cmpi .sle I M)) init hr hu j = 1#1 := fun j => by
    refine Host.reduce_andi_one _ _ hr hu j (hi _) fun i => ?_
    obtain ⟨a, rfl⟩ : ∃ a : Fin n, i = ix2 a (0 : Fin 1) :=
      ⟨i 0, (eq_ix2 i).trans (congrArg (ix2 (i 0)) (Subsingleton.elim (α := Fin 1) _ _))⟩
    have hh := hI a
    show IntOp.andi (IntOp.cmpi .sge (I _) (Z _)) (IntOp.cmpi .sle (I _) (M _)) = 1#1
    rw [hZ, hM, IntOp.andi_eq_one]
    constructor
    · exact (StableHlo.Predicate.sge_iff_toNat (by norm_num; omega) (by decide)).2 (by simp)
    · exact (StableHlo.Predicate.sle_iff_toNat (by norm_num; omega) (by decide)).2 (by
        show _ ≤ 4095
        omega)
  show Scalar.select (Host.reduce IntOp.andi _ init hr hu _) (Host.gather g X I (ix2 e f)) _ = _
  rw [hmask]
  show Host.gather g X I (ix2 e f) = _
  rw [ix2_eq_valueIdx, ix2_eq_valueIdx]
  refine Routing.gather_row g hoff hcoll hob hsim hivd X I e f b ?_ (by norm_num)
  rw [← ix2_eq_valueIdx]
  exact BitVec.eq_of_toNat_eq (by rw [hbe, BitVec.toNat_ofNat, Nat.mod_eq_of_lt (by omega)])

/-- A take of rows by a vector of node numbers, wrapped and guarded, reads the named row. -/
theorem take_read (g : GatherDims (Sh2 4096 D) (Sh2 n 1) (Sh2 n D)) (hoff : g.offsetDims = [1])
    (hcoll : g.collapsedSliceDims = [0]) (hob : g.operandBatchingDims = []) (hsim : g.startIndexMap = [0])
    (hivd : g.indexVectorDim = 1) (X : FVec Ideal (Sh2 4096 D) .f32) (s z c : IVec (Sh1 n) 32)
    (hb1 : (Sh1 n).BroadcastsInDim (Sh2 n 1) (![0] : Fin 1 → Fin (Sh2 n 1).rank)) (Z M : IVec (Sh2 n 1) 32)
    {u : Shape} (init : u.Idx → BitVec 1) (hr : (Sh2 n 1).ReducesTo [1] (Sh1 n)) (hu : 0 < u.numel)
    (hb : (Sh1 n).BroadcastsInDim (Sh2 n D) (![0] : Fin 1 → Fin (Sh2 n D).rank)) (nan : FVec Ideal (Sh2 n D) .f32)
    (hz : ∀ i, z i = 0#32) (hZ : ∀ i, Z i = 0#32) (hM : ∀ i, M i = 4095#32) (hi : ∀ i, init i = 1#1)
    (node : Fin n → Fin 4096) (hs : ∀ e, (s (ix1 e)).toNat = (node e).val) (e : Fin n) (f : Fin D) :
    select (broadcastInDim (Sh2 n D) ![0] hb (Host.reduce IntOp.andi
        (andi (cmpi .sge (broadcastInDim (Sh2 n 1) ![0] hb1 (select (cmpi .slt s z) (addi s c) s)) Z)
          (cmpi .sle (broadcastInDim (Sh2 n 1) ![0] hb1 (select (cmpi .slt s z) (addi s c) s)) M)) init hr hu))
      (Host.gather g X (broadcastInDim (Sh2 n 1) ![0] hb1 (select (cmpi .slt s z) (addi s c) s))) nan (ix2 e f) = X (ix2 (node e) f) := by
  have hc : ∀ e : Fin n, (broadcastInDim (Sh2 n 1) ![0] hb1 (select (cmpi .slt s z) (addi s c) s) (ix2 e (0 : Fin 1))).toNat = (node e).val :=
    fun e => by rw [column_apply s z c hz hb1 e (by rw [hs]; exact (node e).isLt), hs]
  exact take_apply g hoff hcoll hob hsim hivd X _ Z M (fun e => by rw [hc]; exact (node e).isLt) hZ hM init hr hu hi hb nan e f (node e) (hc e)

/-- Row `e` of the updates of a row scatter lands on row `r` exactly when the index word of `e` is `r`. -/
theorem row_lands (d : ScatterDims (Sh2 N D) (Sh2 n 1) (Sh2 n D)) (huw : d.updateWindowDims = [1])
    (hiw : d.insertedWindowDims = [0]) (hsd : d.scatterDimsToOperandDims = [0]) (hivd : d.indexVectorDim = 1)
    (idx : IVec (Sh2 n 1) 32) (e : Fin n) (f : Fin D) (r : Fin N) (c : Fin D) :
    d.resultIdx? (ix2 e f) idx = some (ix2 r c) ↔ (idx (ix2 e (0 : Fin 1))).toInt = r.val ∧ f = c := by
  obtain ⟨uw, iw, sd, ivd, wf⟩ := d
  simp only at huw hiw hsd hivd
  subst huw hiw hsd hivd
  rw [ix2_eq_valueIdx r c, Routing.resultIdx?_ix2]
  have h0 : (⟨[1], [0], [0], 1, wf⟩ : ScatterDims (Sh2 N D) (Sh2 n 1) (Sh2 n D)).start (ix2 e f) idx 0
      = (idx (ix2 e (0 : Fin 1))).toInt := by
    unfold ScatterDims.start
    rw [dif_pos (by simp)]
    congr 2
    funext b
    match b with
    | ⟨0, _⟩ => rfl
    | ⟨1, _⟩ => rfl
  have h1 : (⟨[1], [0], [0], 1, wf⟩ : ScatterDims (Sh2 N D) (Sh2 n 1) (Sh2 n D)).start (ix2 e f) idx 1 = 0 := by
    unfold ScatterDims.start
    rw [dif_neg (by simp)]
  have w0 : (⟨[1], [0], [0], 1, wf⟩ : ScatterDims (Sh2 N D) (Sh2 n 1) (Sh2 n D)).window (ix2 e f) 0 = 0 := rfl
  have w1 : (⟨[1], [0], [0], 1, wf⟩ : ScatterDims (Sh2 N D) (Sh2 n 1) (Sh2 n D)).window (ix2 e f) 1 = f.val := rfl
  rw [h0, h1, w0, w1, Fin.ext_iff]
  omega

/-- A row scatter into zeros is the segment sum: row `i` is the sum of the update rows of the edges that end at `i`. -/
theorem segsum_apply (d : ScatterDims (Sh2 N D) (Sh2 n 1) (Sh2 n D)) (huw : d.updateWindowDims = [1])
    (hiw : d.insertedWindowDims = [0]) (hsd : d.scatterDimsToOperandDims = [0]) (hivd : d.indexVectorDim = 1)
    (x : FVec Ideal (Sh2 N D) .f32) (hx : ∀ i, x i = 0) (idx : IVec (Sh2 n 1) 32) (dst : Fin n → Fin N)
    (hd : ∀ e, (idx (ix2 e (0 : Fin 1))).toInt = (dst e).val) (upd : FVec Ideal (Sh2 n D) .f32) (i : Fin N) (f : Fin D) :
    Host.scatterAdd d x idx upd (ix2 i f) = ∑ e : Fin n with dst e = i, upd (ix2 e f) := by
  show FloatOps.hostScatterAdd d .single x idx upd (ix2 i f) = _
  rw [Ideal.hostScatterAdd_def]
  unfold Ideal.hostScatterAdd
  rw [hx, zero_add, Finset.sum_filter, sum_idx2, Finset.sum_filter]
  refine Finset.sum_congr rfl fun e _ => ?_
  have hl : ∀ c : Fin D, d.resultIdx? (ix2 e c) idx = some (ix2 i f) ↔ dst e = i ∧ c = f := fun c => by
    rw [row_lands d huw hiw hsd hivd, hd]
    constructor
    · rintro ⟨h, h'⟩; exact ⟨Fin.ext (by omega), h'⟩
    · rintro ⟨h, h'⟩; exact ⟨by rw [h], h'⟩
  simp only [hl]
  by_cases h : dst e = i
  · simp [h]
  · simp [h]

/-- The segment sum whose index column is a vector of node numbers. -/
theorem segsum_column (d : ScatterDims (Sh2 4096 D) (Sh2 n 1) (Sh2 n D)) (huw : d.updateWindowDims = [1])
    (hiw : d.insertedWindowDims = [0]) (hsd : d.scatterDimsToOperandDims = [0]) (hivd : d.indexVectorDim = 1)
    (x : FVec Ideal (Sh2 4096 D) .f32) (hx : ∀ i, x i = 0) (s : IVec (Sh1 n) 32)
    (hb : (Sh1 n).BroadcastsInDim (Sh2 n 1) (![0] : Fin 1 → Fin (Sh2 n 1).rank)) (dst : Fin n → Fin 4096)
    (hd : ∀ e, (s (ix1 e)).toNat = (dst e).val) (upd : FVec Ideal (Sh2 n D) .f32) (i : Fin 4096) (f : Fin D) :
    Host.scatterAdd d x (broadcastInDim (Sh2 n 1) ![0] hb s) upd (ix2 i f) = ∑ e : Fin n with dst e = i, upd (ix2 e f) :=
  segsum_apply d huw hiw hsd hivd x hx _ dst (fun e => by
    rw [col_apply, toInt_small (by rw [hd]; exact (dst e).isLt), hd]) upd i f

/-- A slice of columns. -/
theorem cols_apply {α : Type} {k k' : ℕ} (X : (Sh2 n k).Idx → α) (o : ℕ) (h : (Sh2 n k).Slices ![0, o] (Sh2 n k'))
    (i : Fin n) (j : Fin k') (q : Fin k) (hq : q.val = o + j.val) : extractStridedSlice (Sh2 n k') ![0, o] X h (ix2 i j) = X (ix2 i q) := by
  refine congrArg X (funext fun a => Fin.ext ?_)
  match a with
  | ⟨0, _⟩ => exact Nat.zero_add _
  | ⟨1, _⟩ => exact hq.symm

/-- Two matrices side by side, read in the first. -/
theorem beside_left {α : Type} {k₁ k₂ k : ℕ} (a : (Sh2 n k₁).Idx → α) (b : (Sh2 n k₂).Idx → α)
    (h : Shape.Concatenates [Sh2 n k₁, Sh2 n k₂] (Sh2 n k) 1) (i : Fin n) (j : Fin k₁) (q : Fin k) (hq : q.val = j.val) :
    concatenate (Sh2 n k) 1 [⟨Sh2 n k₁, a⟩, ⟨Sh2 n k₂, b⟩] h (ix2 i q) = a (ix2 i j) := by
  refine concatenate_pair_apply_left (t := Sh2 n k) (s₁ := Sh2 n k₁) (s₂ := Sh2 n k₂) 1 a b h _ rfl _ fun x => ?_
  match x with
  | ⟨0, _⟩ => rfl
  | ⟨1, _⟩ => exact hq.symm

/-- Two matrices side by side, read in the second. -/
theorem beside_right {α : Type} {k₁ k₂ k : ℕ} (a : (Sh2 n k₁).Idx → α) (b : (Sh2 n k₂).Idx → α)
    (h : Shape.Concatenates [Sh2 n k₁, Sh2 n k₂] (Sh2 n k) 1) (i : Fin n) (j : Fin k₂) (q : Fin k) (hq : q.val = j.val + k₁) :
    concatenate (Sh2 n k) 1 [⟨Sh2 n k₁, a⟩, ⟨Sh2 n k₂, b⟩] h (ix2 i q) = b (ix2 i j) := by
  refine concatenate_pair_apply_right (t := Sh2 n k) (s₁ := Sh2 n k₁) (s₂ := Sh2 n k₂) 1 a b h _ rfl rfl _ (fun x hx => ?_) hq.symm
  match x with
  | ⟨0, _⟩ => rfl
  | ⟨1, _⟩ => exact absurd rfl hx

/-- An update of a scatter of scalars into a matrix, two index words each, lands where its words say. -/
theorem pair_lands (d : ScatterDims (Sh2 N D) (Sh2 n 2) (Sh1 n)) (huw : d.updateWindowDims = [])
    (hiw : d.insertedWindowDims = [0, 1]) (hsd : d.scatterDimsToOperandDims = [0, 1]) (hivd : d.indexVectorDim = 1)
    (idx : IVec (Sh2 n 2) 32) (e : Fin n) (r : Fin N) (c : Fin D) :
    d.resultIdx? (ix1 e) idx = some (ix2 r c)
      ↔ (idx (ix2 e (0 : Fin 2))).toInt = r.val ∧ (idx (ix2 e (1 : Fin 2))).toInt = c.val := by
  obtain ⟨uw, iw, sd, ivd, wf⟩ := d
  simp only at huw hiw hsd hivd
  subst huw hiw hsd hivd
  rw [ix2_eq_valueIdx r c, Routing.resultIdx?_ix2]
  have h0 : (⟨[], [0, 1], [0, 1], 1, wf⟩ : ScatterDims (Sh2 N D) (Sh2 n 2) (Sh1 n)).start (ix1 e) idx 0
      = (idx (ix2 e (0 : Fin 2))).toInt := by
    unfold ScatterDims.start
    rw [dif_pos (by simp)]
    congr 2
    funext b
    match b with
    | ⟨0, _⟩ => rfl
    | ⟨1, _⟩ => rfl
  have h1 : (⟨[], [0, 1], [0, 1], 1, wf⟩ : ScatterDims (Sh2 N D) (Sh2 n 2) (Sh1 n)).start (ix1 e) idx 1
      = (idx (ix2 e (1 : Fin 2))).toInt := by
    unfold ScatterDims.start
    rw [dif_pos (by simp)]
    congr 2
    funext b
    match b with
    | ⟨0, _⟩ => rfl
    | ⟨1, _⟩ => rfl
  have w0 : (⟨[], [0, 1], [0, 1], 1, wf⟩ : ScatterDims (Sh2 N D) (Sh2 n 2) (Sh1 n)).window (ix1 e) 0 = 0 := rfl
  have w1 : (⟨[], [0, 1], [0, 1], 1, wf⟩ : ScatterDims (Sh2 N D) (Sh2 n 2) (Sh1 n)).window (ix1 e) 1 = 0 := rfl
  rw [h0, h1, w0, w1]
  simp

/-- A gather of single entries of a matrix, two index words each, reads the entry that the words name. -/
theorem pair_gather (g : GatherDims (Sh2 4096 4096) (Sh2 n 2) (Sh1 n)) (hoff : g.offsetDims = [])
    (hcoll : g.collapsedSliceDims = [0, 1]) (hob : g.operandBatchingDims = []) (hsib : g.startIndicesBatchingDims = [])
    (hsim : g.startIndexMap = [0, 1]) (hivd : g.indexVectorDim = 1) (hss : g.sliceSizes = ![1, 1])
    (X : FVec Ideal (Sh2 4096 4096) .f32) (I : IVec (Sh2 n 2) 32) (e : Fin n) (a b : Fin 4096)
    (ha : (I (ix2 e (0 : Fin 2))).toInt = a.val) (hb : (I (ix2 e (1 : Fin 2))).toInt = b.val) :
    Host.gather g X I (ix1 e) = X (ix2 a b) := by
  obtain ⟨off, coll, ob, sib, sim, ivd, ss, wf⟩ := g
  simp only at hoff hcoll hob hsib hsim hivd hss
  subst hoff hcoll hob hsib hsim hivd hss
  unfold Host.gather
  refine congrArg X (funext fun x => Fin.ext ?_)
  match x with
  | ⟨0, _⟩ =>
    show GatherDims.start _ (ix1 e) I 0 + GatherDims.batchCoord _ (ix1 e) 0 + GatherDims.offCoord _ (ix1 e) 0 = a.val
    rw [GatherDims.batchCoord_eq_zero _ _ _ (by simp), GatherDims.offCoord_eq_zero _ _ _ (fun h => ((GatherDims.mem_sKept _ _).1 h).1 (by simp))]
    unfold GatherDims.start
    rw [dif_pos (by simp)]
    have hs : ∀ k, GatherDims.siIdx (⟨[], [0, 1], [], [], [0, 1], 1, ![1, 1], wf⟩ : GatherDims (Sh2 4096 4096) (Sh2 n 2) (Sh1 n)) (ix1 e) ⟨0, k⟩
        = ix2 e (0 : Fin 2) := fun k => by
      funext y
      match y with
      | ⟨0, _⟩ => rfl
      | ⟨1, _⟩ => rfl
    have hs' := hs (by simp)
    show min ((I (GatherDims.siIdx _ (ix1 e) ⟨0, _⟩)).toInt).toNat (4096 - 1) + 0 + 0 = _
    rw [hs', ha]
    omega
  | ⟨1, _⟩ =>
    show GatherDims.start _ (ix1 e) I 1 + GatherDims.batchCoord _ (ix1 e) 1 + GatherDims.offCoord _ (ix1 e) 1 = b.val
    rw [GatherDims.batchCoord_eq_zero _ _ _ (by simp), GatherDims.offCoord_eq_zero _ _ _ (fun h => ((GatherDims.mem_sKept _ _).1 h).1 (by simp))]
    unfold GatherDims.start
    rw [dif_pos (by simp)]
    have hs : ∀ k, GatherDims.siIdx (⟨[], [0, 1], [], [], [0, 1], 1, ![1, 1], wf⟩ : GatherDims (Sh2 4096 4096) (Sh2 n 2) (Sh1 n)) (ix1 e) ⟨1, k⟩
        = ix2 e (1 : Fin 2) := fun k => by
      funext y
      match y with
      | ⟨0, _⟩ => rfl
      | ⟨1, _⟩ => rfl
    have hs' := hs (by simp)
    show min ((I (GatherDims.siIdx _ (ix1 e) ⟨1, _⟩)).toInt).toNat (4096 - 1) + 0 + 0 = _
    rw [hs', hb]
    omega

/-- An entry of a block of the first columns, written at column zero of a matrix, lands in its own row and column. -/
theorem block_lands {D' : ℕ} (d : ScatterDims (Sh2 N D) (Sh1 1) (Sh2 N D')) (huw : d.updateWindowDims = [0, 1])
    (hiw : d.insertedWindowDims = []) (hsd : d.scatterDimsToOperandDims = [1]) (hivd : d.indexVectorDim = 0)
    (idx : IVec (Sh1 1) 32) (hidx : ∀ i, idx i = 0#32) (e : Fin N) (f : Fin D') (r : Fin N) (c : Fin D) :
    d.resultIdx? (ix2 e f) idx = some (ix2 r c) ↔ e = r ∧ f.val = c.val := by
  obtain ⟨uw, iw, sd, ivd, wf⟩ := d
  simp only at huw hiw hsd hivd
  subst huw hiw hsd hivd
  rw [ix2_eq_valueIdx r c, Routing.resultIdx?_ix2]
  have h0 : (⟨[0, 1], [], [1], 0, wf⟩ : ScatterDims (Sh2 N D) (Sh1 1) (Sh2 N D')).start (ix2 e f) idx 0 = 0 := by
    unfold ScatterDims.start
    rw [dif_neg (by simp)]
  have h1 : (⟨[0, 1], [], [1], 0, wf⟩ : ScatterDims (Sh2 N D) (Sh1 1) (Sh2 N D')).start (ix2 e f) idx 1 = 0 := by
    unfold ScatterDims.start
    rw [dif_pos (by simp), hidx]
    rfl
  have w0 : (⟨[0, 1], [], [1], 0, wf⟩ : ScatterDims (Sh2 N D) (Sh1 1) (Sh2 N D')).window (ix2 e f) 0 = e.val := rfl
  have w1 : (⟨[0, 1], [], [1], 0, wf⟩ : ScatterDims (Sh2 N D) (Sh1 1) (Sh2 N D')).window (ix2 e f) 1 = f.val := rfl
  rw [h0, h1, w0, w1, Fin.ext_iff]
  omega

/-- The index table of pairs, first words beside second words: the first word. -/
theorem pairs_fst (a b : IVec (Sh2 n 1) 32) (h : Shape.Concatenates [Sh2 n 1, Sh2 n 1] (Sh2 n 2) 1) (e : Fin n) :
    concatenate (Sh2 n 2) 1 [⟨Sh2 n 1, a⟩, ⟨Sh2 n 1, b⟩] h (ix2 e (0 : Fin 2)) = a (ix2 e (0 : Fin 1)) := by
  refine concatenate_pair_apply_left (t := Sh2 n 2) (s₁ := Sh2 n 1) (s₂ := Sh2 n 1) 1 a b h _ rfl _ fun x => ?_
  match x with
  | ⟨0, _⟩ => rfl
  | ⟨1, _⟩ => rfl

/-- The index table of pairs, first words beside second words: the second word. -/
theorem pairs_snd (a b : IVec (Sh2 n 1) 32) (h : Shape.Concatenates [Sh2 n 1, Sh2 n 1] (Sh2 n 2) 1) (e : Fin n) :
    concatenate (Sh2 n 2) 1 [⟨Sh2 n 1, a⟩, ⟨Sh2 n 1, b⟩] h (ix2 e (1 : Fin 2)) = b (ix2 e (0 : Fin 1)) := by
  refine concatenate_pair_apply_right (t := Sh2 n 2) (s₁ := Sh2 n 1) (s₂ := Sh2 n 1) 1 a b h _ rfl rfl _ (fun x hx => ?_) rfl
  match x with
  | ⟨0, _⟩ => rfl
  | ⟨1, _⟩ => exact absurd rfl hx

/-- Two vectors one after the other, read in the first. -/
theorem append_left {α : Type} {n₂ m : ℕ} (a : (Sh1 n).Idx → α) (b : (Sh1 n₂).Idx → α)
    (h : Shape.Concatenates [Sh1 n, Sh1 n₂] (Sh1 m) 0) (e : Fin n) (k : Fin m) (hk : k.val = e.val) :
    concatenate (Sh1 m) 0 [⟨Sh1 n, a⟩, ⟨Sh1 n₂, b⟩] h (ix1 k) = a (ix1 e) := by
  refine concatenate_pair_apply_left (t := Sh1 m) (s₁ := Sh1 n) (s₂ := Sh1 n₂) 0 a b h _ rfl _ fun x => ?_
  match x with
  | ⟨0, _⟩ => exact hk.symm

/-- Two vectors one after the other, read in the second. -/
theorem append_right {α : Type} {n₂ m : ℕ} (a : (Sh1 n).Idx → α) (b : (Sh1 n₂).Idx → α)
    (h : Shape.Concatenates [Sh1 n, Sh1 n₂] (Sh1 m) 0) (e : Fin n₂) (k : Fin m) (hk : k.val = e.val + n) :
    concatenate (Sh1 m) 0 [⟨Sh1 n, a⟩, ⟨Sh1 n₂, b⟩] h (ix1 k) = b (ix1 e) := by
  refine concatenate_pair_apply_right (t := Sh1 m) (s₁ := Sh1 n) (s₂ := Sh1 n₂) 0 a b h _ rfl rfl _ (fun x hx => ?_) hk.symm
  match x with
  | ⟨0, _⟩ => exact absurd rfl hx

end Cert.Read
-- ==== Proof.Spec.lean ====
/-
  The mathematics that the two programs share: graph convolutions.

  A graph has 4096 nodes and 131072 directed edges. A convolution multiplies the node features by a weight matrix, sums over
  the edges that end at a node (each edge with a weight), divides by the number of those edges, and adds the node's own row.
  The reference multiplies first and sums after; the kernel sums first and multiplies after. The two agree in a first layer,
  whose features and weights are real numbers, and in a second layer, whose features are real and not negative and whose
  weights may hold anything.
-/
module

public import Idealize.ShloMosaic.PureOps.Ideal

@[expose] public section

noncomputable section

namespace Cert.Graph

open Idealize.ShloMosaic

/-- The coercion of reals commutes with finite sums. -/
theorem coe_sum {ι : Type} (s : Finset ι) (f : ι → ℝ) : ((∑ i ∈ s, f i : ℝ) : EReal) = ∑ i ∈ s, (f i : EReal) := by
  classical
  induction s using Finset.induction_on with
  | empty => simp
  | insert a s ha ih => rw [Finset.sum_insert ha, Finset.sum_insert ha, EReal.coe_add, ih]

/-- The coercion of reals commutes with the greater of two. -/
theorem coe_max (a b : ℝ) : ((max a b : ℝ) : EReal) = max (a : EReal) b :=
  (EReal.coe_strictMono.monotone.map_max : _)

/-- Division of reals, the divisor not zero. -/
theorem div_real (a b : ℝ) (h : b ≠ 0) : Ideal.div (a : EReal) b = ((a / b : ℝ) : EReal) := by
  rw [Ideal.div_coe h, ← EReal.coe_mul, mul_one_div]

/-- A graph: where each edge starts and ends. -/
structure Edges where
  /-- The node an edge starts at. -/
  src : Fin 131072 → Fin 4096
  /-- The node an edge ends at. -/
  dst : Fin 131072 → Fin 4096

variable (G : Edges)

/-- The number of edges that end at a node, at least one. -/
def Edges.deg (n : Fin 4096) : ℝ := max 1 (∑ e : Fin 131072 with G.dst e = n, 1)

theorem Edges.deg_ne (n : Fin 4096) : G.deg n ≠ 0 :=
  (lt_of_lt_of_le one_pos (le_max_left _ _)).ne'

/-- The degree as the programs compute it. -/
theorem Edges.deg_coe (n : Fin 4096) : max (1 : EReal) (∑ e : Fin 131072 with G.dst e = n, 1) = (G.deg n : EReal) := by
  unfold Edges.deg
  rw [coe_max, coe_sum]
  rfl

/-- The product of the features with a weight matrix. -/
def prod {k f : ℕ} (A : Fin 4096 → Fin k → ℝ) (W : Fin k → Fin f → EReal) (n : Fin 4096) (j : Fin f) : EReal := ∑ l, (A n l : EReal) * W l j

/-- A graph convolution with edge weights, in the reference's order: the products summed over the edges. -/
def Edges.conv {k f : ℕ} (w : Fin 131072 → ℝ) (A : Fin 4096 → Fin k → ℝ) (W : Fin k → Fin f → EReal) (n : Fin 4096) (j : Fin f) : EReal :=
  Ideal.div (∑ e : Fin 131072 with G.dst e = n, prod A W (G.src e) j * (w e : EReal)) (G.deg n) + prod A W n j

/-- Multiplying after the sum over the edges gives what multiplying before it gives. -/
def Edges.Swaps {k f : ℕ} (w : Fin 131072 → ℝ) (A : Fin 4096 → Fin k → ℝ) (W : Fin k → Fin f → EReal) : Prop :=
  ∀ n j, ∑ l, (∑ e : Fin 131072 with G.dst e = n, (A (G.src e) l : EReal) * (w e : EReal)) * W l j
    = ∑ e : Fin 131072 with G.dst e = n, prod A W (G.src e) j * (w e : EReal)

/-- The kernel's order: the edge sums of the features multiplied after. -/
theorem Edges.conv_before {k f : ℕ} {w : Fin 131072 → ℝ} {A : Fin 4096 → Fin k → ℝ} {W : Fin k → Fin f → EReal} (h : G.Swaps w A W)
    (n : Fin 4096) (j : Fin f) :
    Ideal.div (∑ l, (∑ e : Fin 131072 with G.dst e = n, (A (G.src e) l : EReal) * (w e : EReal)) * W l j) (G.deg n)
      + ∑ l, (A n l : EReal) * W l j = G.conv w A W n j := by
  rw [h n j]
  rfl

/-! ## Finite weights -/

/-- A real weight matrix among the extended real ones. -/
def lift {k f : ℕ} (W : Fin k → Fin f → ℝ) (l : Fin k) (j : Fin f) : EReal := (W l j : EReal)

/-- The product of real features with real weights, as a real number. -/
def prodR {k f : ℕ} (A : Fin 4096 → Fin k → ℝ) (W : Fin k → Fin f → ℝ) (n : Fin 4096) (j : Fin f) : ℝ := ∑ l, A n l * W l j

theorem prod_lift {k f : ℕ} (A : Fin 4096 → Fin k → ℝ) (W : Fin k → Fin f → ℝ) (n : Fin 4096) (j : Fin f) :
    prod A (lift W) n j = (prodR A W n j : EReal) := by
  unfold prod prodR
  rw [coe_sum]
  exact Finset.sum_congr rfl fun l _ => (EReal.coe_mul _ _).symm

/-- A convolution with real weights, as a real number. -/
def Edges.convR {k f : ℕ} (w : Fin 131072 → ℝ) (A : Fin 4096 → Fin k → ℝ) (W : Fin k → Fin f → ℝ) (n : Fin 4096) (j : Fin f) : ℝ :=
  (∑ e : Fin 131072 with G.dst e = n, prodR A W (G.src e) j * w e) / G.deg n + prodR A W n j

theorem Edges.conv_lift {k f : ℕ} (w : Fin 131072 → ℝ) (A : Fin 4096 → Fin k → ℝ) (W : Fin k → Fin f → ℝ) (n : Fin 4096) (j : Fin f) :
    G.conv w A (lift W) n j = (G.convR w A W n j : EReal) := by
  unfold Edges.conv Edges.convR
  rw [EReal.coe_add, ← div_real _ _ (G.deg_ne n), coe_sum, prod_lift]
  simp only [prod_lift, EReal.coe_mul]

/-- With real weights the two orders agree, whatever the signs of the features. -/
theorem Edges.swaps_lift {k f : ℕ} (w : Fin 131072 → ℝ) (A : Fin 4096 → Fin k → ℝ) (W : Fin k → Fin f → ℝ) : G.Swaps w A (lift W) := by
  intro n j
  simp only [prod_lift, lift, ← EReal.coe_mul, ← coe_sum]
  refine congrArg _ ?_
  simp only [prodR, Finset.sum_mul]
  rw [Finset.sum_comm]
  exact Finset.sum_congr rfl fun e _ => Finset.sum_congr rfl fun l _ => by ring

/-! ## Features that are not negative -/

/-- A sum of real numbers that are not negative, times any extended real, is the sum of the products. -/
theorem sum_mul_of_nonneg {ι : Type} (s : Finset ι) (a : ι → ℝ) (ha : ∀ i, 0 ≤ a i) (y : EReal) :
    (∑ i ∈ s, (a i : EReal)) * y = ∑ i ∈ s, (a i : EReal) * y := by
  classical
  induction s using Finset.induction_on with
  | empty => simp
  | insert i s hi ih =>
    rw [Finset.sum_insert hi, Finset.sum_insert hi,
      EReal.right_distrib_of_nonneg (EReal.coe_nonneg.2 (ha i)) (Finset.sum_nonneg fun i _ => EReal.coe_nonneg.2 (ha i)), ih]

/-- A sum of extended reals, times a real number that is not negative, is the sum of the products. -/
theorem sum_mul_real {ι : Type} (s : Finset ι) (y : ι → EReal) (a : ℝ) (ha : 0 ≤ a) :
    (∑ i ∈ s, y i) * (a : EReal) = ∑ i ∈ s, y i * (a : EReal) := by
  classical
  induction s using Finset.induction_on with
  | empty => simp
  | insert i s hi ih =>
    rw [Finset.sum_insert hi, Finset.sum_insert hi,
      EReal.right_distrib_of_nonneg_of_ne_top (EReal.coe_nonneg.2 ha) (EReal.coe_ne_top a), ih]

/-- With features and edge weights that are not negative the two orders agree, whatever the weight matrix holds. -/
theorem Edges.swaps_of_nonneg {k f : ℕ} (w : Fin 131072 → ℝ) (A : Fin 4096 → Fin k → ℝ) (W : Fin k → Fin f → EReal)
    (hw : ∀ e, 0 ≤ w e) (hA : ∀ n l, 0 ≤ A n l) : G.Swaps w A W := by
  intro n j
  have h : ∀ l, (∑ e : Fin 131072 with G.dst e = n, (A (G.src e) l : EReal) * (w e : EReal)) * W l j
      = ∑ e : Fin 131072 with G.dst e = n, (A (G.src e) l : EReal) * W l j * (w e : EReal) := fun l => by
    simp only [← EReal.coe_mul]
    rw [sum_mul_of_nonneg _ _ (fun e => mul_nonneg (hA _ l) (hw e))]
    refine Finset.sum_congr rfl fun e _ => ?_
    rw [EReal.coe_mul, mul_right_comm]
  simp only [h, prod, sum_mul_real _ _ _ (hw _)]
  exact Finset.sum_comm

/-- The positive part. -/
def relu {f : ℕ} (A : Fin 4096 → Fin f → ℝ) (n : Fin 4096) (j : Fin f) : ℝ := max (A n j) 0

theorem relu_coe {f : ℕ} (A : Fin 4096 → Fin f → ℝ) (n : Fin 4096) (j : Fin f) : max (A n j : EReal) 0 = (relu A n j : EReal) := by
  unfold relu
  rw [coe_max]
  rfl

theorem relu_nonneg {f : ℕ} (A : Fin 4096 → Fin f → ℝ) (n : Fin 4096) (j : Fin f) : 0 ≤ relu A n j := le_max_right _ _

/-- The logistic function lies between zero and one at every extended real. -/
theorem logistic_real (x : EReal) : ∃ r : ℝ, 0 ≤ r ∧ r ≤ 1 ∧ Ideal.logistic x = (r : EReal) := by
  induction x with
  | bot => exact ⟨0, le_rfl, zero_le_one, by rw [Ideal.logistic_bot]; rfl⟩
  | top => exact ⟨1, zero_le_one, le_rfl, by rw [Ideal.logistic_top]; rfl⟩
  | coe r =>
    have h : 0 < Real.exp (-r) := Real.exp_pos _
    refine ⟨(1 + Real.exp (-r))⁻¹, by positivity, ?_, by rw [Ideal.logistic_coe]⟩
    exact inv_le_one_of_one_le₀ (by linarith)

/-- What the programs are given: a graph, finite features, the weights (those of the first layers finite), and noise. -/
structure Model extends Edges where
  x : Fin 4096 → Fin 128 → ℝ
  eps : Fin 4096 → Fin 16 → EReal
  w1 : Fin 128 → Fin 64 → ℝ
  wmu : Fin 64 → Fin 16 → EReal
  wlv : Fin 64 → Fin 16 → EReal
  wc1 : Fin 128 → Fin 64 → ℝ
  wc2 : Fin 64 → Fin 64 → EReal

namespace Model

variable (M : Model)

/-- The classifier's first layer. -/
def c1 : Fin 4096 → Fin 64 → ℝ := relu (M.convR (fun _ => 1) M.x M.wc1)
/-- The encoder's layer. -/
def h : Fin 4096 → Fin 64 → ℝ := relu (M.convR (fun _ => 1) M.x M.w1)
/-- The classifier's second layer. -/
def c2 (n : Fin 4096) (j : Fin 64) : EReal := max (M.conv (fun _ => 1) M.c1 M.wc2 n j) 0
/-- The means of the latent variable. -/
def mu : Fin 4096 → Fin 16 → EReal := M.conv (fun _ => 1) M.h M.wmu
/-- The log variances of the latent variable. -/
def lv : Fin 4096 → Fin 16 → EReal := M.conv (fun _ => 1) M.h M.wlv
/-- The latent variable. -/
def z (n : Fin 4096) (j : Fin 16) : EReal :=
  M.mu n j + Ideal.exp (Ideal.ofBits .f32 0x3F000000#32 * M.lv n j) * M.eps n j
/-- The scores of a pair of nodes on the causal dimensions. -/
def score (a b : Fin 4096) : EReal := ∑ k : Fin 8, M.z a (k.castLE (by norm_num)) * M.z b (k.castLE (by norm_num))

/-- The sum over all dimensions with those after the eighth zeroed is the score. -/
theorem score_eq (a b : Fin 4096) :
    ∑ k : Fin 16, (if k.val < 8 then M.z a k else 0) * (if k.val < 8 then M.z b k else 0) = M.score a b := by
  unfold score
  refine (Fin.sum_univ_add (a := 8) (b := 8) _).trans ?_
  refine (congrArg₂ (· + ·) (Finset.sum_congr rfl fun i _ => ?_) (Finset.sum_eq_zero fun i _ => ?_)).trans (add_zero _)
  · rw [if_pos (show (Fin.castAdd 8 i).val < 8 from i.isLt), if_pos (show (Fin.castAdd 8 i).val < 8 from i.isLt)]
    rfl
  · rw [if_neg (by simp), zero_mul]

/-- The attention of an edge. -/
def attn (e : Fin 131072) : EReal := Ideal.logistic (M.score (M.src e) (M.dst e))
/-- The attention of an edge, as a real number. -/
def attnR (e : Fin 131072) : ℝ := (M.attn e).toReal

theorem attnR_coe (e : Fin 131072) : M.attn e = (M.attnR e : EReal) := by
  obtain ⟨r, _, _, h⟩ := logistic_real (M.score (M.src e) (M.dst e))
  unfold attnR attn
  rw [h]
  rfl

theorem attnR_nonneg (e : Fin 131072) : 0 ≤ M.attnR e := by
  obtain ⟨r, h0, _, h⟩ := logistic_real (M.score (M.src e) (M.dst e))
  unfold attnR attn
  rw [h]
  exact h0

/-- The masked classifier's first layer. -/
def g1 : Fin 4096 → Fin 64 → ℝ := relu (M.convR M.attnR M.x M.wc1)
/-- The masked classifier's second layer. -/
def g2 (n : Fin 4096) (j : Fin 64) : EReal := max (M.conv M.attnR M.g1 M.wc2 n j) 0

end Model

end Cert.Graph
-- ==== Proof.Given.lean ====
/-
  What the argument arrays say: the graph, the features, the weights and the noise.
-/
module

public import proofs.«01_k».proof.Proof.Read
public import proofs.«01_k».proof.Proof.Spec

@[expose] public section

noncomputable section

namespace Cert.Graph

open Idealize.ShloMosaic Cert.Read

/-- The argument arrays hold the model `M`. -/
structure Holds (M : Model) (x : FVec Ideal (Sh2 4096 128) .f32) (ei : IVec (Sh2 2 131072) 32) (eps : FVec Ideal (Sh2 4096 16) .f32)
    (w1 : FVec Ideal (Sh2 128 64) .f32) (wmu wlv : FVec Ideal (Sh2 64 16) .f32) (wc1 : FVec Ideal (Sh2 128 64) .f32)
    (wc2 : FVec Ideal (Sh2 64 64) .f32) : Prop where
  src : ∀ e, (ei (ix2 0 e)).toNat = (M.src e).val
  dst : ∀ e, (ei (ix2 1 e)).toNat = (M.dst e).val
  x : ∀ i j, x (ix2 i j) = (M.x i j : EReal)
  eps : ∀ i j, eps (ix2 i j) = M.eps i j
  w1 : ∀ i j, w1 (ix2 i j) = (M.w1 i j : EReal)
  wmu : ∀ i j, wmu (ix2 i j) = M.wmu i j
  wlv : ∀ i j, wlv (ix2 i j) = M.wlv i j
  wc1 : ∀ i j, wc1 (ix2 i j) = (M.wc1 i j : EReal)
  wc2 : ∀ i j, wc2 (ix2 i j) = M.wc2 i j

/-- An array of finite entries holds real numbers. -/
theorem exists_real {n k : ℕ} (A : FVec Ideal (Sh2 n k) .f32) (h : ∀ i, max (A i) (-(A i)) < (⊤ : EReal)) :
    ∃ R : Fin n → Fin k → ℝ, ∀ i j, A (ix2 i j) = (R i j : EReal) := by
  refine ⟨fun i j => (A (ix2 i j)).toReal, fun i j => (EReal.coe_toReal ?_ ?_).symm⟩
  · intro e
    have := h (ix2 i j)
    rw [e] at this
    simp at this
  · intro e
    have := h (ix2 i j)
    rw [e] at this
    simp at this

/-- Argument arrays with edges in range, finite features and finite first weights hold a model. -/
theorem exists_holds (x : FVec Ideal (Sh2 4096 128) .f32) (ei : IVec (Sh2 2 131072) 32) (eps : FVec Ideal (Sh2 4096 16) .f32)
    (w1 : FVec Ideal (Sh2 128 64) .f32) (wmu wlv : FVec Ideal (Sh2 64 16) .f32) (wc1 : FVec Ideal (Sh2 128 64) .f32)
    (wc2 : FVec Ideal (Sh2 64 64) .f32) (he : ∀ i, (ei i).toNat < 4096) (hx : ∀ i, max (x i) (-(x i)) < (⊤ : EReal))
    (h1 : ∀ i, max (w1 i) (-(w1 i)) < (⊤ : EReal)) (hc1 : ∀ i, max (wc1 i) (-(wc1 i)) < (⊤ : EReal)) : ∃ M, Holds M x ei eps w1 wmu wlv wc1 wc2 := by
  obtain ⟨X, hX⟩ := exists_real x hx
  obtain ⟨A1, hA1⟩ := exists_real w1 h1
  obtain ⟨B1, hB1⟩ := exists_real wc1 hc1
  exact ⟨⟨⟨fun e => ⟨_, he (ix2 0 e)⟩, fun e => ⟨_, he (ix2 1 e)⟩⟩, X, fun i j => eps (ix2 i j), A1, fun i j => wmu (ix2 i j),
      fun i j => wlv (ix2 i j), B1, fun i j => wc2 (ix2 i j)⟩,
    fun _ => rfl, fun _ => rfl, hX, fun _ _ => rfl, hA1, fun _ _ => rfl, fun _ _ => rfl, hB1, fun _ _ => rfl⟩

end Cert.Graph
-- ==== Proof.Precond.lean ====
/-
  What the precondition says of the argument arrays: the edges name nodes, and
  the features and the weights of the first layers are finite.
-/
module

public import proofs.«01_k».proof.Pre_graph_of_finite_values
public import proofs.«01_k».proof.Proof.Given
public import Idealize.ShloMosaic.Lib.ReduceAll
public import Idealize.ShloMosaic.Lib.StableHlo.Predicate

@[expose] public section

set_option maxRecDepth 16384

noncomputable section

namespace Cert.Pre_graph_of_finite_values

open Idealize.ShloMosaic Cert.Read Cert.Graph

instance facts : Facts where
  bcast_S_S2x131072 := by decide
  reducesTo_S2x131072_S_d0_1 := by decide
  h_S_ := by decide
  bcast_S_S4096x128 := by decide
  reducesTo_S4096x128_S_d0_1 := by decide
  bcast_S_S128x64 := by decide
  reducesTo_S128x64_S_d0_1 := by decide

open Facts

/-- The word of positive infinity is the largest extended real. -/
theorem infinity : Ideal.ofBits .f32 0x7F800000#32 = (⊤ : EReal) := by
  simp [Ideal.ofBits, Ideal.ieee]

/-- A magnitude compared below infinity. -/
theorem below {x : EReal} (h : Ideal.cmp .olt (max x (-x)) (Ideal.ofBits .f32 0x7F800000#32) = 1#1) : max x (-x) < ⊤ := by
  rw [infinity] at h
  simpa [Ideal.cmp, StableHlo.Predicate.ofBool_eq_one_iff] using h

/-- An array all of whose magnitudes compare below infinity. -/
theorem all_below {s : Shape} {axes : List (Fin s.rank)} (X : FVec Ideal s .f32) (hb : S_.BroadcastsInDim s (![] : Fin 0 → Fin s.rank))
    (h : s.ReducesTo axes S_) (hu : 0 < S_.numel) (init : S_.Idx → BitVec 1) (j : S_.Idx)
    (e : Host.reduce IntOp.andi (cmpf .olt (Host.absf X) (broadcastInDim s ![] hb (constant S_ .f32 0x7F800000#32))) init h hu j = 1#1)
    (i : s.Idx) : max (X i) (-(X i)) < (⊤ : EReal) := by
  have : Subsingleton S_.Idx := ⟨fun a b => funext fun x => x.elim0⟩
  exact below (Host.reduce_andi_all _ _ h hu j e i)

/-- A word compared from zero and below 4096 is below 4096. -/
theorem in_range {b : BitVec 32} (h0 : IntOp.cmpi .sge b 0#32 = 1#1) (h1 : IntOp.cmpi .slt b 4096#32 = 1#1) : b.toNat < 4096 := by
  simp only [IntOp.cmpi, StableHlo.Predicate.ofBool_eq_one_iff, BitVec.sle_eq_decide, BitVec.slt_eq_decide, decide_eq_true_eq] at h0 h1
  have e := BitVec.toInt_eq_toNat_cond b
  have z : (0#32 : BitVec 32).toInt = 0 := rfl
  have f : (4096#32 : BitVec 32).toInt = 4096 := rfl
  split at e <;> omega

/-- Arguments of which the precondition holds hold a model. -/
theorem exists_model (x : FVec Ideal S4096x128 .f32) (ei : IVec S2x131072 32) (eps : FVec Ideal S4096x16 .f32) (w1 : FVec Ideal S128x64 .f32)
    (wmu wlv : FVec Ideal S64x16 .f32) (wc1 : FVec Ideal S128x64 .f32) (wc2 : FVec Ideal S64x64 .f32) (wo : FVec Ideal S64x2 .f32)
    (h : ∀ i, fn (F := Ideal) x ei eps w1 wmu wlv wc1 wc2 wo i = 1#1) : ∃ M, Holds M x ei eps w1 wmu wlv wc1 wc2 := by
  have : Subsingleton S_.Idx := ⟨fun a b => funext fun x => x.elim0⟩
  have j : S_.Idx := fun x => x.elim0
  obtain ⟨h, e4⟩ := IntOp.andi_eq_one.mp (h j)
  obtain ⟨h, e3⟩ := IntOp.andi_eq_one.mp h
  obtain ⟨e1, e0⟩ := IntOp.andi_eq_one.mp h
  refine exists_holds x ei eps w1 wmu wlv wc1 wc2 (fun i => ?_) (all_below x _ _ _ _ j e0) (all_below w1 _ _ _ _ j e3)
    (all_below wc1 _ _ _ _ j e4)
  obtain ⟨a, b⟩ := IntOp.andi_eq_one.mp (Host.reduce_andi_all _ _ _ _ j e1 i)
  exact in_range a b

end Cert.Pre_graph_of_finite_values
-- ==== Proof.Stage.lean ====
/-
  Which buffer the kernel's stages leave alone: what an earlier stage wrote is
  what a later one reads.
-/
module

public import proofs.«01_k».proof.Proof.RunI

@[expose] public section

set_option maxRecDepth 16384

noncomputable section

namespace Cert.KernelIdeal.Stage

open Idealize.ShloMosaic Idealize.ShloMosaic.TcCoe Idealize.ShloMosaic.Tactic
open Cert.KernelIdeal.Gen Cert.KernelIdeal.Body

variable {F : FTy → Type} [FloatOps F] (m : (ℓ : Loc nD τ sig) → Buf (Elt F) ℓ) (c : Dev nD)

theorem v1_6 : V6 m (outs m) c main_v1 = V1 m c main_v1 := by rw [V6_of m (outs m) c main_v1 (by decide), V5_of m c main_v1 (by decide), V4_of m c main_v1 (by decide), V3_of m c main_v1 (by decide), V2_of m c main_v1 (by decide)]
theorem v1_9 : V9 m (outs m) c main_v1 = V1 m c main_v1 := by rw [V9_of m (outs m) c main_v1 (by decide), V8_of m (outs m) c main_v1 (by decide), V7_of m (outs m) c main_v1 (by decide), v1_6]
theorem v1_13 : V13 m (outs m) c main_v1 = V1 m c main_v1 := by rw [V13_of m (outs m) c main_v1 (by decide), V12_of m (outs m) c main_v1 (by decide), V11_of m (outs m) c main_v1 (by decide), V10_of m (outs m) c main_v1 (by decide), v1_9]
theorem v1_16 : V16 m (outs m) c main_v1 = V1 m c main_v1 := by rw [V16_of m (outs m) c main_v1 (by decide), V15_of m (outs m) c main_v1 (by decide), V14_of m (outs m) c main_v1 (by decide), v1_13]
theorem v3_2 : V2 m c main_v3 = V1 m c main_v3 := by rw [V2_of m c main_v3 (by decide)]
theorem v3_7 : V7 m (outs m) c main_v3 = V1 m c main_v3 := by rw [V7_of m (outs m) c main_v3 (by decide), V6_of m (outs m) c main_v3 (by decide), V5_of m c main_v3 (by decide), V4_of m c main_v3 (by decide), V3_of m c main_v3 (by decide), v3_2]
theorem v3_9 : V9 m (outs m) c main_v3 = V1 m c main_v3 := by rw [V9_of m (outs m) c main_v3 (by decide), V8_of m (outs m) c main_v3 (by decide), v3_7]
theorem v3_11 : V11 m (outs m) c main_v3 = V1 m c main_v3 := by rw [V11_of m (outs m) c main_v3 (by decide), V10_of m (outs m) c main_v3 (by decide), v3_9]
theorem v3_14 : V14 m (outs m) c main_v3 = V1 m c main_v3 := by rw [V14_of m (outs m) c main_v3 (by decide), V13_of m (outs m) c main_v3 (by decide), V12_of m (outs m) c main_v3 (by decide), v3_11]
theorem v3_16 : V16 m (outs m) c main_v3 = V1 m c main_v3 := by rw [V16_of m (outs m) c main_v3 (by decide), V15_of m (outs m) c main_v3 (by decide), v3_14]
theorem v6_11 : V11 m (outs m) c main_v6 = V2 m c main_v6 := by rw [V11_of m (outs m) c main_v6 (by decide), V10_of m (outs m) c main_v6 (by decide), V9_of m (outs m) c main_v6 (by decide), V8_of m (outs m) c main_v6 (by decide), V7_of m (outs m) c main_v6 (by decide), V6_of m (outs m) c main_v6 (by decide), V5_of m c main_v6 (by decide), V4_of m c main_v6 (by decide), V3_of m c main_v6 (by decide)]
theorem v12_5 : V5 m c main_v12 = V4 m c main_v12 := by rw [V5_of m c main_v12 (by decide)]
theorem v12_8 : V8 m (outs m) c main_v12 = V4 m c main_v12 := by rw [V8_of m (outs m) c main_v12 (by decide), V7_of m (outs m) c main_v12 (by decide), V6_of m (outs m) c main_v12 (by decide), v12_5]
theorem v12_12 : V12 m (outs m) c main_v12 = V4 m c main_v12 := by rw [V12_of m (outs m) c main_v12 (by decide), V11_of m (outs m) c main_v12 (by decide), V10_of m (outs m) c main_v12 (by decide), V9_of m (outs m) c main_v12 (by decide), v12_8]
theorem v12_15 : V15 m (outs m) c main_v12 = V4 m c main_v12 := by rw [V15_of m (outs m) c main_v12 (by decide), V14_of m (outs m) c main_v12 (by decide), V13_of m (outs m) c main_v12 (by decide), v12_12]
theorem v10_5 : V5 m c main_v10 = V3 m c main_v10 := by rw [V5_of m c main_v10 (by decide), V4_of m c main_v10 (by decide)]
theorem v14_8 : V8 m (outs m) c main_v14 = V6 m (outs m) c main_v14 := by rw [V8_of m (outs m) c main_v14 (by decide), V7_of m (outs m) c main_v14 (by decide)]
theorem v51_14 : V14 m (outs m) c main_v51 = V12 m (outs m) c main_v51 := by rw [V14_of m (outs m) c main_v51 (by decide), V13_of m (outs m) c main_v51 (by decide)]
theorem v51_20 : V20 m (outs m) c main_v51 = V12 m (outs m) c main_v51 := by rw [V20_of m (outs m) c main_v51 (by decide), V19_of m (outs m) c main_v51 (by decide), V18_of m (outs m) c main_v51 (by decide), V17_of m (outs m) c main_v51 (by decide), V16_of m (outs m) c main_v51 (by decide), V15_of m (outs m) c main_v51 (by decide), v51_14]
theorem v58_15 : V15 m (outs m) c main_v58 = V13 m (outs m) c main_v58 := by rw [V15_of m (outs m) c main_v58 (by decide), V14_of m (outs m) c main_v58 (by decide)]
theorem v37_16 : V16 m (outs m) c main_v37 = V10 m (outs m) c main_v37 := by rw [V16_of m (outs m) c main_v37 (by decide), V15_of m (outs m) c main_v37 (by decide), V14_of m (outs m) c main_v37 (by decide), V13_of m (outs m) c main_v37 (by decide), V12_of m (outs m) c main_v37 (by decide), V11_of m (outs m) c main_v37 (by decide)]
theorem v37_17 : V17 m (outs m) c main_v37 = V16 m (outs m) c main_v37 := by rw [V17_of m (outs m) c main_v37 (by decide)]
theorem v26_17 : V17 m (outs m) c main_v26 = V10 m (outs m) c main_v26 := by rw [V17_of m (outs m) c main_v26 (by decide), V16_of m (outs m) c main_v26 (by decide), V15_of m (outs m) c main_v26 (by decide), V14_of m (outs m) c main_v26 (by decide), V13_of m (outs m) c main_v26 (by decide), V12_of m (outs m) c main_v26 (by decide), V11_of m (outs m) c main_v26 (by decide)]
theorem v27_17 : V17 m (outs m) c main_v27 = V10 m (outs m) c main_v27 := by rw [V17_of m (outs m) c main_v27 (by decide), V16_of m (outs m) c main_v27 (by decide), V15_of m (outs m) c main_v27 (by decide), V14_of m (outs m) c main_v27 (by decide), V13_of m (outs m) c main_v27 (by decide), V12_of m (outs m) c main_v27 (by decide), V11_of m (outs m) c main_v27 (by decide)]
theorem v97_20 : V20 m (outs m) c main_v97 = V19 m (outs m) c main_v97 := by rw [V20_of m (outs m) c main_v97 (by decide)]
theorem v101_20 : V20 m (outs m) c main_v101 = V19 m (outs m) c main_v101 := by rw [V20_of m (outs m) c main_v101 (by decide)]
theorem v104_20 : V20 m (outs m) c main_v104 = V19 m (outs m) c main_v104 := by rw [V20_of m (outs m) c main_v104 (by decide)]
theorem v70_19 : V19 m (outs m) c main_v70 = V17 m (outs m) c main_v70 := by rw [V19_of m (outs m) c main_v70 (by decide), V18_of m (outs m) c main_v70 (by decide)]
theorem v32_20 : V20 m (outs m) c main_v32 = V10 m (outs m) c main_v32 := by rw [V20_of m (outs m) c main_v32 (by decide), V19_of m (outs m) c main_v32 (by decide), V18_of m (outs m) c main_v32 (by decide), V17_of m (outs m) c main_v32 (by decide), V16_of m (outs m) c main_v32 (by decide), V15_of m (outs m) c main_v32 (by decide), V14_of m (outs m) c main_v32 (by decide), V13_of m (outs m) c main_v32 (by decide), V12_of m (outs m) c main_v32 (by decide), V11_of m (outs m) c main_v32 (by decide)]
theorem v32_21 : V21 m (outs m) c main_v32 = V10 m (outs m) c main_v32 := by rw [V21_of m (outs m) c main_v32 (by decide), v32_20]
theorem arg0_1 : V1 m c main_arg0 = V0 m c main_arg0 := by rw [V1_of m c main_arg0 (by decide)]
theorem arg0_5 : V5 m c main_arg0 = V0 m c main_arg0 := by rw [V5_of m c main_arg0 (by decide), V4_of m c main_arg0 (by decide), V3_of m c main_arg0 (by decide), V2_of m c main_arg0 (by decide), arg0_1]
theorem arg0_12 : V12 m (outs m) c main_arg0 = V0 m c main_arg0 := by rw [V12_of m (outs m) c main_arg0 (by decide), V11_of m (outs m) c main_arg0 (by decide), V10_of m (outs m) c main_arg0 (by decide), V9_of m (outs m) c main_arg0 (by decide), V8_of m (outs m) c main_arg0 (by decide), V7_of m (outs m) c main_arg0 (by decide), V6_of m (outs m) c main_arg0 (by decide), arg0_5]
theorem arg2_9 : V9 m (outs m) c main_arg2 = V0 m c main_arg2 := by rw [V9_of m (outs m) c main_arg2 (by decide), V8_of m (outs m) c main_arg2 (by decide), V7_of m (outs m) c main_arg2 (by decide), V6_of m (outs m) c main_arg2 (by decide), V5_of m c main_arg2 (by decide), V4_of m c main_arg2 (by decide), V3_of m c main_arg2 (by decide), V2_of m c main_arg2 (by decide), V1_of m c main_arg2 (by decide)]
theorem arg3_4 : V4 m c main_arg3 = V0 m c main_arg3 := by rw [V4_of m c main_arg3 (by decide), V3_of m c main_arg3 (by decide), V2_of m c main_arg3 (by decide), V1_of m c main_arg3 (by decide)]
theorem arg4_7 : V7 m (outs m) c main_arg4 = V0 m c main_arg4 := by rw [V7_of m (outs m) c main_arg4 (by decide), V6_of m (outs m) c main_arg4 (by decide), V5_of m c main_arg4 (by decide), V4_of m c main_arg4 (by decide), V3_of m c main_arg4 (by decide), V2_of m c main_arg4 (by decide), V1_of m c main_arg4 (by decide)]
theorem arg5_7 : V7 m (outs m) c main_arg5 = V0 m c main_arg5 := by rw [V7_of m (outs m) c main_arg5 (by decide), V6_of m (outs m) c main_arg5 (by decide), V5_of m c main_arg5 (by decide), V4_of m c main_arg5 (by decide), V3_of m c main_arg5 (by decide), V2_of m c main_arg5 (by decide), V1_of m c main_arg5 (by decide)]
theorem arg6_4 : V4 m c main_arg6 = V0 m c main_arg6 := by rw [V4_of m c main_arg6 (by decide), V3_of m c main_arg6 (by decide), V2_of m c main_arg6 (by decide), V1_of m c main_arg6 (by decide)]
theorem arg6_12 : V12 m (outs m) c main_arg6 = V0 m c main_arg6 := by rw [V12_of m (outs m) c main_arg6 (by decide), V11_of m (outs m) c main_arg6 (by decide), V10_of m (outs m) c main_arg6 (by decide), V9_of m (outs m) c main_arg6 (by decide), V8_of m (outs m) c main_arg6 (by decide), V7_of m (outs m) c main_arg6 (by decide), V6_of m (outs m) c main_arg6 (by decide), V5_of m c main_arg6 (by decide), arg6_4]
theorem arg7_7 : V7 m (outs m) c main_arg7 = V0 m c main_arg7 := by rw [V7_of m (outs m) c main_arg7 (by decide), V6_of m (outs m) c main_arg7 (by decide), V5_of m c main_arg7 (by decide), V4_of m c main_arg7 (by decide), V3_of m c main_arg7 (by decide), V2_of m c main_arg7 (by decide), V1_of m c main_arg7 (by decide)]
theorem arg7_15 : V15 m (outs m) c main_arg7 = V0 m c main_arg7 := by rw [V15_of m (outs m) c main_arg7 (by decide), V14_of m (outs m) c main_arg7 (by decide), V13_of m (outs m) c main_arg7 (by decide), V12_of m (outs m) c main_arg7 (by decide), V11_of m (outs m) c main_arg7 (by decide), V10_of m (outs m) c main_arg7 (by decide), V9_of m (outs m) c main_arg7 (by decide), V8_of m (outs m) c main_arg7 (by decide), arg7_7]
theorem arg8_9 : V9 m (outs m) c main_arg8 = V0 m c main_arg8 := by rw [V9_of m (outs m) c main_arg8 (by decide), V8_of m (outs m) c main_arg8 (by decide), V7_of m (outs m) c main_arg8 (by decide), V6_of m (outs m) c main_arg8 (by decide), V5_of m c main_arg8 (by decide), V4_of m c main_arg8 (by decide), V3_of m c main_arg8 (by decide), V2_of m c main_arg8 (by decide), V1_of m c main_arg8 (by decide)]
theorem arg8_16 : V16 m (outs m) c main_arg8 = V0 m c main_arg8 := by rw [V16_of m (outs m) c main_arg8 (by decide), V15_of m (outs m) c main_arg8 (by decide), V14_of m (outs m) c main_arg8 (by decide), V13_of m (outs m) c main_arg8 (by decide), V12_of m (outs m) c main_arg8 (by decide), V11_of m (outs m) c main_arg8 (by decide), V10_of m (outs m) c main_arg8 (by decide), arg8_9]

theorem v14_out : V6 m (outs m) c main_v14 = outs m 6 main_v14 c := Function.update_self (β := fun b : DevRef τ sig => b.ty.Contents (Elt F)) _ _ _

theorem v24_out : V9 m (outs m) c main_v24 = outs m 9 main_v24 c := Function.update_self (β := fun b : DevRef τ sig => b.ty.Contents (Elt F)) _ _ _

theorem v58_out : V13 m (outs m) c main_v58 = outs m 13 main_v58 c := Function.update_self (β := fun b : DevRef τ sig => b.ty.Contents (Elt F)) _ _ _

theorem v65_out : V16 m (outs m) c main_v65 = outs m 16 main_v65 c := Function.update_self (β := fun b : DevRef τ sig => b.ty.Contents (Elt F)) _ _ _

theorem v92_out : V18 m (outs m) c main_v92 = outs m 18 main_v92 c := Function.update_self (β := fun b : DevRef τ sig => b.ty.Contents (Elt F)) _ _ _

end Cert.KernelIdeal.Stage
-- ==== Proof.Combine.lean ====
/-
  The four combining regions of the kernel: what each leaves in its output array, entry by entry.
-/
module

public import proofs.«01_k».proof.Proof.RunI
public import proofs.«01_k».proof.Proof.Read
public import Idealize.ShloMosaic.Lib.Pipeline.ValueKit

@[expose] public section

set_option maxRecDepth 16384

noncomputable section

namespace Cert.KernelIdeal.Combine

open Idealize.ShloMosaic Idealize.ShloMosaic.TcCoe Idealize.ShloMosaic.Tactic
open Idealize.ShloMosaic.Pipeline (Dat RDat Cfg Window)
open Cert.KernelIdeal.Gen Cert.KernelIdeal.Body Cert.Read

/-- Edge sums times weights divided by the degrees, plus features times weights. -/
def combine {k f : ℕ} (s t : FVec Ideal (Sh2 4096 k) .f32) (d : FVec Ideal (Sh2 4096 1) .f32) (w : FVec Ideal (Sh2 k f) .f32) :
    FVec Ideal (Sh2 4096 f) .f32 := fun i =>
  Ideal.div (∑ l, s (ix2 (i 0) l) * w (ix2 l (i 1))) (d (ix2 (i 0) (0 : Fin 1))) + ∑ l, t (ix2 (i 0) l) * w (ix2 l (i 1))

/-- The positive part on the first columns, the number itself on the others. -/
def reluTo {f : ℕ} (k : ℕ) (q : Fin f) (x : EReal) : EReal := if q.val < k then max x 0 else x

variable (V : Dev nD → Valuation τ sig (Elt Ideal)) (c : Dev nD)

/-! ## Region 0: the hidden layers of both heads -/

/-- Where the blocks of region 0 lie. -/
theorem idx0 : ∀ t : Fin cfg0.N, win0_0.index t = ![t.val, 0] ∧ win0_1.index t = ![t.val, 0] ∧ win0_2.index t = ![t.val, 0]
    ∧ win0_3.index t = ![0, 0] ∧ win0_4.index t = ![t.val, 0] :=
  (by decide +kernel : ∀ t : Fin grid0.N, _)

/-- What the body of region 0 computes, entry by entry. -/
theorem pay0 (w : FVec Ideal S128x128 .f32) (s t : FVec Ideal S512x128 .f32) (d : FVec Ideal S512x1 .f32) (p : Fin 512) (q : Fin 128) :
    k0_pay1 (F := Ideal) w s t d (ix2 p q) = max (Ideal.div (∑ l : Fin 128, s (ix2 p l) * w (ix2 l q)) (d (ix2 p (0 : Fin 1)))
      + ∑ l : Fin 128, t (ix2 p l) * w (ix2 l q)) 0 := by
  pointwise [k0_pay1]

set_option maxHeartbeats 1000000 in
/-- The output array of region 0. -/
theorem out0_eq : (dat0 V c).arrAt 4 cfg0.N = fun i => max (combine (V c main_v10) (V c main_arg0) (V c main_v12) (V c main_v13) i) 0 := by
  refine (dat0 V c).arrAt_eq_of_covers 4 _ (by decide +kernel) fun t hf y => ?_
  obtain ⟨e0, e1, e2, e3, e4⟩ := idx0 t
  have b0 : ∀ l : Fin 128, block0 V c 0 t (ix2 (y 0 : Fin 512) l)
      = (V c main_v10 : FVec Ideal S4096x128 .f32) (ix2 (((View.whole main_v14).slice (win0_4.rect t)).emb y 0 : Fin 4096) l) := fun l => by
    unfold block0
    blk_simp
    refine congrArg _ ?_
    blk_ext [e0, e4]
  have b1 : ∀ l : Fin 128, block0 V c 1 t (ix2 (y 0 : Fin 512) l)
      = (V c main_arg0 : FVec Ideal S4096x128 .f32) (ix2 (((View.whole main_v14).slice (win0_4.rect t)).emb y 0 : Fin 4096) l) := fun l => by
    unfold block0
    blk_simp
    refine congrArg _ ?_
    blk_ext [e1, e4]
  have b2 : block0 V c 2 t (ix2 (y 0 : Fin 512) (0 : Fin 1))
      = (V c main_v12 : FVec Ideal S4096x1 .f32) (ix2 (((View.whole main_v14).slice (win0_4.rect t)).emb y 0 : Fin 4096) (0 : Fin 1)) := by
    unfold block0
    blk_simp
    refine congrArg _ ?_
    blk_ext [e2, e4]
  have b3 : ∀ l : Fin 128, block0 V c 3 t (ix2 l (y 1 : Fin 128))
      = (V c main_v13 : FVec Ideal S128x128 .f32) (ix2 l (((View.whole main_v14).slice (win0_4.rect t)).emb y 1 : Fin 128)) := fun l => by
    unfold block0
    blk_simp
    refine congrArg _ ?_
    blk_ext [e3, e4]
  blk_simp
  rw [(after_dat0 V c t).2.2.2.2]
  unfold left0
  frame_out
  refine (congrArg (k0_pay1 (F := Ideal) (block0 V c 3 t) (block0 V c 0 t) (block0 V c 1 t) (block0 V c 2 t)) (eq_ix2 y)).trans
    ((pay0 _ _ _ _ _ _).trans ?_)
  generalize ((View.whole main_v14).slice (win0_4.rect t)).emb y = E at b0 b1 b2 b3 ⊢
  generalize block0 V c 0 t = B0 at b0 ⊢
  generalize block0 V c 1 t = B1 at b1 ⊢
  generalize block0 V c 2 t = B2 at b2 ⊢
  generalize block0 V c 3 t = B3 at b3 ⊢
  exact congrArg₂ max (congrArg₂ (· + ·) (congrArg₂ Ideal.div (Finset.sum_congr rfl fun l _ => congrArg₂ (· * ·) (b0 l) (b3 l)) b2)
    (Finset.sum_congr rfl fun l _ => congrArg₂ (· * ·) (b1 l) (b3 l))) rfl

/-! ## Region 1: the second layer of the classifier beside the latent heads -/

/-- Where the blocks of region 1 lie. -/
theorem idx1 : ∀ t : Fin cfg1.N, win1_0.index t = ![t.val, 0] ∧ win1_1.index t = ![t.val, 0] ∧ win1_2.index t = ![t.val, 0]
    ∧ win1_3.index t = ![0, 0] ∧ win1_4.index t = ![t.val, 0] :=
  (by decide +kernel : ∀ t : Fin grid1.N, _)

/-- What the body of region 1 computes, entry by entry. -/
theorem pay1 (w : FVec Ideal S128x96 .f32) (s t : FVec Ideal S512x128 .f32) (d : FVec Ideal S512x1 .f32) (p : Fin 512) (q : Fin 96) :
    k1_pay1 (F := Ideal) w s t d (ix2 p q) = reluTo 64 q (Ideal.div (∑ l : Fin 128, s (ix2 p l) * w (ix2 l q)) (d (ix2 p (0 : Fin 1)))
      + ∑ l : Fin 128, t (ix2 p l) * w (ix2 l q)) := by
  pointwise [k1_pay1]
  have h : IntOp.cmpi .slt (BitVec.ofNat 32 q.val) 64#32 = 1#1 ↔ q.val < 64 := StableHlo.Predicate.slt_ofNat_iff _ _ (by omega) (by norm_num)
  unfold reluTo
  split
  · next hq =>
    rw [h.2 hq]
    rfl
  · next hq =>
    rw [(BitVec.eq_zero_or_eq_one (IntOp.cmpi .slt (BitVec.ofNat 32 q.val) 64#32)).resolve_right fun e => hq (h.1 e)]
    rfl

set_option maxHeartbeats 1000000 in
/-- The output array of region 1. -/
theorem out1_eq : (dat1 V c).arrAt 4 cfg1.N = fun i => reluTo 64 (i 1 : Fin 96) (combine (V c main_v18) (V c main_v14) (V c main_v12) (V c main_v23) i) := by
  refine (dat1 V c).arrAt_eq_of_covers 4 _ (by decide +kernel) fun t hf y => ?_
  obtain ⟨e0, e1, e2, e3, e4⟩ := idx1 t
  have b0 : ∀ l : Fin 128, block1 V c 0 t (ix2 (y 0 : Fin 512) l)
      = (V c main_v18 : FVec Ideal S4096x128 .f32) (ix2 (((View.whole main_v24).slice (win1_4.rect t)).emb y 0 : Fin 4096) l) := fun l => by
    unfold block1
    blk_simp
    refine congrArg _ ?_
    blk_ext [e0, e4]
  have b1 : ∀ l : Fin 128, block1 V c 1 t (ix2 (y 0 : Fin 512) l)
      = (V c main_v14 : FVec Ideal S4096x128 .f32) (ix2 (((View.whole main_v24).slice (win1_4.rect t)).emb y 0 : Fin 4096) l) := fun l => by
    unfold block1
    blk_simp
    refine congrArg _ ?_
    blk_ext [e1, e4]
  have b2 : block1 V c 2 t (ix2 (y 0 : Fin 512) (0 : Fin 1))
      = (V c main_v12 : FVec Ideal S4096x1 .f32) (ix2 (((View.whole main_v24).slice (win1_4.rect t)).emb y 0 : Fin 4096) (0 : Fin 1)) := by
    unfold block1
    blk_simp
    refine congrArg _ ?_
    blk_ext [e2, e4]
  have b3 : ∀ l : Fin 128, block1 V c 3 t (ix2 l (y 1 : Fin 96))
      = (V c main_v23 : FVec Ideal S128x96 .f32) (ix2 l (((View.whole main_v24).slice (win1_4.rect t)).emb y 1 : Fin 96)) := fun l => by
    unfold block1
    blk_simp
    refine congrArg _ ?_
    blk_ext [e3, e4]
  have b4 : ((View.whole main_v24).slice (win1_4.rect t)).emb y = ix2 (((View.whole main_v24).slice (win1_4.rect t)).emb y 0 : Fin 4096) (y 1 : Fin 96) := by
    blk_ext [e4]
  blk_simp
  rw [(after_dat1 V c t).2.2.2.2]
  unfold left1
  frame_out
  refine (congrArg (k1_pay1 (F := Ideal) (block1 V c 3 t) (block1 V c 0 t) (block1 V c 1 t) (block1 V c 2 t)) (eq_ix2 y)).trans
    ((pay1 _ _ _ _ _ _).trans ?_)
  generalize ((View.whole main_v24).slice (win1_4.rect t)).emb y = E at b0 b1 b2 b3 b4 ⊢
  generalize block1 V c 0 t = B0 at b0 ⊢
  generalize block1 V c 1 t = B1 at b1 ⊢
  generalize block1 V c 2 t = B2 at b2 ⊢
  generalize block1 V c 3 t = B3 at b3 ⊢
  exact congrArg₂ (reluTo 64) (congrFun b4 1).symm (congrArg₂ (· + ·) (congrArg₂ Ideal.div (Finset.sum_congr rfl fun l _ => congrArg₂ (· * ·) (b0 l) (b3 l)) b2)
    (Finset.sum_congr rfl fun l _ => congrArg₂ (· * ·) (b1 l) (b3 l)))

/-! ## Region 2: the masked classifier's first layer -/

/-- Where the blocks of region 2 lie. -/
theorem idx2 : ∀ t : Fin cfg2.N, win2_0.index t = ![t.val, 0] ∧ win2_1.index t = ![t.val, 0] ∧ win2_2.index t = ![t.val, 0]
    ∧ win2_3.index t = ![0, 0] ∧ win2_4.index t = ![t.val, 0] :=
  (by decide +kernel : ∀ t : Fin grid2.N, _)

/-- What the body of region 2 computes, entry by entry. -/
theorem pay2 (w : FVec Ideal S128x64 .f32) (s t : FVec Ideal S512x128 .f32) (d : FVec Ideal S512x1 .f32) (p : Fin 512) (q : Fin 64) :
    k2_pay1 (F := Ideal) w s t d (ix2 p q) = max (Ideal.div (∑ l : Fin 128, s (ix2 p l) * w (ix2 l q)) (d (ix2 p (0 : Fin 1)))
      + ∑ l : Fin 128, t (ix2 p l) * w (ix2 l q)) 0 := by
  pointwise [k2_pay1]

set_option maxHeartbeats 1000000 in
/-- The output array of region 2. -/
theorem out2_eq : (dat2 V c).arrAt 4 cfg2.N = fun i => max (combine (V c main_v57) (V c main_arg0) (V c main_v12) (V c main_arg6) i) 0 := by
  refine (dat2 V c).arrAt_eq_of_covers 4 _ (by decide +kernel) fun t hf y => ?_
  obtain ⟨e0, e1, e2, e3, e4⟩ := idx2 t
  have b0 : ∀ l : Fin 128, block2 V c 0 t (ix2 (y 0 : Fin 512) l)
      = (V c main_v57 : FVec Ideal S4096x128 .f32) (ix2 (((View.whole main_v58).slice (win2_4.rect t)).emb y 0 : Fin 4096) l) := fun l => by
    unfold block2
    blk_simp
    refine congrArg _ ?_
    blk_ext [e0, e4]
  have b1 : ∀ l : Fin 128, block2 V c 1 t (ix2 (y 0 : Fin 512) l)
      = (V c main_arg0 : FVec Ideal S4096x128 .f32) (ix2 (((View.whole main_v58).slice (win2_4.rect t)).emb y 0 : Fin 4096) l) := fun l => by
    unfold block2
    blk_simp
    refine congrArg _ ?_
    blk_ext [e1, e4]
  have b2 : block2 V c 2 t (ix2 (y 0 : Fin 512) (0 : Fin 1))
      = (V c main_v12 : FVec Ideal S4096x1 .f32) (ix2 (((View.whole main_v58).slice (win2_4.rect t)).emb y 0 : Fin 4096) (0 : Fin 1)) := by
    unfold block2
    blk_simp
    refine congrArg _ ?_
    blk_ext [e2, e4]
  have b3 : ∀ l : Fin 128, block2 V c 3 t (ix2 l (y 1 : Fin 64))
      = (V c main_arg6 : FVec Ideal S128x64 .f32) (ix2 l (((View.whole main_v58).slice (win2_4.rect t)).emb y 1 : Fin 64)) := fun l => by
    unfold block2
    blk_simp
    refine congrArg _ ?_
    blk_ext [e3, e4]
  blk_simp
  rw [(after_dat2 V c t).2.2.2.2]
  unfold left2
  frame_out
  refine (congrArg (k2_pay1 (F := Ideal) (block2 V c 3 t) (block2 V c 0 t) (block2 V c 1 t) (block2 V c 2 t)) (eq_ix2 y)).trans
    ((pay2 _ _ _ _ _ _).trans ?_)
  generalize ((View.whole main_v58).slice (win2_4.rect t)).emb y = E at b0 b1 b2 b3 ⊢
  generalize block2 V c 0 t = B0 at b0 ⊢
  generalize block2 V c 1 t = B1 at b1 ⊢
  generalize block2 V c 2 t = B2 at b2 ⊢
  generalize block2 V c 3 t = B3 at b3 ⊢
  exact congrArg₂ max (congrArg₂ (· + ·) (congrArg₂ Ideal.div (Finset.sum_congr rfl fun l _ => congrArg₂ (· * ·) (b0 l) (b3 l)) b2)
    (Finset.sum_congr rfl fun l _ => congrArg₂ (· * ·) (b1 l) (b3 l))) rfl

/-! ## Region 3: the masked classifier's second layer -/

/-- Where the blocks of region 3 lie. -/
theorem idx3 : ∀ t : Fin cfg3.N, win3_0.index t = ![t.val, 0] ∧ win3_1.index t = ![t.val, 0] ∧ win3_2.index t = ![t.val, 0]
    ∧ win3_3.index t = ![0, 0] ∧ win3_4.index t = ![t.val, 0] :=
  (by decide +kernel : ∀ t : Fin grid3.N, _)

/-- What the body of region 3 computes, entry by entry. -/
theorem pay3 (w : FVec Ideal S64x64 .f32) (s t : FVec Ideal S512x64 .f32) (d : FVec Ideal S512x1 .f32) (p : Fin 512) (q : Fin 64) :
    k3_pay1 (F := Ideal) w s t d (ix2 p q) = max (Ideal.div (∑ l : Fin 64, s (ix2 p l) * w (ix2 l q)) (d (ix2 p (0 : Fin 1)))
      + ∑ l : Fin 64, t (ix2 p l) * w (ix2 l q)) 0 := by
  pointwise [k3_pay1]

set_option maxHeartbeats 1000000 in
/-- The output array of region 3. -/
theorem out3_eq : (dat3 V c).arrAt 4 cfg3.N = fun i => max (combine (V c main_v64) (V c main_v58) (V c main_v12) (V c main_arg7) i) 0 := by
  refine (dat3 V c).arrAt_eq_of_covers 4 _ (by decide +kernel) fun t hf y => ?_
  obtain ⟨e0, e1, e2, e3, e4⟩ := idx3 t
  have b0 : ∀ l : Fin 64, block3 V c 0 t (ix2 (y 0 : Fin 512) l)
      = (V c main_v64 : FVec Ideal S4096x64 .f32) (ix2 (((View.whole main_v65).slice (win3_4.rect t)).emb y 0 : Fin 4096) l) := fun l => by
    unfold block3
    blk_simp
    refine congrArg _ ?_
    blk_ext [e0, e4]
  have b1 : ∀ l : Fin 64, block3 V c 1 t (ix2 (y 0 : Fin 512) l)
      = (V c main_v58 : FVec Ideal S4096x64 .f32) (ix2 (((View.whole main_v65).slice (win3_4.rect t)).emb y 0 : Fin 4096) l) := fun l => by
    unfold block3
    blk_simp
    refine congrArg _ ?_
    blk_ext [e1, e4]
  have b2 : block3 V c 2 t (ix2 (y 0 : Fin 512) (0 : Fin 1))
      = (V c main_v12 : FVec Ideal S4096x1 .f32) (ix2 (((View.whole main_v65).slice (win3_4.rect t)).emb y 0 : Fin 4096) (0 : Fin 1)) := by
    unfold block3
    blk_simp
    refine congrArg _ ?_
    blk_ext [e2, e4]
  have b3 : ∀ l : Fin 64, block3 V c 3 t (ix2 l (y 1 : Fin 64))
      = (V c main_arg7 : FVec Ideal S64x64 .f32) (ix2 l (((View.whole main_v65).slice (win3_4.rect t)).emb y 1 : Fin 64)) := fun l => by
    unfold block3
    blk_simp
    refine congrArg _ ?_
    blk_ext [e3, e4]
  blk_simp
  rw [(after_dat3 V c t).2.2.2.2]
  unfold left3
  frame_out
  refine (congrArg (k3_pay1 (F := Ideal) (block3 V c 3 t) (block3 V c 0 t) (block3 V c 1 t) (block3 V c 2 t)) (eq_ix2 y)).trans
    ((pay3 _ _ _ _ _ _).trans ?_)
  generalize ((View.whole main_v65).slice (win3_4.rect t)).emb y = E at b0 b1 b2 b3 ⊢
  generalize block3 V c 0 t = B0 at b0 ⊢
  generalize block3 V c 1 t = B1 at b1 ⊢
  generalize block3 V c 2 t = B2 at b2 ⊢
  generalize block3 V c 3 t = B3 at b3 ⊢
  exact congrArg₂ max (congrArg₂ (· + ·) (congrArg₂ Ideal.div (Finset.sum_congr rfl fun l _ => congrArg₂ (· * ·) (b0 l) (b3 l)) b2)
    (Finset.sum_congr rfl fun l _ => congrArg₂ (· * ·) (b1 l) (b3 l))) rfl

end Cert.KernelIdeal.Combine
-- ==== Proof.HostI.lean ====
/-
  The host operations of the kernel between its regions, read at an index.
-/
module

public import proofs.«01_k».proof.Proof.Read
public import proofs.«01_k».proof.Proof.Gen.KernelIdeal.Regions

@[expose] public section

set_option maxRecDepth 16384

noncomputable section

namespace Cert.KernelIdeal.HostRead

open Idealize.ShloMosaic Idealize.ShloMosaic.TcCoe Idealize.ShloMosaic.Tactic
open Cert.KernelIdeal.Gen Cert.Read

variable (V : Valuation τ sig (Elt Ideal))

set_option maxHeartbeats 1000000

/-! ## Before region 0 -/

/-- The start nodes are the first row of the edge table. -/
theorem v1_apply (e : Fin 131072) : (StableHlo.after hostOps0 V main_v1 : IVec S131072 32) (ix1 e) = (V main_arg1 : IVec S2x131072 32) (ix2 (0 : Fin 2) e) := by
  simp only [hostOps0]
  after_results_simp
  show shapeCast S131072 (extractStridedSlice S1x131072 ![0, 0] (V main_arg1 : IVec S2x131072 32) _) _ (ix1 e) = _
  pointwise

/-- The end nodes are its second row. -/
theorem v3_apply (e : Fin 131072) : (StableHlo.after hostOps0 V main_v3 : IVec S131072 32) (ix1 e) = (V main_arg1 : IVec S2x131072 32) (ix2 (1 : Fin 2) e) := by
  simp only [hostOps0]
  after_results_simp
  show shapeCast S131072 (extractStridedSlice S1x131072 ![1, 0] (V main_arg1 : IVec S2x131072 32) _) _ (ix1 e) = _
  pointwise

/-- The features with a column of ones after them: the features. -/
theorem v5_left (n : Fin 4096) (l : Fin 128) : at2 (n := 4096) (k := 129) (StableHlo.after hostOps0 V main_v5) n (l.castLE (by norm_num) : Fin 129)
    = at2 (n := 4096) (k := 128) (V main_arg0) n l := by
  simp only [hostOps0]
  after_results_simp
  refine concatenate_pair_apply_left (t := S4096x129) (s₁ := S4096x128) (s₂ := S4096x1) 1 _ _ _ _ rfl (ix2 n l) fun a => ?_
  match a with
  | ⟨0, _⟩ => rfl
  | ⟨1, _⟩ => rfl

/-- The features with a column of ones after them: the ones. -/
theorem v5_right (n : Fin 4096) : at2 (n := 4096) (k := 129) (StableHlo.after hostOps0 V main_v5) n (128 : Fin 129) = (1 : EReal) := by
  simp only [hostOps0]
  after_results_simp
  refine (concatenate_pair_apply_right (t := S4096x129) (s₁ := S4096x128) (s₂ := S4096x1) 1 _ _ _ _ rfl rfl (ix2 n (0 : Fin 1)) (fun a ha => ?_) rfl).trans Ideal.ofBits_one_f32
  match a with
  | ⟨0, _⟩ => rfl
  | ⟨1, _⟩ => exact absurd rfl ha

/-- The rows taken: features and ones at the start nodes. -/
theorem v6_apply (node : Fin 131072 → Fin 4096) (hs : ∀ e : Fin 131072, ((V main_v1 : IVec S131072 32) (ix1 e)).toNat = (node e).val)
    (e : Fin 131072) (f : Fin 129) :
    at2 (n := 131072) (k := 129) (StableHlo.after hostOps0_1 V main_v6) e f = at2 (n := 4096) (k := 129) (V main_v5) (node e) f := by
  simp only [hostOps0_1, StableHlo.TRef.binary, StableHlo.TRef.nullary, StableHlo.TRef.ternary, StableHlo.TRef.unary, StableHlo.TRef.toBuf, StableHlo.TRef.ofBuf, cast_eq]
  after_results_simp
  exact take_read _ rfl rfl rfl rfl rfl _ _ _ _ _ _ _ _ _ _ _ _ (fun _ => rfl) (fun _ => rfl) (fun _ => rfl) (fun _ => rfl) node hs e f

/-- The edge sums of features and ones. -/
theorem v9_apply (dst : Fin 131072 → Fin 4096) (hd : ∀ e : Fin 131072, ((V main_v3 : IVec S131072 32) (ix1 e)).toNat = (dst e).val) (n : Fin 4096) (l : Fin 129) :
    at2 (n := 4096) (k := 129) (StableHlo.after hostOps0_2 V main_v9) n l
      = ∑ e : Fin 131072 with dst e = n, at2 (n := 131072) (k := 129) (V main_v6) e l := by
  simp only [hostOps0_2]
  after_results_simp
  exact segsum_column _ rfl rfl rfl rfl _ (fun _ => Ideal.ofBits_zero_f32) _ _ dst hd _ n l

/-- The edge sums of the features. -/
theorem v10_apply (dst : Fin 131072 → Fin 4096) (hd : ∀ e : Fin 131072, ((V main_v3 : IVec S131072 32) (ix1 e)).toNat = (dst e).val) (n : Fin 4096) (l : Fin 128) :
    at2 (n := 4096) (k := 128) (StableHlo.after hostOps0_2 V main_v10) n l
      = ∑ e : Fin 131072 with dst e = n, at2 (n := 131072) (k := 129) (V main_v6) e (l.castLE (by norm_num) : Fin 129) := by
  rw [← v9_apply V dst hd]
  simp only [hostOps0_2]
  after_results_simp
  exact cols_apply _ 0 _ n l _ (Nat.zero_add _).symm

/-- The edge sums of the ones. -/
theorem v11_apply (dst : Fin 131072 → Fin 4096) (hd : ∀ e : Fin 131072, ((V main_v3 : IVec S131072 32) (ix1 e)).toNat = (dst e).val) (n : Fin 4096) :
    at2 (n := 4096) (k := 1) (StableHlo.after hostOps0_2 V main_v11) n (0 : Fin 1)
      = ∑ e : Fin 131072 with dst e = n, at2 (n := 131072) (k := 129) (V main_v6) e (128 : Fin 129) := by
  rw [← v9_apply V dst hd]
  simp only [hostOps0_2]
  after_results_simp
  exact cols_apply _ 128 _ n 0 _ rfl

theorem cst1_apply (i : S_.Idx) : (StableHlo.after hostOps0_2 V main_cst_1 : FVec Ideal S_ .f32) i = (1 : EReal) := by
  simp only [hostOps0_2]
  after_results_simp
  exact Ideal.ofBits_one_f32

/-- The degrees, at least one. -/
theorem v12_apply (h1 : ∀ i, (V main_cst_1 : FVec Ideal S_ .f32) i = (1 : EReal)) (n : Fin 4096) :
    at2 (n := 4096) (k := 1) (StableHlo.after hostOps0_3 V main_v12) n (0 : Fin 1)
      = max (1 : EReal) (at2 (n := 4096) (k := 1) (V main_v11) n (0 : Fin 1)) := by
  simp only [hostOps0_3, StableHlo.TRef.binary, StableHlo.TRef.nullary, StableHlo.TRef.ternary, StableHlo.TRef.unary, StableHlo.TRef.toBuf, StableHlo.TRef.ofBuf, cast_eq]
  after_results_simp
  exact congrArg (max · _) (h1 _)

/-- The two first weight matrices side by side: the classifier's. -/
theorem v13_left (l : Fin 128) (f : Fin 64) : at2 (n := 128) (k := 128) (StableHlo.after hostOps0_4 V main_v13) l (f.castAdd 64 : Fin 128)
    = at2 (n := 128) (k := 64) (V main_arg6) l f := by
  simp only [hostOps0_4]
  after_results_simp
  exact beside_left _ _ _ l f _ rfl

/-- The two first weight matrices side by side: the encoder's. -/
theorem v13_right (l : Fin 128) (f : Fin 64) : at2 (n := 128) (k := 128) (StableHlo.after hostOps0_4 V main_v13) l (f.natAdd 64 : Fin 128)
    = at2 (n := 128) (k := 64) (V main_arg3) l f := by
  simp only [hostOps0_4]
  after_results_simp
  exact beside_right _ _ _ l f _ (by simp [Nat.add_comm])

/-! ## Between regions 0 and 1 -/

/-- The rows taken: the first layers at the start nodes. -/
theorem v15_apply (node : Fin 131072 → Fin 4096) (hs : ∀ e : Fin 131072, ((V main_v1 : IVec S131072 32) (ix1 e)).toNat = (node e).val)
    (e : Fin 131072) (f : Fin 128) :
    at2 (n := 131072) (k := 128) (StableHlo.after hostOps1 V main_v15) e f = at2 (n := 4096) (k := 128) (V main_v14) (node e) f := by
  simp only [hostOps1, StableHlo.TRef.binary, StableHlo.TRef.nullary, StableHlo.TRef.ternary, StableHlo.TRef.unary, StableHlo.TRef.toBuf, StableHlo.TRef.ofBuf, cast_eq]
  after_results_simp
  exact take_read _ rfl rfl rfl rfl rfl _ _ _ _ _ _ _ _ _ _ _ _ (fun _ => rfl) (fun _ => rfl) (fun _ => rfl) (fun _ => rfl) node hs e f

/-- The edge sums of the first layers. -/
theorem v18_apply (dst : Fin 131072 → Fin 4096) (hd : ∀ e : Fin 131072, ((V main_v3 : IVec S131072 32) (ix1 e)).toNat = (dst e).val) (n : Fin 4096) (l : Fin 128) :
    at2 (n := 4096) (k := 128) (StableHlo.after hostOps1_1 V main_v18) n l
      = ∑ e : Fin 131072 with dst e = n, at2 (n := 131072) (k := 128) (V main_v15) e l := by
  simp only [hostOps1_1]
  after_results_simp
  exact segsum_column _ rfl rfl rfl rfl _ (fun _ => Ideal.ofBits_zero_f32) _ _ dst hd _ n l

/-! ## Between regions 2 and 3 -/

/-- The rows taken: the masked first layer at the start nodes. -/
theorem v59_apply (node : Fin 131072 → Fin 4096) (hs : ∀ e : Fin 131072, ((V main_v1 : IVec S131072 32) (ix1 e)).toNat = (node e).val)
    (e : Fin 131072) (f : Fin 64) :
    at2 (n := 131072) (k := 64) (StableHlo.after hostOps3 V main_v59) e f = at2 (n := 4096) (k := 64) (V main_v58) (node e) f := by
  simp only [hostOps3, StableHlo.TRef.binary, StableHlo.TRef.nullary, StableHlo.TRef.ternary, StableHlo.TRef.unary, StableHlo.TRef.toBuf, StableHlo.TRef.ofBuf, cast_eq]
  after_results_simp
  exact take_read _ rfl rfl rfl rfl rfl _ _ _ _ _ _ _ _ _ _ _ _ (fun _ => rfl) (fun _ => rfl) (fun _ => rfl) (fun _ => rfl) node hs e f

end Cert.KernelIdeal.HostRead
-- ==== Proof.HostMid.lean ====
/-
  The host operations of the kernel from the stacked second weights to the
  edge sums of the masked classifier, read at an index.
-/
module

public import proofs.«01_k».proof.Proof.Read
public import proofs.«01_k».proof.Proof.Gen.KernelIdeal.Regions

@[expose] public section

set_option maxRecDepth 16384

noncomputable section

namespace Cert.KernelIdeal.HostRead

open Idealize.ShloMosaic Idealize.ShloMosaic.TcCoe Idealize.ShloMosaic.Tactic
open Cert.KernelIdeal.Gen Cert.Read

variable (V : Valuation τ sig (Elt Ideal))

set_option maxHeartbeats 1000000

/-! ## The stacked second weights -/

/-- The block matrix of the second weights: the classifier's above on the left, the two latent matrices below on the right, zeros beside them. -/
def stacked (A : FVec Ideal S64x64 .f32) (B C : FVec Ideal S64x16 .f32) : FVec Ideal S128x96 .f32 :=
  concatenate S128x96 0 [⟨S64x96, concatenate S64x96 1 [⟨S64x64, A⟩, ⟨S64x32, broadcastInDim S64x32 ![] bcast_S_S64x32 (constant S_ .f32 0x00000000#32)⟩] concatenates_S64x64_S64x32_S64x96_d1⟩,
    ⟨S64x96, concatenate S64x96 1 [⟨S64x64, broadcastInDim S64x64 ![] bcast_S_S64x64 (constant S_ .f32 0x00000000#32)⟩, ⟨S64x16, B⟩, ⟨S64x16, C⟩] concatenates_S64x64_S64x16_S64x16_S64x96_d1⟩]
    concatenates_S64x96_S64x96_S128x96_d0

section Blocks
variable (A : FVec Ideal S64x64 .f32) (B C : FVec Ideal S64x16 .f32)

/-- The block matrix at an index, block by block. -/
theorem stacked_apply (p : Fin 128) (q : Fin 96) : stacked A B C (ix2 p q)
    = if h : p.val < 64 then (if h' : q.val < 64 then A (ix2 ⟨p.val, h⟩ ⟨q.val, h'⟩) else (0 : EReal))
      else if h' : q.val < 64 then (0 : EReal)
      else if h'' : q.val - 64 < 16 then B (ix2 ⟨p.val - 64, by omega⟩ ⟨q.val - 64, h''⟩)
      else C (ix2 ⟨p.val - 64, by omega⟩ ⟨q.val - 64 - 16, by omega⟩) := by
  pointwise [stacked]

/-- Above on the left. -/
theorem stacked_cls (l f : Fin 64) : stacked A B C (ix2 (l.castAdd 64 : Fin 128) (f.castAdd 32 : Fin 96)) = A (ix2 l f) := by
  rw [stacked_apply, dif_pos (show (l.castAdd 64 : Fin 128).val < 64 from l.isLt), dif_pos (show (f.castAdd 32 : Fin 96).val < 64 from f.isLt)]
  rfl

/-- Above on the right. -/
theorem stacked_above (l : Fin 64) (g : Fin 32) : stacked A B C (ix2 (l.castAdd 64 : Fin 128) (g.natAdd 64 : Fin 96)) = (0 : EReal) := by
  rw [stacked_apply, dif_pos (show (l.castAdd 64 : Fin 128).val < 64 from l.isLt), dif_neg (show ¬ (g.natAdd 64 : Fin 96).val < 64 by simp)]

/-- Below on the left. -/
theorem stacked_below (l f : Fin 64) : stacked A B C (ix2 (l.natAdd 64 : Fin 128) (f.castAdd 32 : Fin 96)) = (0 : EReal) := by
  rw [stacked_apply, dif_neg (show ¬ (l.natAdd 64 : Fin 128).val < 64 by simp), dif_pos (show (f.castAdd 32 : Fin 96).val < 64 from f.isLt)]

/-- Below, the columns of the means. -/
theorem stacked_mu (l : Fin 64) (f : Fin 16) : stacked A B C (ix2 (l.natAdd 64 : Fin 128) ((f.castAdd 16).natAdd 64 : Fin 96)) = B (ix2 l f) := by
  rw [stacked_apply, dif_neg (show ¬ (l.natAdd 64 : Fin 128).val < 64 by simp), dif_neg (show ¬ ((f.castAdd 16).natAdd 64 : Fin 96).val < 64 by simp),
    dif_pos (show ((f.castAdd 16).natAdd 64 : Fin 96).val - 64 < 16 by simp)]
  refine congrArg B (congrArg₂ ix2 (Fin.ext ?_) (Fin.ext ?_)) <;> simp

/-- Below, the columns of the log variances. -/
theorem stacked_lv (l : Fin 64) (f : Fin 16) : stacked A B C (ix2 (l.natAdd 64 : Fin 128) ((f.natAdd 16).natAdd 64 : Fin 96)) = C (ix2 l f) := by
  rw [stacked_apply, dif_neg (show ¬ (l.natAdd 64 : Fin 128).val < 64 by simp), dif_neg (show ¬ ((f.natAdd 16).natAdd 64 : Fin 96).val < 64 by simp),
    dif_neg (show ¬ ((f.natAdd 16).natAdd 64 : Fin 96).val - 64 < 16 by simp)]
  refine congrArg C (congrArg₂ ix2 (Fin.ext ?_) (Fin.ext ?_)) <;> simp

end Blocks

/-- The weights of region 1 are the stacked second weights. -/
theorem v23_eq : Eq (α := FVec Ideal S128x96 .f32) (StableHlo.after hostOps1_1 V main_v23) (stacked (V main_arg7) (V main_arg4) (V main_arg5)) := by
  simp only [hostOps1_1]
  after_results_simp
  rfl

/-! ## After region 1 -/

/-- The first columns of region 1. -/
theorem v25_apply (n : Fin 4096) (f : Fin 64) : at2 (n := 4096) (k := 64) (StableHlo.after hostOps2 V main_v25) n f
    = at2 (n := 4096) (k := 96) (V main_v24) n (f.castAdd 32 : Fin 96) := by
  simp only [hostOps2]
  after_results_simp
  exact cols_apply _ 0 _ n f _ (by simp)

/-- The columns of the means. -/
theorem v26_apply (n : Fin 4096) (f : Fin 16) : at2 (n := 4096) (k := 16) (StableHlo.after hostOps2 V main_v26) n f
    = at2 (n := 4096) (k := 96) (V main_v24) n ((f.castAdd 16).natAdd 64 : Fin 96) := by
  simp only [hostOps2]
  after_results_simp
  exact cols_apply _ 64 _ n f _ (by simp)

/-- The columns of the log variances. -/
theorem v27_apply (n : Fin 4096) (f : Fin 16) : at2 (n := 4096) (k := 16) (StableHlo.after hostOps2 V main_v27) n f
    = at2 (n := 4096) (k := 96) (V main_v24) n ((f.natAdd 16).natAdd 64 : Fin 96) := by
  simp only [hostOps2]
  after_results_simp
  exact cols_apply _ 80 _ n f _ (by simp; omega)

/-- The mean of the nodes' rows times the output weights. -/
def head (X : FVec Ideal S4096x64 .f32) (W : FVec Ideal S64x2 .f32) : FVec Ideal S1x2 .f32 :=
  Host.dotGeneral dot_S1x64_S64x2_S1x2_1_0_0_1_n_n none (Host.divf (broadcastInDim S1x64 ![1] bcast_S64_S1x64_1 (Host.reduceAdd X (constant S_ .f32 0x00000000#32) reducesTo_S4096x64_S64_d0 h_S_)) (broadcastInDim S1x64 ![] bcast_S_S1x64 (constant S_ .f32 0x45800000#32))) W

/-- The logits are the head of the first columns. -/
theorem v32_eq : Eq (α := FVec Ideal S1x2 .f32) (StableHlo.after hostOps2 V main_v32) (head (StableHlo.after hostOps2 V main_v25) (V main_arg8)) := by
  simp only [hostOps2]
  after_results_simp
  rfl

/-- The latent variable: mean plus deviation times noise. -/
theorem v37_apply (n : Fin 4096) (f : Fin 16) : at2 (n := 4096) (k := 16) (StableHlo.after hostOps2 V main_v37) n f
    = at2 (n := 4096) (k := 16) (StableHlo.after hostOps2 V main_v26) n f
      + Ideal.exp (Ideal.ofBits .f32 0x3F000000#32 * at2 (n := 4096) (k := 16) (StableHlo.after hostOps2 V main_v27) n f) * at2 (n := 4096) (k := 16) (V main_arg2) n f := by
  simp only [hostOps2]
  after_results_simp
  rfl

/-- Its causal columns. -/
theorem v38_apply (n : Fin 4096) (f : Fin 8) : at2 (n := 4096) (k := 8) (StableHlo.after hostOps2 V main_v38) n f
    = at2 (n := 4096) (k := 16) (StableHlo.after hostOps2 V main_v37) n (f.castLE (by norm_num)) := by
  simp only [hostOps2]
  after_results_simp
  exact cols_apply _ 0 _ n f _ (by simp)

/-- The two ends one after the other: the start nodes. -/
theorem v39_left (e : Fin 131072) (k : Fin 262144) (hk : k.val = e.val) :
    (StableHlo.after hostOps2 V main_v39 : IVec S262144 32) (ix1 k) = (V main_v1 : IVec S131072 32) (ix1 e) := by
  simp only [hostOps2]
  after_results_simp
  exact append_left _ _ _ e k hk

/-- The two ends one after the other: the end nodes. -/
theorem v39_right (e : Fin 131072) (k : Fin 262144) (hk : k.val = e.val + 131072) :
    (StableHlo.after hostOps2 V main_v39 : IVec S262144 32) (ix1 k) = (V main_v3 : IVec S131072 32) (ix1 e) := by
  simp only [hostOps2]
  after_results_simp
  exact append_right _ _ _ e k hk

/-- The rows taken: the causal columns at both ends. -/
theorem v40_apply (node : Fin 262144 → Fin 4096) (hs : ∀ e : Fin 262144, ((V main_v39 : IVec S262144 32) (ix1 e)).toNat = (node e).val)
    (e : Fin 262144) (f : Fin 8) :
    at2 (n := 262144) (k := 8) (StableHlo.after hostOps2_1 V main_v40) e f = at2 (n := 4096) (k := 8) (V main_v38) (node e) f := by
  simp only [hostOps2_1, StableHlo.TRef.binary, StableHlo.TRef.nullary, StableHlo.TRef.ternary, StableHlo.TRef.unary, StableHlo.TRef.toBuf, StableHlo.TRef.ofBuf, cast_eq]
  after_results_simp
  exact take_read _ rfl rfl rfl rfl rfl _ _ _ _ _ _ _ _ _ _ _ _ (fun _ => rfl) (fun _ => rfl) (fun _ => rfl) (fun _ => rfl) node hs e f

/-- One over one plus the exponential of the negative is the logistic function. -/
theorem logistic_form (x : EReal) : Ideal.div (Ideal.ofBits .f32 0x3F800000#32) (Ideal.ofBits .f32 0x3F800000#32 + Ideal.exp (-x)) = Ideal.logistic x := by
  rw [Ideal.ofBits_one_f32]
  rfl

/-- The products of the two halves, summed along a row. -/
theorem halves_apply (X : FVec Ideal S262144x8 .f32) (e : Fin 131072) :
    Host.reduceAdd (F := Ideal) (mulf (extractStridedSlice S131072x8 ![0, 0] X slices_S262144x8_S131072x8_0_0) (extractStridedSlice S131072x8 ![131072, 0] X slices_S262144x8_S131072x8_131072_0))
      (constant S_ .f32 0x00000000#32) reducesTo_S131072x8_S131072_d1 h_S_ (ix1 e)
      = ∑ l : Fin 8, X (ix2 (e.castAdd 131072 : Fin 262144) l) * X (ix2 (e.natAdd 131072 : Fin 262144) l) := by
  pointwise
  rfl

/-- The scores of the edges, as a column. -/
def scores (X : FVec Ideal S262144x8 .f32) : FVec Ideal S131072x1 .f32 :=
  broadcastInDim S131072x1 ![0] bcast_S131072_S131072x1_0 (Host.reduceAdd (F := Ideal) (mulf (extractStridedSlice S131072x8 ![0, 0] X slices_S262144x8_S131072x8_0_0) (extractStridedSlice S131072x8 ![131072, 0] X slices_S262144x8_S131072x8_131072_0))
      (constant S_ .f32 0x00000000#32) reducesTo_S131072x8_S131072_d1 h_S_)

/-- The score of an edge is the sum of the products of its two ends' rows. -/
theorem scores_apply (X : FVec Ideal S262144x8 .f32) (e : Fin 131072) :
    scores X (ix2 e (0 : Fin 1)) = ∑ l : Fin 8, at2 X (e.castAdd 131072) l * at2 X (e.natAdd 131072) l := by
  unfold scores
  rw [col_apply]
  exact halves_apply X e

/-- The logistic function of a column, as the kernel writes it. -/
def sigmoid (X : FVec Ideal S131072x1 .f32) : FVec Ideal S131072x1 .f32 :=
  Host.divf (broadcastInDim S131072x1 ![] bcast_S_S131072x1 (constant S_ .f32 0x3F800000#32)) (addf (broadcastInDim S131072x1 ![] bcast_S_S131072x1 (constant S_ .f32 0x3F800000#32)) (Host.exp (Host.negf X)))

theorem sigmoid_apply (X : FVec Ideal S131072x1 .f32) (i : S131072x1.Idx) : sigmoid X i = Ideal.logistic (X i) :=
  logistic_form (X i)

/-- The attention is the logistic function of the scores. -/
theorem v51_eq : Eq (α := FVec Ideal S131072x1 .f32) (StableHlo.after hostOps2_2 V main_v51) (sigmoid (scores (V main_v40))) := by
  simp only [hostOps2_2]
  after_results_simp
  rfl

/-- The attention of an edge. -/
theorem v51_apply (e : Fin 131072) : at2 (n := 131072) (k := 1) (StableHlo.after hostOps2_2 V main_v51) e (0 : Fin 1)
    = Ideal.logistic (∑ l : Fin 8, at2 (n := 262144) (k := 8) (V main_v40) (e.castAdd 131072) l * at2 (n := 262144) (k := 8) (V main_v40) (e.natAdd 131072) l) :=
  (congrFun (v51_eq V) (ix2 e 0)).trans ((sigmoid_apply _ _).trans (congrArg Ideal.logistic (scores_apply (V main_v40) e)))

/-- The edge sums of the weighted features. -/
theorem v57_apply (dst : Fin 131072 → Fin 4096) (hd : ∀ e : Fin 131072, ((V main_v3 : IVec S131072 32) (ix1 e)).toNat = (dst e).val) (n : Fin 4096) (l : Fin 128) :
    at2 (n := 4096) (k := 128) (StableHlo.after hostOps2_2 V main_v57) n l
      = ∑ e : Fin 131072 with dst e = n, at2 (n := 131072) (k := 129) (V main_v6) e (l.castLE (by norm_num)) * at2 (n := 131072) (k := 1) (StableHlo.after hostOps2_2 V main_v51) e (0 : Fin 1) := by
  simp only [hostOps2_2]
  after_results_simp
  refine (segsum_column _ rfl rfl rfl rfl _ (fun _ => Ideal.ofBits_zero_f32) _ _ dst hd _ n l).trans (Finset.sum_congr rfl fun e _ => ?_)
  exact congrArg₂ (fun a b : EReal => a * b) (cols_apply _ 0 _ e l _ (by simp)) (spread_apply _ _ e l)

/-- The edge sums of the weighted first layer. -/
theorem v64_apply (dst : Fin 131072 → Fin 4096) (hd : ∀ e : Fin 131072, ((V main_v3 : IVec S131072 32) (ix1 e)).toNat = (dst e).val) (n : Fin 4096) (l : Fin 64) :
    at2 (n := 4096) (k := 64) (StableHlo.after hostOps3_1 V main_v64) n l
      = ∑ e : Fin 131072 with dst e = n, at2 (n := 131072) (k := 64) (V main_v59) e l * at2 (n := 131072) (k := 1) (V main_v51) e (0 : Fin 1) := by
  simp only [hostOps3_1]
  after_results_simp
  refine (segsum_column _ rfl rfl rfl rfl _ (fun _ => Ideal.ofBits_zero_f32) _ _ dst hd _ n l).trans (Finset.sum_congr rfl fun e _ => ?_)
  exact congrArg (fun b : EReal => _ * b) (spread_apply _ _ e l)

/-! ## After region 3 -/

/-- The masked logits are the head of region 3. -/
theorem v70_eq : Eq (α := FVec Ideal S1x2 .f32) (StableHlo.after hostOps4 V main_v70) (head (V main_v65) (V main_arg8)) := by
  simp only [hostOps4]
  after_results_simp
  rfl

/-- The latent variable, transposed. -/
theorem v89_apply (k : Fin 16) (n : Fin 4096) : at2 (n := 16) (k := 4096) (StableHlo.after hostOps4 V main_v89) k n
    = at2 (n := 4096) (k := 16) (V main_v37) n k := by
  simp only [hostOps4]
  after_results_simp
  show transpose S16x4096 [1, 0] (V main_v37 : FVec Ideal S4096x16 .f32) _ (ix2 k n) = (V main_v37 : FVec Ideal S4096x16 .f32) (ix2 n k)
  pointwise

/-- Its causal columns, transposed. -/
theorem v91_apply (k : Fin 8) (n : Fin 4096) : at2 (n := 8) (k := 4096) (StableHlo.after hostOps4 V main_v91) k n
    = at2 (n := 4096) (k := 16) (V main_v37) n (k.castLE (by norm_num)) := by
  simp only [hostOps4]
  after_results_simp
  show transpose S8x4096 [1, 0] (extractStridedSlice S4096x8 ![0, 0] (V main_v37 : FVec Ideal S4096x16 .f32) _) _ (ix2 k n) = (V main_v37 : FVec Ideal S4096x16 .f32) (ix2 n (k.castLE (by norm_num)))
  pointwise
  rfl

/-- The attention in one row. -/
theorem v129_eq : Eq (α := FVec Ideal S131072 .f32) (StableHlo.after hostOps5_2 V main_v129) (shapeCast S131072 (V main_v51 : FVec Ideal S131072x1 .f32) (by decide)) := by
  simp only [hostOps5_2]
  after_results_simp
  rfl

end Cert.KernelIdeal.HostRead
-- ==== Proof.Chain.lean ====
/-
  The kernel's arrays from its arguments to its results, read as the model's
  numbers: region after region, with the host operations between them.
-/
module

public import proofs.«01_k».proof.Proof.Stage
public import proofs.«01_k».proof.Proof.Combine
public import proofs.«01_k».proof.Proof.HostI
public import proofs.«01_k».proof.Proof.HostMid
public import proofs.«01_k».proof.Proof.Given

@[expose] public section

set_option maxRecDepth 16384

noncomputable section

namespace Cert.KernelIdeal.Chain

open Idealize.ShloMosaic Idealize.ShloMosaic.TcCoe
open Cert.KernelIdeal.Gen Cert.KernelIdeal.Body Cert.Read Cert.Graph
open Cert.KernelIdeal.Stage Cert.KernelIdeal.HostRead Cert.KernelIdeal.Combine

/-! ## One combining region -/

section One
variable (G : Edges) {k f f' : ℕ}

/-- A combining region computes one column of a graph convolution. -/
theorem combine_conv (w : Fin 131072 → ℝ) (A : Fin 4096 → Fin k → ℝ) (W : Fin k → Fin f' → EReal) (hsw : G.Swaps w A W) (s t : FVec Ideal (Sh2 4096 k) .f32)
    (d : FVec Ideal (Sh2 4096 1) .f32) (wm : FVec Ideal (Sh2 k f) .f32) (n : Fin 4096) (q : Fin f) (j : Fin f')
    (hs : ∀ l, at2 s n l = ∑ e : Fin 131072 with G.dst e = n, (A (G.src e) l : EReal) * (w e : EReal))
    (ht : ∀ l, at2 t n l = (A n l : EReal)) (hd : at2 d n 0 = (G.deg n : EReal)) (hw : ∀ l, at2 wm l q = W l j) :
    combine s t d wm (ix2 n q) = G.conv w A W n j := by
  refine Eq.trans ?_ (G.conv_before hsw n j)
  show Ideal.div (∑ l, at2 s n l * at2 wm l q) (at2 d n 0) + ∑ l, at2 t n l * at2 wm l q = _
  simp only [hs, ht, hd, hw]

/-- A sum over the rows of a stacked matrix whose lower rows are zero. -/
theorem sum_upper (a : Fin 128 → EReal) (wm : FVec Ideal (Sh2 128 f) .f32) (q : Fin f) (hz : ∀ l : Fin 64, at2 wm (l.natAdd 64 : Fin 128) q = 0) :
    ∑ l, a l * at2 wm l q = ∑ l : Fin 64, a (l.castAdd 64 : Fin 128) * at2 wm (l.castAdd 64 : Fin 128) q := by
  refine (Fin.sum_univ_add (a := 64) (b := 64) _).trans ?_
  refine (congrArg (_ + ·) (Finset.sum_eq_zero fun l _ => ?_)).trans (add_zero _)
  rw [hz, mul_zero]

/-- A sum over the rows of a stacked matrix whose upper rows are zero. -/
theorem sum_lower (a : Fin 128 → EReal) (wm : FVec Ideal (Sh2 128 f) .f32) (q : Fin f) (hz : ∀ l : Fin 64, at2 wm (l.castAdd 64 : Fin 128) q = 0) :
    ∑ l, a l * at2 wm l q = ∑ l : Fin 64, a (l.natAdd 64 : Fin 128) * at2 wm (l.natAdd 64 : Fin 128) q := by
  refine (Fin.sum_univ_add (a := 64) (b := 64) _).trans ?_
  refine (congrArg (· + _) (Finset.sum_eq_zero fun l _ => ?_)).trans (zero_add _)
  rw [hz, mul_zero]

/-- The same for a column of a stacked matrix that is zero below. -/
theorem combine_upper (w : Fin 131072 → ℝ) (A : Fin 4096 → Fin 64 → ℝ) (W : Fin 64 → Fin f' → EReal) (hsw : G.Swaps w A W) (s t : FVec Ideal (Sh2 4096 128) .f32)
    (d : FVec Ideal (Sh2 4096 1) .f32) (wm : FVec Ideal (Sh2 128 f) .f32) (n : Fin 4096) (q : Fin f) (j : Fin f')
    (hs : ∀ l : Fin 64, at2 s n (l.castAdd 64 : Fin 128) = ∑ e : Fin 131072 with G.dst e = n, (A (G.src e) l : EReal) * (w e : EReal))
    (ht : ∀ l : Fin 64, at2 t n (l.castAdd 64 : Fin 128) = (A n l : EReal)) (hd : at2 d n 0 = (G.deg n : EReal))
    (hw : ∀ l : Fin 64, at2 wm (l.castAdd 64 : Fin 128) q = W l j) (hz : ∀ l : Fin 64, at2 wm (l.natAdd 64 : Fin 128) q = 0) :
    combine s t d wm (ix2 n q) = G.conv w A W n j := by
  refine Eq.trans ?_ (G.conv_before hsw n j)
  show Ideal.div (∑ l, at2 s n l * at2 wm l q) (at2 d n 0) + ∑ l, at2 t n l * at2 wm l q = _
  rw [sum_upper (fun l => at2 s n l) wm q hz, sum_upper (fun l => at2 t n l) wm q hz]
  simp only [hs, ht, hd, hw]

/-- The same for a column of a stacked matrix that is zero above. -/
theorem combine_lower (w : Fin 131072 → ℝ) (A : Fin 4096 → Fin 64 → ℝ) (W : Fin 64 → Fin f' → EReal) (hsw : G.Swaps w A W) (s t : FVec Ideal (Sh2 4096 128) .f32)
    (d : FVec Ideal (Sh2 4096 1) .f32) (wm : FVec Ideal (Sh2 128 f) .f32) (n : Fin 4096) (q : Fin f) (j : Fin f')
    (hs : ∀ l : Fin 64, at2 s n (l.natAdd 64 : Fin 128) = ∑ e : Fin 131072 with G.dst e = n, (A (G.src e) l : EReal) * (w e : EReal))
    (ht : ∀ l : Fin 64, at2 t n (l.natAdd 64 : Fin 128) = (A n l : EReal)) (hd : at2 d n 0 = (G.deg n : EReal))
    (hw : ∀ l : Fin 64, at2 wm (l.natAdd 64 : Fin 128) q = W l j) (hz : ∀ l : Fin 64, at2 wm (l.castAdd 64 : Fin 128) q = 0) :
    combine s t d wm (ix2 n q) = G.conv w A W n j := by
  refine Eq.trans ?_ (G.conv_before hsw n j)
  show Ideal.div (∑ l, at2 s n l * at2 wm l q) (at2 d n 0) + ∑ l, at2 t n l * at2 wm l q = _
  rw [sum_lower (fun l => at2 s n l) wm q hz, sum_lower (fun l => at2 t n l) wm q hz]
  simp only [hs, ht, hd, hw]

end One

/-! ## The chain -/

variable {M : Model} {m : (ℓ : Loc nD τ sig) → Buf (Elt Ideal) ℓ} {c : Dev nD}

/-- The argument arrays of the kernel hold the model. -/
abbrev Args (M : Model) (m : (ℓ : Loc nD τ sig) → Buf (Elt Ideal) ℓ) (c : Dev nD) : Prop :=
  Holds M (V0 m c main_arg0) (V0 m c main_arg1) (V0 m c main_arg2) (V0 m c main_arg3) (V0 m c main_arg4) (V0 m c main_arg5)
    (V0 m c main_arg6) (V0 m c main_arg7)

section Chain
variable (R : Args M m c)
include R

/-- The start nodes. -/
theorem src1 (e : Fin 131072) : ((V1 m c main_v1 : IVec S131072 32) (ix1 e)).toNat = (M.src e).val :=
  (congrArg BitVec.toNat (v1_apply (V0 m c) e)).trans (R.src e)

/-- The end nodes. -/
theorem dst1 (e : Fin 131072) : ((V1 m c main_v3 : IVec S131072 32) (ix1 e)).toNat = (M.dst e).val :=
  (congrArg BitVec.toNat (v3_apply (V0 m c) e)).trans (R.dst e)

/-- The features of the start node of an edge. -/
theorem v6_left (e : Fin 131072) (l : Fin 128) : at2 (n := 131072) (k := 129) (V2 m c main_v6) e (l.castLE (by norm_num)) = (M.x (M.src e) l : EReal) :=
  (v6_apply (V1 m c) M.src (src1 R) e _).trans ((v5_left (V0 m c) (M.src e) l).trans (R.x _ _))

/-- And the one after them. -/
theorem v6_right (e : Fin 131072) : at2 (n := 131072) (k := 129) (V2 m c main_v6) e (128 : Fin 129) = (1 : EReal) :=
  (v6_apply (V1 m c) M.src (src1 R) e _).trans (v5_right (V0 m c) (M.src e))

theorem dst2 (e : Fin 131072) : ((V2 m c main_v3 : IVec S131072 32) (ix1 e)).toNat = (M.dst e).val := by
  rw [v3_2]; exact dst1 R e

/-- The edge sums of the features. -/
theorem v10_read (n : Fin 4096) (l : Fin 128) : at2 (n := 4096) (k := 128) (V5 m c main_v10) n l
    = ∑ e : Fin 131072 with M.dst e = n, (M.x (M.src e) l : EReal) * ((1 : ℝ) : EReal) := by
  rw [v10_5]
  refine (v10_apply (V2 m c) M.dst (dst2 R) n l).trans (Finset.sum_congr rfl fun e _ => ?_)
  rw [EReal.coe_one, mul_one]
  exact v6_left R e l

/-- The degrees. -/
theorem v12_read (n : Fin 4096) : at2 (n := 4096) (k := 1) (V4 m c main_v12) n (0 : Fin 1) = (M.deg n : EReal) := by
  refine (v12_apply (V3 m c) (cst1_apply (V2 m c)) n).trans (Eq.trans (congrArg (max (1 : EReal)) ?_) (M.deg_coe n))
  exact (v11_apply (V2 m c) M.dst (dst2 R) n).trans (Finset.sum_congr rfl fun e _ => v6_right R e)

theorem x5 (n : Fin 4096) (l : Fin 128) : at2 (n := 4096) (k := 128) (V5 m c main_arg0) n l = (M.x n l : EReal) := by
  rw [arg0_5]; exact R.x n l

theorem deg5 (n : Fin 4096) : at2 (n := 4096) (k := 1) (V5 m c main_v12) n (0 : Fin 1) = (M.deg n : EReal) := by
  rw [v12_5]; exact v12_read R n

/-- Region 0, the first columns: the classifier's first layer. -/
theorem v14_left (n : Fin 4096) (f : Fin 64) : at2 (n := 4096) (k := 128) (V6 m (outs m) c main_v14) n (f.castAdd 64 : Fin 128) = (M.c1 n f : EReal) := by
  rw [v14_out, outs_0, out0_eq]
  refine (congrArg (max · (0 : EReal)) ((combine_conv M.toEdges (fun _ => 1) M.x (lift M.wc1) (M.swaps_lift _ _ _) _ _ _ _ n _ f (v10_read R n) (x5 R n) (deg5 R n) fun l => ?_).trans
    (M.conv_lift _ _ _ n f))).trans (relu_coe _ _ _)
  refine (v13_left (V4 m c) l f).trans ?_
  rw [arg6_4]
  exact R.wc1 l f

/-- Region 0, the last columns: the encoder's layer. -/
theorem v14_right (n : Fin 4096) (f : Fin 64) : at2 (n := 4096) (k := 128) (V6 m (outs m) c main_v14) n (f.natAdd 64 : Fin 128) = (M.h n f : EReal) := by
  rw [v14_out, outs_0, out0_eq]
  refine (congrArg (max · (0 : EReal)) ((combine_conv M.toEdges (fun _ => 1) M.x (lift M.w1) (M.swaps_lift _ _ _) _ _ _ _ n _ f (v10_read R n) (x5 R n) (deg5 R n) fun l => ?_).trans
    (M.conv_lift _ _ _ n f))).trans (relu_coe _ _ _)
  refine (v13_right (V4 m c) l f).trans ?_
  rw [arg3_4]
  exact R.w1 l f

theorem src6 (e : Fin 131072) : ((V6 m (outs m) c main_v1 : IVec S131072 32) (ix1 e)).toNat = (M.src e).val := by
  rw [v1_6]; exact src1 R e

theorem dst7 (e : Fin 131072) : ((V7 m (outs m) c main_v3 : IVec S131072 32) (ix1 e)).toNat = (M.dst e).val := by
  rw [v3_7]; exact dst1 R e

/-- The edge sums of the classifier's first layer. -/
theorem v18_left (n : Fin 4096) (l : Fin 64) : at2 (n := 4096) (k := 128) (V8 m (outs m) c main_v18) n (l.castAdd 64 : Fin 128)
    = ∑ e : Fin 131072 with M.dst e = n, (M.c1 (M.src e) l : EReal) * ((1 : ℝ) : EReal) := by
  refine (v18_apply (V7 m (outs m) c) M.dst (dst7 R) n _).trans (Finset.sum_congr rfl fun e _ => ?_)
  rw [EReal.coe_one, mul_one]
  exact (v15_apply (V6 m (outs m) c) M.src (src6 R) e _).trans (v14_left R _ l)

/-- The edge sums of the encoder's layer. -/
theorem v18_right (n : Fin 4096) (l : Fin 64) : at2 (n := 4096) (k := 128) (V8 m (outs m) c main_v18) n (l.natAdd 64 : Fin 128)
    = ∑ e : Fin 131072 with M.dst e = n, (M.h (M.src e) l : EReal) * ((1 : ℝ) : EReal) := by
  refine (v18_apply (V7 m (outs m) c) M.dst (dst7 R) n _).trans (Finset.sum_congr rfl fun e _ => ?_)
  rw [EReal.coe_one, mul_one]
  exact (v15_apply (V6 m (outs m) c) M.src (src6 R) e _).trans (v14_right R _ l)

theorem c1_8 (n : Fin 4096) (f : Fin 64) : at2 (n := 4096) (k := 128) (V8 m (outs m) c main_v14) n (f.castAdd 64 : Fin 128) = (M.c1 n f : EReal) := by
  rw [v14_8]; exact v14_left R n f

theorem h_8 (n : Fin 4096) (f : Fin 64) : at2 (n := 4096) (k := 128) (V8 m (outs m) c main_v14) n (f.natAdd 64 : Fin 128) = (M.h n f : EReal) := by
  rw [v14_8]; exact v14_right R n f

theorem deg8 (n : Fin 4096) : at2 (n := 4096) (k := 1) (V8 m (outs m) c main_v12) n (0 : Fin 1) = (M.deg n : EReal) := by
  rw [v12_8]; exact v12_read R n

omit R in
/-- The stacked weights from the arguments. -/
theorem v23_read : Eq (α := FVec Ideal S128x96 .f32) (V8 m (outs m) c main_v23) (stacked (V0 m c main_arg7) (V0 m c main_arg4) (V0 m c main_arg5)) := by
  refine (v23_eq (V7 m (outs m) c)).trans ?_
  rw [arg7_7, arg4_7, arg5_7]

/-- Region 1, the first columns: the classifier's second layer. -/
theorem v24_cls (n : Fin 4096) (f : Fin 64) : at2 (n := 4096) (k := 96) (V9 m (outs m) c main_v24) n (f.castAdd 32 : Fin 96) = M.c2 n f := by
  rw [v24_out, outs_1, out1_eq, v23_read]
  refine (if_pos (show (f.castAdd 32 : Fin 96).val < 64 from f.isLt)).trans ?_
  refine (congrArg (max · (0 : EReal)) (combine_upper M.toEdges (fun _ => 1) M.c1 M.wc2 (M.swaps_of_nonneg _ _ _ (fun _ => zero_le_one) (relu_nonneg _)) _ _ _ _ n _ f (v18_left R n) (c1_8 R n) (deg8 R n) (fun l => ?_) (fun l => ?_)))
  · exact (stacked_cls _ _ _ l f).trans (R.wc2 l f)
  · exact stacked_below _ _ _ l f

/-- Region 1: the means. -/
theorem v24_mu (n : Fin 4096) (f : Fin 16) : at2 (n := 4096) (k := 96) (V9 m (outs m) c main_v24) n ((f.castAdd 16).natAdd 64 : Fin 96) = M.mu n f := by
  rw [v24_out, outs_1, out1_eq, v23_read]
  refine (if_neg (show ¬ ((f.castAdd 16).natAdd 64 : Fin 96).val < 64 by simp)).trans ?_
  refine combine_lower M.toEdges (fun _ => 1) M.h M.wmu (M.swaps_of_nonneg _ _ _ (fun _ => zero_le_one) (relu_nonneg _)) _ _ _ _ n _ f (v18_right R n) (h_8 R n) (deg8 R n) (fun l => ?_) (fun l => ?_)
  · exact (stacked_mu _ _ _ l f).trans (R.wmu l f)
  · exact stacked_above _ _ _ l _

/-- Region 1: the log variances. -/
theorem v24_lv (n : Fin 4096) (f : Fin 16) : at2 (n := 4096) (k := 96) (V9 m (outs m) c main_v24) n ((f.natAdd 16).natAdd 64 : Fin 96) = M.lv n f := by
  rw [v24_out, outs_1, out1_eq, v23_read]
  refine (if_neg (show ¬ ((f.natAdd 16).natAdd 64 : Fin 96).val < 64 by simp)).trans ?_
  refine combine_lower M.toEdges (fun _ => 1) M.h M.wlv (M.swaps_of_nonneg _ _ _ (fun _ => zero_le_one) (relu_nonneg _)) _ _ _ _ n _ f (v18_right R n) (h_8 R n) (deg8 R n) (fun l => ?_) (fun l => ?_)
  · exact (stacked_lv _ _ _ l f).trans (R.wlv l f)
  · exact stacked_above _ _ _ l _

theorem v26_read (n : Fin 4096) (f : Fin 16) : at2 (n := 4096) (k := 16) (V10 m (outs m) c main_v26) n f = M.mu n f :=
  (v26_apply (V9 m (outs m) c) n f).trans (v24_mu R n f)

theorem v27_read (n : Fin 4096) (f : Fin 16) : at2 (n := 4096) (k := 16) (V10 m (outs m) c main_v27) n f = M.lv n f :=
  (v27_apply (V9 m (outs m) c) n f).trans (v24_lv R n f)

/-- The latent variable. -/
theorem v37_read (n : Fin 4096) (f : Fin 16) : at2 (n := 4096) (k := 16) (V10 m (outs m) c main_v37) n f = M.z n f := by
  refine (v37_apply (V9 m (outs m) c) n f).trans ?_
  show at2 (n := 4096) (k := 16) (V10 m (outs m) c main_v26) n f + Ideal.exp (_ * at2 (n := 4096) (k := 16) (V10 m (outs m) c main_v27) n f) * at2 (n := 4096) (k := 16) (V9 m (outs m) c main_arg2) n f = _
  rw [v26_read R, v27_read R, arg2_9]
  exact congrArg (fun y : EReal => M.mu n f + Ideal.exp (Ideal.ofBits .f32 0x3F000000#32 * M.lv n f) * y) (R.eps n f)

/-- The logits, as the head of the classifier's second layer. -/
theorem v32_read : Eq (α := FVec Ideal S1x2 .f32) (V10 m (outs m) c main_v32) (head (fun i => M.c2 (i 0) (i 1)) (V0 m c main_arg8)) := by
  refine (v32_eq (V9 m (outs m) c)).trans ?_
  rw [arg8_9]
  refine congrArg (head · _) (funext fun i => ?_)
  obtain ⟨n, f, rfl⟩ : ∃ (n : Fin 4096) (f : Fin 64), i = ix2 n f := ⟨i 0, i 1, (ix2_eta i).symm⟩
  exact (v25_apply (V9 m (outs m) c) n f).trans (v24_cls R n f)

end Chain

end Cert.KernelIdeal.Chain
-- ==== Proof.ChainMask.lean ====
/-
  The second half of the chain: the attention of the edges, and the masked
  classifier it weights.
-/
module

public import proofs.«01_k».proof.Proof.Chain

@[expose] public section

set_option maxRecDepth 16384

noncomputable section

namespace Cert.KernelIdeal.Chain

open Idealize.ShloMosaic Idealize.ShloMosaic.TcCoe
open Cert.KernelIdeal.Gen Cert.KernelIdeal.Body Cert.Read Cert.Graph
open Cert.KernelIdeal.Stage Cert.KernelIdeal.HostRead Cert.KernelIdeal.Combine

variable {M : Model} {m : (ℓ : Loc nD τ sig) → Buf (Elt Ideal) ℓ} {c : Dev nD}

/-- The two ends of the edges one after the other. -/
def ends (M : Model) (k : Fin 262144) : Fin 4096 :=
  if h : k.val < 131072 then M.src ⟨k.val, h⟩ else M.dst ⟨k.val - 131072, by omega⟩

theorem ends_left (M : Model) (e : Fin 131072) : ends M (e.castAdd 131072 : Fin 262144) = M.src e :=
  dif_pos (show (e.castAdd 131072 : Fin 262144).val < 131072 from e.isLt)

theorem ends_right (M : Model) (e : Fin 131072) : ends M (e.natAdd 131072 : Fin 262144) = M.dst e := by
  unfold ends
  rw [dif_neg (by simp)]
  exact congrArg M.dst (Fin.ext (by simp))

section Chain
variable (R : Args M m c)
include R

theorem src9 (e : Fin 131072) : ((V9 m (outs m) c main_v1 : IVec S131072 32) (ix1 e)).toNat = (M.src e).val := by
  rw [v1_9]; exact src1 R e

theorem dst9 (e : Fin 131072) : ((V9 m (outs m) c main_v3 : IVec S131072 32) (ix1 e)).toNat = (M.dst e).val := by
  rw [v3_9]; exact dst1 R e

/-- The table of both ends. -/
theorem v39_read (k : Fin 262144) : ((V10 m (outs m) c main_v39 : IVec S262144 32) (ix1 k)).toNat = (ends M k).val := by
  unfold ends
  by_cases h : k.val < 131072
  · rw [dif_pos h]
    exact (congrArg BitVec.toNat (v39_left (V9 m (outs m) c) ⟨k.val, h⟩ k rfl)).trans (src9 R _)
  · rw [dif_neg h]
    exact (congrArg BitVec.toNat (v39_right (V9 m (outs m) c) ⟨k.val - 131072, by omega⟩ k (Nat.sub_add_cancel (by omega)).symm)).trans (dst9 R _)

/-- The causal columns at both ends. -/
theorem v40_read (k : Fin 262144) (f : Fin 8) : at2 (n := 262144) (k := 8) (V11 m (outs m) c main_v40) k f = M.z (ends M k) (f.castLE (by norm_num)) :=
  (v40_apply (V10 m (outs m) c) (ends M) (v39_read R) k f).trans ((v38_apply (V9 m (outs m) c) _ f).trans (v37_read R _ _))

/-- The attention of the edges. -/
theorem v51_read (e : Fin 131072) : at2 (n := 131072) (k := 1) (V12 m (outs m) c main_v51) e (0 : Fin 1) = M.attn e := by
  refine (v51_apply (V11 m (outs m) c) e).trans (congrArg Ideal.logistic (Finset.sum_congr rfl fun l _ => ?_))
  exact congrArg₂ (fun a b : EReal => a * b)
    ((v40_read R _ l).trans (by rw [ends_left]))
    ((v40_read R _ l).trans (by rw [ends_right]))

theorem dst11 (e : Fin 131072) : ((V11 m (outs m) c main_v3 : IVec S131072 32) (ix1 e)).toNat = (M.dst e).val := by
  rw [v3_11]; exact dst1 R e

/-- The edge sums of the weighted features. -/
theorem v57_read (n : Fin 4096) (l : Fin 128) : at2 (n := 4096) (k := 128) (V12 m (outs m) c main_v57) n l
    = ∑ e : Fin 131072 with M.dst e = n, (M.x (M.src e) l : EReal) * (M.attnR e : EReal) := by
  refine (v57_apply (V11 m (outs m) c) M.dst (dst11 R) n l).trans (Finset.sum_congr rfl fun e _ => ?_)
  refine congrArg₂ (fun a b : EReal => a * b) ?_ ((v51_read R e).trans (M.attnR_coe e))
  rw [v6_11]
  exact v6_left R e l

theorem x12 (n : Fin 4096) (l : Fin 128) : at2 (n := 4096) (k := 128) (V12 m (outs m) c main_arg0) n l = (M.x n l : EReal) := by
  rw [arg0_12]; exact R.x n l

theorem deg12 (n : Fin 4096) : at2 (n := 4096) (k := 1) (V12 m (outs m) c main_v12) n (0 : Fin 1) = (M.deg n : EReal) := by
  rw [v12_12]; exact v12_read R n

theorem wc1_12 (l : Fin 128) (f : Fin 64) : at2 (n := 128) (k := 64) (V12 m (outs m) c main_arg6) l f = (M.wc1 l f : EReal) := by
  rw [arg6_12]; exact R.wc1 l f

/-- Region 2: the masked classifier's first layer. -/
theorem v58_read (n : Fin 4096) (f : Fin 64) : at2 (n := 4096) (k := 64) (V13 m (outs m) c main_v58) n f = (M.g1 n f : EReal) := by
  rw [v58_out, outs_2, out2_eq]
  exact (congrArg (max · (0 : EReal)) ((combine_conv M.toEdges M.attnR M.x (lift M.wc1) (M.swaps_lift _ _ _) _ _ _ _ n _ f (v57_read R n) (x12 R n) (deg12 R n)
    fun l => wc1_12 R l f).trans (M.conv_lift _ _ _ n f))).trans (relu_coe _ _ _)

theorem src13 (e : Fin 131072) : ((V13 m (outs m) c main_v1 : IVec S131072 32) (ix1 e)).toNat = (M.src e).val := by
  rw [v1_13]; exact src1 R e

theorem dst14 (e : Fin 131072) : ((V14 m (outs m) c main_v3 : IVec S131072 32) (ix1 e)).toNat = (M.dst e).val := by
  rw [v3_14]; exact dst1 R e

theorem attn14 (e : Fin 131072) : at2 (n := 131072) (k := 1) (V14 m (outs m) c main_v51) e (0 : Fin 1) = (M.attnR e : EReal) := by
  rw [v51_14]; exact (v51_read R e).trans (M.attnR_coe e)

/-- The edge sums of the weighted first layer. -/
theorem v64_read (n : Fin 4096) (l : Fin 64) : at2 (n := 4096) (k := 64) (V15 m (outs m) c main_v64) n l
    = ∑ e : Fin 131072 with M.dst e = n, (M.g1 (M.src e) l : EReal) * (M.attnR e : EReal) := by
  refine (v64_apply (V14 m (outs m) c) M.dst (dst14 R) n l).trans (Finset.sum_congr rfl fun e _ => ?_)
  exact congrArg₂ (fun a b : EReal => a * b) ((v59_apply (V13 m (outs m) c) M.src (src13 R) e l).trans (v58_read R _ l)) (attn14 R e)

theorem g1_15 (n : Fin 4096) (f : Fin 64) : at2 (n := 4096) (k := 64) (V15 m (outs m) c main_v58) n f = (M.g1 n f : EReal) := by
  rw [v58_15]; exact v58_read R n f

theorem deg15 (n : Fin 4096) : at2 (n := 4096) (k := 1) (V15 m (outs m) c main_v12) n (0 : Fin 1) = (M.deg n : EReal) := by
  rw [v12_15]; exact v12_read R n

theorem wc2_15 (l f : Fin 64) : at2 (n := 64) (k := 64) (V15 m (outs m) c main_arg7) l f = M.wc2 l f := by
  rw [arg7_15]; exact R.wc2 l f

/-- Region 3: the masked classifier's second layer. -/
theorem v65_read (n : Fin 4096) (f : Fin 64) : at2 (n := 4096) (k := 64) (V16 m (outs m) c main_v65) n f = M.g2 n f := by
  rw [v65_out, outs_3, out3_eq]
  exact (congrArg (max · (0 : EReal)) (combine_conv M.toEdges M.attnR M.g1 M.wc2 (M.swaps_of_nonneg _ _ _ M.attnR_nonneg (relu_nonneg _)) _ _ _ _ n _ f (v64_read R n) (g1_15 R n) (deg15 R n)
    fun l => wc2_15 R l f))

/-- The masked logits, as the head of that layer. -/
theorem v70_read : Eq (α := FVec Ideal S1x2 .f32) (V17 m (outs m) c main_v70) (head (fun i => M.g2 (i 0) (i 1)) (V0 m c main_arg8)) := by
  refine (v70_eq (V16 m (outs m) c)).trans ?_
  rw [arg8_16]
  refine congrArg (head · _) (funext fun i => ?_)
  obtain ⟨n, f, rfl⟩ : ∃ (n : Fin 4096) (f : Fin 64), i = ix2 n f := ⟨i 0, i 1, (ix2_eta i).symm⟩
  exact v65_read R n f

/-- The attention as the kernel returns it. -/
theorem v129_read : Eq (α := FVec Ideal S131072 .f32) (V21 m (outs m) c main_v129) (shapeCast S131072 (fun i : S131072x1.Idx => M.attn (i 0)) (by decide)) := by
  refine (v129_eq (V20 m (outs m) c)).trans ?_
  rw [v51_20]
  refine congrArg (fun X => shapeCast S131072 X _) (funext fun i => ?_)
  obtain ⟨e, f, rfl⟩ : ∃ (e : Fin 131072) (f : Fin 1), i = ix2 e f := ⟨i 0, i 1, (ix2_eta i).symm⟩
  obtain rfl : f = 0 := Subsingleton.elim _ _
  exact v51_read R e

end Chain

end Cert.KernelIdeal.Chain
-- ==== Proof.HostCount.lean ====
/-
  The table of edge counts: an entry is positive exactly where a pair of an
  edge's ends, taken in either order, lands.
-/
module

public import proofs.«01_k».proof.Proof.Read
public import proofs.«01_k».proof.Proof.Gen.KernelIdeal.Regions

@[expose] public section

set_option maxRecDepth 16384

noncomputable section

namespace Cert.KernelIdeal.HostRead

open Idealize.ShloMosaic Idealize.ShloMosaic.TcCoe Idealize.ShloMosaic.Tactic
open Cert.KernelIdeal.Gen Cert.Read

set_option maxHeartbeats 1000000

/-- A sum of ones over a set is positive exactly when the set has a member. -/
theorem sum_ones_pos {ι : Type} [Fintype ι] (P : ι → Prop) [DecidablePred P] (f : ι → EReal) (hf : ∀ i, f i = 1) :
    0 < ∑ i with P i, f i ↔ ∃ i, P i := by
  constructor
  · intro h
    by_contra hn
    rw [Finset.sum_eq_zero fun i hi => absurd ⟨i, (Finset.mem_filter.mp hi).2⟩ hn] at h
    exact lt_irrefl _ h
  · rintro ⟨i, hi⟩
    refine lt_of_lt_of_le zero_lt_one ?_
    rw [← hf i]
    exact Finset.single_le_sum (f := f) (fun j _ => by rw [hf]; exact zero_le_one) (Finset.mem_filter.mpr ⟨Finset.mem_univ i, hi⟩)

/-- A scatter of ones into a table of zeros, two index words each. -/
theorem counts_pos {n : ℕ} (d : ScatterDims (Sh2 4096 4096) (Sh2 n 2) (Sh1 n)) (huw : d.updateWindowDims = [])
    (hiw : d.insertedWindowDims = [0, 1]) (hsd : d.scatterDimsToOperandDims = [0, 1]) (hivd : d.indexVectorDim = 1)
    (x : FVec Ideal (Sh2 4096 4096) .f32) (hx : ∀ i, x i = 0) (idx : IVec (Sh2 n 2) 32) (upd : FVec Ideal (Sh1 n) .f32) (hu : ∀ i, upd i = 1)
    (p q : Fin n → Fin 4096) (hp : ∀ e, (idx (ix2 e (0 : Fin 2))).toInt = (p e).val) (hq : ∀ e, (idx (ix2 e (1 : Fin 2))).toInt = (q e).val) (a b : Fin 4096) :
    0 < Host.scatterAdd d x idx upd (ix2 a b) ↔ ∃ e, p e = a ∧ q e = b := by
  have h : Host.scatterAdd d x idx upd (ix2 a b) = x (ix2 a b) + ∑ i with d.resultIdx? i idx = some (ix2 a b), upd i := by
    show FloatOps.hostScatterAdd d .single x idx upd (ix2 a b) = _
    rw [Ideal.hostScatterAdd_def]
    rfl
  rw [h, hx, zero_add, sum_ones_pos _ _ hu]
  constructor
  · rintro ⟨i, hi⟩
    obtain ⟨e, rfl⟩ : ∃ e : Fin n, i = ix1 e := ⟨i 0, (ix1_eta i).symm⟩
    obtain ⟨h0, h1⟩ := (pair_lands d huw hiw hsd hivd idx e a b).mp hi
    rw [hp] at h0
    rw [hq] at h1
    exact ⟨e, Fin.ext (by omega), Fin.ext (by omega)⟩
  · rintro ⟨e, rfl, rfl⟩
    exact ⟨ix1 e, (pair_lands d huw hiw hsd hivd idx e _ _).mpr ⟨hp e, hq e⟩⟩

/-- The index pairs: two columns of node numbers beside each other, negative ones wrapped. -/
def pairTable (s t : IVec S262144 32) : IVec S262144x2 32 :=
  concatenate S262144x2 1
    [⟨S262144x1, broadcastInDim S262144x1 ![0] bcast_S262144_S262144x1_0 (select (cmpi .slt s (broadcastInDim S262144 ![] bcast_S_S262144 (constantI S_ 32 0#32)))
        (addi s (broadcastInDim S262144 ![] bcast_S_S262144 (constantI S_ 32 4096#32))) s)⟩,
     ⟨S262144x1, broadcastInDim S262144x1 ![0] bcast_S262144_S262144x1_0 (select (cmpi .slt t (broadcastInDim S262144 ![] bcast_S_S262144 (constantI S_ 32 0#32)))
        (addi t (broadcastInDim S262144 ![] bcast_S_S262144 (constantI S_ 32 4096#32))) t)⟩]
    concatenates_S262144x1_S262144x1_S262144x2_d1

variable (V : Valuation τ sig (Elt Ideal))

/-- The table of counts, as the scatter it is. -/
theorem v88_eq : Eq (α := FVec Ideal S4096x4096 .f32) (StableHlo.after hostOps4 V main_v88)
    (Host.scatterAdd scatter_S4096x4096_S262144x2_S262144_n_01_01_1 (broadcastInDim S4096x4096 ![] bcast_S_S4096x4096 (constant S_ .f32 0x00000000#32))
      (pairTable (concatenate S262144 0 [⟨S131072, (V main_v1 : IVec S131072 32)⟩, ⟨S131072, (V main_v3 : IVec S131072 32)⟩] concatenates_S131072_S131072_S262144_d0)
        (concatenate S262144 0 [⟨S131072, (V main_v3 : IVec S131072 32)⟩, ⟨S131072, (V main_v1 : IVec S131072 32)⟩] concatenates_S131072_S131072_S262144_d0))
      (broadcastInDim S262144 ![] bcast_S_S262144 (constant S_ .f32 0x3F800000#32))) := by
  simp only [hostOps4]
  after_results_simp
  rfl

/-- A count is positive exactly where an edge has the pair of nodes as its ends, in either order. -/
theorem v88_pos (src dst : Fin 131072 → Fin 4096) (hs : ∀ e : Fin 131072, ((V main_v1 : IVec S131072 32) (ix1 e)).toNat = (src e).val)
    (hd : ∀ e : Fin 131072, ((V main_v3 : IVec S131072 32) (ix1 e)).toNat = (dst e).val) (a b : Fin 4096) :
    0 < at2 (n := 4096) (k := 4096) (StableHlo.after hostOps4 V main_v88) a b ↔ (∃ e, src e = a ∧ dst e = b) ∨ ∃ e, dst e = a ∧ src e = b := by
  rw [show at2 (n := 4096) (k := 4096) (StableHlo.after hostOps4 V main_v88) a b = _ from congrFun (v88_eq V) (ix2 a b)]
  have key : ∀ (s t : IVec S131072 32) (p q : Fin 131072 → Fin 4096) (hp : ∀ e, (s (ix1 e)).toNat = (p e).val) (hq : ∀ e, (t (ix1 e)).toNat = (q e).val) (k : Fin 262144),
      ((concatenate S262144 0 [⟨S131072, s⟩, ⟨S131072, t⟩] concatenates_S131072_S131072_S262144_d0 : IVec S262144 32) (ix1 k)).toNat
        = (if h : k.val < 131072 then p ⟨k.val, h⟩ else q ⟨k.val - 131072, by omega⟩).val := by
    intro s t p q hp hq k
    by_cases h : k.val < 131072
    · rw [dif_pos h, ← hp]
      exact congrArg BitVec.toNat (append_left s t _ ⟨k.val, h⟩ k rfl)
    · rw [dif_neg h, ← hq]
      exact congrArg BitVec.toNat (append_right s t _ ⟨k.val - 131072, by omega⟩ k (by simp; omega))
  have col : ∀ (s : IVec S262144 32) (p : Fin 262144 → Fin 4096) (hp : ∀ k, (s (ix1 k)).toNat = (p k).val) (k : Fin 262144),
      ((broadcastInDim S262144x1 ![0] bcast_S262144_S262144x1_0 (select (cmpi .slt s (broadcastInDim S262144 ![] bcast_S_S262144 (constantI S_ 32 0#32)))
        (addi s (broadcastInDim S262144 ![] bcast_S_S262144 (constantI S_ 32 4096#32))) s) : IVec S262144x1 32) (ix2 k (0 : Fin 1))).toInt = (p k).val := by
    intro s p hp k
    have hlt : (s (ix1 k)).toNat < 4096 := by rw [hp]; exact (p k).isLt
    refine (congrArg BitVec.toInt (column_apply s _ _ (fun _ => rfl) _ k hlt)).trans ?_
    rw [toInt_small hlt, hp]
  refine (counts_pos _ rfl rfl rfl rfl _ (fun _ => Ideal.ofBits_zero_f32) _ _ (fun _ => Ideal.ofBits_one_f32) _ _
    (fun e => (congrArg BitVec.toInt (pairs_fst _ _ _ e)).trans (col _ _ (key _ _ src dst hs hd) e))
    (fun e => (congrArg BitVec.toInt (pairs_snd _ _ _ e)).trans (col _ _ (key _ _ dst src hd hs) e)) a b).trans ?_
  constructor
  · rintro ⟨k, h0, h1⟩
    by_cases h : k.val < 131072
    · rw [dif_pos h] at h0 h1; exact .inl ⟨_, h0, h1⟩
    · rw [dif_neg h] at h0 h1; exact .inr ⟨_, h0, h1⟩
  · rintro (⟨e, h0, h1⟩ | ⟨e, h0, h1⟩)
    · have h : (e.castAdd 131072 : Fin 262144).val < 131072 := e.isLt
      exact ⟨(e.castAdd 131072 : Fin 262144), by rw [dif_pos h]; exact h0, by rw [dif_pos h]; exact h1⟩
    · have h : ¬ (e.natAdd 131072 : Fin 262144).val < 131072 := by simp
      have he : (⟨(e.natAdd 131072 : Fin 262144).val - 131072, by omega⟩ : Fin 131072) = e := Fin.ext (by simp)
      exact ⟨(e.natAdd 131072 : Fin 262144), by rw [dif_neg h, he]; exact h0, by rw [dif_neg h, he]; exact h1⟩

end Cert.KernelIdeal.HostRead
-- ==== Proof.HostLoss.lean ====
/-
  The host operations of the kernel after the sweep: the three sums of its rows,
  the Kullback-Leibler term of the two heads, and the loss.
-/
module

public import proofs.«01_k».proof.Proof.Read
public import proofs.«01_k».proof.Proof.Gen.KernelIdeal.Regions

@[expose] public section

set_option maxRecDepth 16384

noncomputable section

namespace Cert.KernelIdeal.HostRead

open Idealize.ShloMosaic Idealize.ShloMosaic.TcCoe Idealize.ShloMosaic.Tactic
open Cert.KernelIdeal.Gen Cert.Read

set_option maxHeartbeats 1000000

/-- The logits less the greatest of them. -/
def shifted (X : FVec Ideal S1x2 .f32) : FVec Ideal S1x2 .f32 :=
  subf X (broadcastInDim S1x2 ![0, 1] bcast_S1x1_S1x2_0_1 (broadcastInDim S1x1 ![0] bcast_S1_S1x1_0
    (maximumf (broadcastInDim S1 ![] bcast_S_S1 (constant S_ .f32 0xFF800000#32))
      (Host.reduce FloatOps.maximumf X (constant S_ .f32 0xFF800000#32) reducesTo_S1x2_S1_d1 h_S_))))

/-- The sum of the exponentials. -/
def expSum (X : FVec Ideal S1x2 .f32) : FVec Ideal S1x1 .f32 :=
  broadcastInDim S1x1 ![0] bcast_S1_S1x1_0 (Host.reduceAdd (Host.exp (shifted X)) (constant S_ .f32 0x00000000#32) reducesTo_S1x2_S1_d1 h_S_)

/-- The class probabilities. -/
def softmax (X : FVec Ideal S1x2 .f32) : FVec Ideal S1x2 .f32 :=
  Host.divf (Host.exp (shifted X)) (broadcastInDim S1x2 ![0, 1] bcast_S1x1_S1x2_0_1 (expSum X))

/-- Their logarithms. -/
def logSoftmax (X : FVec Ideal S1x2 .f32) : FVec Ideal S1x2 .f32 :=
  subf (shifted X) (broadcastInDim S1x2 ![0, 1] bcast_S1x1_S1x2_0_1 (Host.log (expSum X)))

/-- The Kullback-Leibler term from given logarithms. -/
def klOf (X L : FVec Ideal S1x2 .f32) : FVec Ideal S_ .f32 :=
  Host.divf (mulf (constant S_ .f32 0x3F800000#32) (Host.reduceAdd
    (mulf (softmax X) (subf (Host.log (addf (softmax X) (broadcastInDim S1x2 ![] bcast_S_S1x2 (constant S_ .f32 0x2B8CBCCC#32)))) L))
    (constant S_ .f32 0x00000000#32) reducesTo_S1x2_S_d0_1 h_S_)) (constant S_ .f32 0x3F800000#32)

/-- The Kullback-Leibler term of the masked logits from the unmasked ones. -/
def kl (X Y : FVec Ideal S1x2 .f32) : FVec Ideal S_ .f32 := klOf X (logSoftmax Y)

variable (V : Valuation τ sig (Elt Ideal))

/-- The cross entropy, from the first lane. -/
theorem v97_apply : Eq (α := EReal) ((StableHlo.after hostOps5 V main_v97 : FVec Ideal S_ .f32) ix0)
    (Ideal.div (-(∑ r : Fin 32, at2 (n := 32) (k := 128) (V main_v92) r (0 : Fin 128))) (Ideal.ofBits .f32 0x4B800000#32)) := by
  simp only [hostOps5]
  after_results_simp
  generalize (V main_v92 : FVec Ideal S32x128 .f32) = R
  pointwise []

/-- The size term, from the second lane. -/
theorem v101_apply : Eq (α := EReal) ((StableHlo.after hostOps5 V main_v101 : FVec Ideal S_ .f32) ix0)
    (Ideal.div (Ideal.ofBits .f32 0x38D1B717#32 * ∑ r : Fin 32, at2 (n := 32) (k := 128) (V main_v92) r (1 : Fin 128)) (Ideal.ofBits .f32 0x4B800000#32)) := by
  simp only [hostOps5]
  after_results_simp
  generalize (V main_v92 : FVec Ideal S32x128 .f32) = R
  pointwise []

/-- The divergence, from the third lane. -/
theorem v104_apply : Eq (α := EReal) ((StableHlo.after hostOps5 V main_v104 : FVec Ideal S_ .f32) ix0)
    (Ideal.ofBits .f32 0xB9000000#32 * ∑ r : Fin 32, at2 (n := 32) (k := 128) (V main_v92) r (2 : Fin 128)) := by
  simp only [hostOps5]
  after_results_simp
  generalize (V main_v92 : FVec Ideal S32x128 .f32) = R
  pointwise []

/-- The logarithms of the masked class probabilities. -/
theorem v105_eq : Eq (α := FVec Ideal S1x2 .f32) (StableHlo.after hostOps5_1 V main_v105) (logSoftmax (V main_v70)) := by
  simp only [hostOps5_1, StableHlo.TRef.binary, StableHlo.TRef.nullary, StableHlo.TRef.ternary, StableHlo.TRef.unary, StableHlo.TRef.toBuf, StableHlo.TRef.ofBuf, cast_eq]
  after_results_simp
  rfl

/-- The loss. -/
theorem v128_eq : Eq (α := FVec Ideal S_ .f32) (StableHlo.after hostOps5_2 V main_v128)
    (addf (addf (V main_v101) (klOf (V main_v32) (V main_v105))) (mulf (constant S_ .f32 0x3F800000#32) (addf (V main_v97) (V main_v104)))) := by
  simp only [hostOps5_2]
  after_results_simp
  rfl

end Cert.KernelIdeal.HostRead
-- ==== Proof.Loss.lean ====
/-
  The sums the loss is made of, over all pairs of nodes, and the two ways the
  programs compute a term of the cross entropy.
-/
module

public import proofs.«01_k».proof.Proof.Spec

@[expose] public section

noncomputable section

namespace Cert.Graph

open Idealize.ShloMosaic

/-- The small number the programs add under a logarithm. -/
def tiny : EReal := Ideal.ofBits .f32 0x322BCC77#32

/-- It is a positive real number. -/
theorem tiny_real : ∃ t : ℝ, 0 < t ∧ tiny = (t : EReal) := by
  unfold tiny
  simp [Ideal.ofBits, Ideal.ieee, -EReal.coe_mul]

/-- The logarithm of a nonnegative real number and the small one is a real number. -/
theorem log_real {r : ℝ} (h : 0 ≤ r) : ∃ l : ℝ, Ideal.log ((r : EReal) + tiny) = (l : EReal) := by
  obtain ⟨t, ht, e⟩ := tiny_real
  rw [e, ← EReal.coe_add, Ideal.log_coe, if_neg (by linarith)]
  exact ⟨_, rfl⟩

namespace Model

variable (M : Model)

/-- The reconstructed adjacency. -/
def decoded (a b : Fin 4096) : EReal := Ideal.logistic (∑ k : Fin 16, M.z a k * M.z b k)

/-- Two nodes are adjacent when they are the same or an edge joins them, in either direction. -/
def adj (a b : Fin 4096) : Prop := ((∃ e, M.src e = a ∧ M.dst e = b) ∨ ∃ e, M.dst e = a ∧ M.src e = b) ∨ a = b

/-- The logarithm of the probability of an edge. -/
def logPos (a b : Fin 4096) : EReal := Ideal.log (M.decoded a b + tiny)
/-- The logarithm of the probability of no edge. -/
def logNeg (a b : Fin 4096) : EReal := Ideal.log ((1 - M.decoded a b) + tiny)

open Classical in
/-- The cross entropy of a pair of nodes, with the sign left out. -/
def term (a b : Fin 4096) : EReal := if M.adj a b then M.logPos a b else M.logNeg a b

theorem logPos_real (a b : Fin 4096) : ∃ l : ℝ, M.logPos a b = (l : EReal) := by
  obtain ⟨r, h0, h1, e⟩ := logistic_real (∑ k : Fin 16, M.z a k * M.z b k)
  unfold logPos decoded
  rw [e]
  exact log_real h0

theorem logNeg_real (a b : Fin 4096) : ∃ l : ℝ, M.logNeg a b = (l : EReal) := by
  obtain ⟨r, h0, h1, e⟩ := logistic_real (∑ k : Fin 16, M.z a k * M.z b k)
  unfold logNeg decoded
  rw [e, ← EReal.coe_one, ← EReal.coe_sub]
  exact log_real (by linarith)

open Classical in
/-- The kernel's way: the term of no edge everywhere, and a correction where there is one. -/
theorem term_corrected (a b : Fin 4096) :
    M.logNeg a b + (if M.adj a b then M.logPos a b - M.logNeg a b else 0) = M.term a b := by
  obtain ⟨p, hp⟩ := M.logPos_real a b
  obtain ⟨n, hn⟩ := M.logNeg_real a b
  unfold term
  split
  · rw [hp, hn, ← EReal.coe_sub, ← EReal.coe_add]
    exact congrArg _ (by ring)
  · exact add_zero _

open Classical in
/-- The reference's way: each logarithm weighted by the adjacency. -/
theorem term_weighted (a b : Fin 4096) (w : EReal) (hw : w = if M.adj a b then 1 else 0) :
    w * M.logPos a b + (1 - w) * M.logNeg a b = M.term a b := by
  unfold term
  subst hw
  split
  · rw [one_mul, ← EReal.coe_one, ← EReal.coe_sub, sub_self, EReal.coe_zero, zero_mul, add_zero]
  · rw [zero_mul, zero_add, sub_zero, one_mul]

/-- The cross entropy of all pairs. -/
def crossSum : EReal := ∑ a : Fin 4096, ∑ b : Fin 4096, M.term a b
/-- The sum of the masked adjacency. -/
def sizeSum : EReal := ∑ a : Fin 4096, ∑ b : Fin 4096, Ideal.logistic (M.score a b)
/-- The divergence of one latent coordinate, with the factor left out. -/
def div1 (a : Fin 4096) (j : Fin 16) : EReal := ((1 + M.lv a j) - M.mu a j * M.mu a j) - Ideal.exp (M.lv a j)
/-- The divergence of all of them. -/
def divSum : EReal := ∑ a : Fin 4096, ∑ j : Fin 16, M.div1 a j

/-- The loss, from the Kullback-Leibler term `k` of the two heads: the weighted size, `k`, the cross entropy and the divergence. -/
def loss (k : EReal) : EReal :=
  (Ideal.div (Ideal.ofBits .f32 0x38D1B717#32 * M.sizeSum) (Ideal.ofBits .f32 0x4B800000#32) + k)
    + 1 * (Ideal.div (-M.crossSum) (Ideal.ofBits .f32 0x4B800000#32) + Ideal.ofBits .f32 0xB9000000#32 * M.divSum)

/-- The number of pairs of nodes is a real number other than zero. -/
theorem pairs_real : ∃ t : ℝ, t ≠ 0 ∧ Ideal.ofBits .f32 0x4B800000#32 = (t : EReal) := by
  refine ⟨16777216, by norm_num, ?_⟩
  simp [Ideal.ofBits, Ideal.ieee, -EReal.coe_mul]
  norm_num

/-- A quotient by it is a product by its inverse. -/
theorem div_pairs (x : EReal) : Ideal.div x (Ideal.ofBits .f32 0x4B800000#32) = x * (Ideal.ofBits .f32 0x4B800000#32)⁻¹ := by
  obtain ⟨t, ht, e⟩ := pairs_real
  rw [e]
  exact if_neg (by exact_mod_cast ht)

/-- The same loss, the weight multiplied and the sign taken after the quotients. -/
theorem loss_eq (k : EReal) :
    (Ideal.ofBits .f32 0x38D1B717#32 * Ideal.div M.sizeSum (Ideal.ofBits .f32 0x4B800000#32) + k)
      + 1 * (-Ideal.div M.crossSum (Ideal.ofBits .f32 0x4B800000#32) + Ideal.ofBits .f32 0xB9000000#32 * M.divSum) = M.loss k := by
  unfold loss
  simp only [div_pairs]
  rw [mul_assoc, EReal.neg_mul]

end Model

/-- The row that row `i` of block `t` is. -/
def rowOf (t : Fin 32) (i : Fin 128) : Fin 4096 := ⟨t.val * 128 + i.val, by omega⟩

/-- A sum over all rows, block by block. -/
theorem sum_blocks (f : Fin 4096 → EReal) : ∑ t : Fin 32, ∑ i : Fin 128, f (rowOf t i) = ∑ a, f a := by
  rw [← Fintype.sum_prod_type' (f := fun t i => f (rowOf t i))]
  refine Fintype.sum_equiv (finProdFinEquiv (m := 32) (n := 128)) _ _ fun p => congrArg f (Fin.ext ?_)
  simp [rowOf, finProdFinEquiv]
  ring

end Cert.Graph
-- ==== Proof.SweepRow.lean ====
/-
  The row a grid point of the sweep stores, as sums over its blocks.
-/
module

public import proofs.«01_k».proof.Proof.Read
public import proofs.«01_k».proof.Proof.Loss
public import proofs.«01_k».proof.Proof.Gen.KernelIdeal.Skeleton
public import Idealize.ShloMosaic.Lib.StableHlo.Predicate

@[expose] public section

set_option maxRecDepth 16384

noncomputable section

namespace Cert.KernelIdeal.SweepRow

open Idealize.ShloMosaic Idealize.ShloMosaic.TcCoe Idealize.ShloMosaic.Tactic
open Cert.KernelIdeal.Gen Cert.Read
open Cert.Graph (tiny)

set_option maxHeartbeats 1000000

/-- The reconstructed adjacency of a block of nodes with all nodes. -/
theorem pay3_apply (z : FVec Ideal S128x16 .f32) (zt : FVec Ideal S16x4096 .f32) (i : Fin 128) (j : Fin 4096) :
    at2 (k4_pay3 (F := Ideal) z zt) i j = Ideal.logistic (∑ k : Fin 16, at2 z i k * at2 zt k j) := by
  pointwise [k4_pay3, k4_pay2]

/-- The masked adjacency, over the causal columns. -/
theorem pay7_apply (z : FVec Ideal S128x16 .f32) (zt : FVec Ideal S8x4096 .f32) (i : Fin 128) (j : Fin 4096) :
    at2 (k4_pay7 (F := Ideal) z zt) i j = Ideal.logistic (∑ k : Fin 8, at2 z i (k.castLE (by norm_num)) * at2 zt k j) := by
  pointwise [k4_pay7, k4_pay2]
  rfl

/-- The logarithm of the probability of no edge. -/
theorem pay4_apply (z : FVec Ideal S128x16 .f32) (zt : FVec Ideal S16x4096 .f32) (i : Fin 128) (j : Fin 4096) :
    at2 (k4_pay4 (F := Ideal) z zt) i j = Ideal.log ((1 - at2 (k4_pay3 (F := Ideal) z zt) i j) + tiny) := by
  pointwise [k4_pay4, tiny]

/-- Its sum over the block. -/
theorem pay5_apply (z : FVec Ideal S128x16 .f32) (zt : FVec Ideal S16x4096 .f32) :
    k4_pay5 (F := Ideal) z zt = ∑ i : Fin 128, ∑ j : Fin 4096, at2 (k4_pay4 (F := Ideal) z zt) i j := by
  pointwise [k4_pay5]

/-- Where a pair of the block counts as an edge, as the sweep decides it. -/
def on (t : Fin 32) (org : FVec Ideal S128x4096 .f32) (i : Fin 128) (j : Fin 4096) : Prop :=
  0 < at2 org i j ∨ t.val * 128 + i.val = j.val

/-- The row number of a block's entry against a column number, in words. -/
theorem row_is_col (t : Fin 32) (i : Fin 128) (j : Fin 4096) :
    IntOp.cmpi .eq (IntOp.addi (BitVec.ofNat 32 i.val) (Scalar.muli (BitVec.ofNat 32 t.val) 128#32)) (BitVec.ofNat 32 j.val) = 1#1
      ↔ t.val * 128 + i.val = j.val := by
  have h : IntOp.addi (BitVec.ofNat 32 i.val) (Scalar.muli (BitVec.ofNat 32 t.val) 128#32) = BitVec.ofNat 32 (t.val * 128 + i.val) := by
    apply BitVec.eq_of_toNat_eq
    simp [IntOp.addi, Scalar.muli, IntOp.muli]
    omega
  rw [h]
  simp only [IntOp.cmpi, StableHlo.Predicate.ofBool_eq_one_iff, beq_iff_eq]
  constructor
  · intro e
    have := congrArg BitVec.toNat e
    simp at this
    omega
  · intro e
    rw [e]

open Classical in
/-- The correction at the pairs that count as edges, summed over the block. -/
theorem pay6_apply (p : grid4.Coords) (t : Fin 32) (hp : (p 0).val = t.val) (z : FVec Ideal S128x16 .f32) (zt : FVec Ideal S16x4096 .f32) (org : FVec Ideal S128x4096 .f32) :
    k4_pay6 (F := Ideal) p z zt org = ∑ i : Fin 128, ∑ j : Fin 4096,
      if on t org i j then Ideal.log (at2 (k4_pay3 (F := Ideal) z zt) i j + tiny) - at2 (k4_pay4 (F := Ideal) z zt) i j else 0 := by
  pointwise [k4_pay6]
  refine Finset.sum_congr rfl fun i _ => Finset.sum_congr rfl fun j _ => ?_
  refine if_congr ?_ rfl rfl
  refine IntOp.ori_eq_one.trans (or_congr (by simp [StableHlo.Predicate.ofBool_eq_one_iff]) ?_)
  rw [hp]
  exact row_is_col t i j

variable (a b : EReal) (s : FVec Ideal S128x4096 .f32) (mu lv : FVec Ideal S128x16 .f32)

/-- The first lane of the row. -/
theorem pay1_zero : at2 (n := 1) (k := 128) (k4_pay1 (F := Ideal) a b s mu lv) (0 : Fin 1) (0 : Fin 128) = a + b := by
  pointwise [k4_pay1]

/-- The second lane of the row. -/
theorem pay1_one : at2 (n := 1) (k := 128) (k4_pay1 (F := Ideal) a b s mu lv) (0 : Fin 1) (1 : Fin 128) = ∑ i : Fin 128, ∑ j : Fin 4096, at2 s i j := by
  pointwise [k4_pay1]

/-- The third lane of the row. -/
theorem pay1_two : at2 (n := 1) (k := 128) (k4_pay1 (F := Ideal) a b s mu lv) (0 : Fin 1) (2 : Fin 128)
    = ∑ i : Fin 128, ∑ j : Fin 16, (((1 + at2 lv i j) - at2 mu i j * at2 mu i j) - Ideal.exp (at2 lv i j)) := by
  pointwise [k4_pay1]

end Cert.KernelIdeal.SweepRow
-- ==== Proof.SweepRead.lean ====
/-
  The sweep region of the kernel: what it leaves in its output array, as sums
  over the pairs of nodes of each block of rows.
-/
module

public import proofs.«01_k».proof.Proof.RunI
public import proofs.«01_k».proof.Proof.SweepRow
public import Idealize.ShloMosaic.Lib.Pipeline.ValueKit

@[expose] public section

set_option maxRecDepth 16384

noncomputable section

namespace Cert.KernelIdeal.SweepRead

open Idealize.ShloMosaic Idealize.ShloMosaic.TcCoe Idealize.ShloMosaic.Tactic
open Idealize.ShloMosaic.Pipeline (Dat RDat Cfg Window)
open Cert.KernelIdeal.Gen Cert.KernelIdeal.Body Cert.Read Cert.KernelIdeal.SweepRow Cert.Graph

variable (V : Dev nD → Valuation τ sig (Elt Ideal)) (c : Dev nD)

/-- Where the blocks of the sweep lie. -/
theorem idx4 : ∀ t : Fin cfg4.N, win4_0.index t = ![t.val, 0] ∧ win4_1.index t = ![0, 0] ∧ win4_2.index t = ![0, 0]
    ∧ win4_3.index t = ![t.val, 0] ∧ win4_4.index t = ![t.val, 0] ∧ win4_5.index t = ![t.val, 0] ∧ win4_6.index t = ![0, 0] :=
  (by decide +kernel : ∀ t : Fin grid4.N, _)

set_option maxHeartbeats 1000000 in
/-- The output array of the sweep holds the stored rows. -/
theorem out4_eq : (dat4 V c).arrAt 6 cfg4.N = rows4 V c := by
  refine (dat4 V c).arrAt_eq_of_covers 6 _ (by decide +kernel) fun t hf y => ?_
  obtain ⟨e0, e1, e2, e3, e4, e5, e6⟩ := idx4 t
  blk_simp
  show rows4 V c y = _
  refine congrArg (rows4 V c) ?_
  blk_ext [e6]

set_option maxHeartbeats 1000000 in
/-- The block of the latent rows. -/
theorem block_z (r : Fin 32) (i : Fin 128) (k : Fin 16) :
    block4 V c 0 (pt4 r) (ix2 i k) = (V c main_v37 : FVec Ideal S4096x16 .f32) (ix2 (rowOf r i) k) := by
  have hp : (pt4 r).val = r.val := rfl
  generalize pt4 r = t at hp ⊢
  obtain ⟨e0, e1, e2, e3, e4, e5, e6⟩ := idx4 t
  unfold block4
  blk_simp
  refine congrArg _ ?_
  blk_ext [e0, rowOf, hp]

set_option maxHeartbeats 1000000 in
/-- The block of the means. -/
theorem block_mu (r : Fin 32) (i : Fin 128) (k : Fin 16) :
    block4 V c 3 (pt4 r) (ix2 i k) = (V c main_v26 : FVec Ideal S4096x16 .f32) (ix2 (rowOf r i) k) := by
  have hp : (pt4 r).val = r.val := rfl
  generalize pt4 r = t at hp ⊢
  obtain ⟨e0, e1, e2, e3, e4, e5, e6⟩ := idx4 t
  unfold block4
  blk_simp
  refine congrArg _ ?_
  blk_ext [e3, rowOf, hp]

set_option maxHeartbeats 1000000 in
/-- The block of the log variances. -/
theorem block_lv (r : Fin 32) (i : Fin 128) (k : Fin 16) :
    block4 V c 4 (pt4 r) (ix2 i k) = (V c main_v27 : FVec Ideal S4096x16 .f32) (ix2 (rowOf r i) k) := by
  have hp : (pt4 r).val = r.val := rfl
  generalize pt4 r = t at hp ⊢
  obtain ⟨e0, e1, e2, e3, e4, e5, e6⟩ := idx4 t
  unfold block4
  blk_simp
  refine congrArg _ ?_
  blk_ext [e4, rowOf, hp]

set_option maxHeartbeats 1000000 in
/-- The block of the counted edges. -/
theorem block_org (r : Fin 32) (i : Fin 128) (k : Fin 4096) :
    block4 V c 5 (pt4 r) (ix2 i k) = (V c main_v88 : FVec Ideal S4096x4096 .f32) (ix2 (rowOf r i) k) := by
  have hp : (pt4 r).val = r.val := rfl
  generalize pt4 r = t at hp ⊢
  obtain ⟨e0, e1, e2, e3, e4, e5, e6⟩ := idx4 t
  unfold block4
  blk_simp
  refine congrArg _ ?_
  blk_ext [e5, rowOf, hp]

set_option maxHeartbeats 1000000 in
/-- The block of the transposed latent rows: all of it. -/
theorem block_zt (t : Fin cfg4.N) (k : Fin 16) (j : Fin 4096) :
    block4 V c 1 t (ix2 k j) = (V c main_v89 : FVec Ideal S16x4096 .f32) (ix2 k j) := by
  obtain ⟨e0, e1, e2, e3, e4, e5, e6⟩ := idx4 t
  unfold block4
  blk_simp
  refine congrArg _ ?_
  blk_ext [e1]

set_option maxHeartbeats 1000000 in
/-- The block of the transposed causal columns: all of it. -/
theorem block_zm (t : Fin cfg4.N) (k : Fin 8) (j : Fin 4096) :
    block4 V c 2 t (ix2 k j) = (V c main_v91 : FVec Ideal S8x4096 .f32) (ix2 k j) := by
  obtain ⟨e0, e1, e2, e3, e4, e5, e6⟩ := idx4 t
  unfold block4
  blk_simp
  refine congrArg _ ?_
  blk_ext [e2]

/-- The stored row is computed from the blocks as they lie. -/
theorem row4_eq (p : grid4.Coords) (z : Vec Ideal S128x16 .f32) (zt : Vec Ideal S16x4096 .f32) (zm : Vec Ideal S8x4096 .f32)
    (mu lv : Vec Ideal S128x16 .f32) (org : Vec Ideal S128x4096 .f32) :
    row4 p z zt zm mu lv org = k4_pay1 (k4_pay5 z zt) (k4_pay6 p z zt org) (k4_pay7 z zm) mu lv := by
  unfold row4
  rw [View.ld_unit_lit inb_S128x16_S128x16_0_0 z (by decide), View.ld_unit_lit inb_S16x4096_S16x4096_0_0 zt (by decide),
    View.ld_unit_lit inb_S8x4096_S8x4096_0_0 zm (by decide), View.ld_unit_lit inb_S128x16_S128x16_0_0 mu (by decide),
    View.ld_unit_lit inb_S128x16_S128x16_0_0 lv (by decide), View.ld_unit_lit inb_S128x4096_S128x4096_0_0 org (by decide)]

variable {V c} {M : Model} (hz : ∀ n k, at2 (n := 4096) (k := 16) (V c main_v37) n k = M.z n k)
  (hzt : ∀ k n, at2 (n := 16) (k := 4096) (V c main_v89) k n = M.z n k)

section Decoded
include hz hzt

/-- The reconstructed adjacency on a block. -/
theorem decoded_block (r : Fin 32) (i : Fin 128) (j : Fin 4096) :
    at2 (k4_pay3 (F := Ideal) (block4 V c 0 (pt4 r)) (block4 V c 1 (pt4 r))) i j = M.decoded (rowOf r i) j := by
  refine (pay3_apply _ _ i j).trans (congrArg Ideal.logistic (Finset.sum_congr rfl fun k _ => ?_))
  exact congrArg₂ (fun a b : EReal => a * b) ((block_z V c r i k).trans (hz _ _)) ((block_zt V c (pt4 r) k j).trans (hzt _ _))

/-- The logarithm of no edge on a block. -/
theorem logNeg_block (r : Fin 32) (i : Fin 128) (j : Fin 4096) :
    at2 (k4_pay4 (F := Ideal) (block4 V c 0 (pt4 r)) (block4 V c 1 (pt4 r))) i j = M.logNeg (rowOf r i) j :=
  (pay4_apply _ _ i j).trans (congrArg (fun x => Ideal.log ((1 - x) + tiny)) (decoded_block hz hzt r i j))

/-- The first lane of row `r`: the cross entropy of its block. -/
theorem lane_zero (ho : ∀ a b, 0 < at2 (n := 4096) (k := 4096) (V c main_v88) a b ↔ (∃ e, M.src e = a ∧ M.dst e = b) ∨ ∃ e, M.dst e = a ∧ M.src e = b) (r : Fin 32) :
    at2 (n := 32) (k := 128) (rows4 V c) r 0 = ∑ i : Fin 128, ∑ j : Fin 4096, M.term (rowOf r i) j := by
  rw [show at2 (n := 32) (k := 128) (rows4 V c) r 0 = payload4 V c (pt4 r) (ix2 (0 : Fin 1) (0 : Fin 128)) from rfl, payload4, row4_eq]
  refine (pay1_zero _ _ _ _ _).trans ?_
  rw [pay5_apply, pay6_apply _ r (coords4 (pt4 r)), ← Finset.sum_add_distrib]
  refine Finset.sum_congr rfl fun i _ => ?_
  rw [← Finset.sum_add_distrib]
  refine Finset.sum_congr rfl fun j _ => ?_
  refine Eq.trans ?_ (M.term_corrected (rowOf r i) j)
  have hon : on r (block4 V c 5 (pt4 r)) i j ↔ M.adj (rowOf r i) j := by
    refine or_congr (Iff.trans ?_ (ho (rowOf r i) j)) (Fin.ext_iff (a := rowOf r i) (b := j)).symm
    exact iff_of_eq (congrArg (fun x : EReal => 0 < x) (block_org V c r i j))
  rw [logNeg_block hz hzt, decoded_block hz hzt]
  by_cases h : M.adj (rowOf r i) j
  · rw [if_pos (hon.mpr h), if_pos h]
    rfl
  · rw [if_neg (mt hon.mp h), if_neg h]

end Decoded

include hz in
/-- The second lane of row `r`: the masked adjacency of its block. -/
theorem lane_one (hzm : ∀ (k : Fin 8) n, at2 (n := 8) (k := 4096) (V c main_v91) k n = M.z n (k.castLE (by norm_num))) (r : Fin 32) :
    at2 (n := 32) (k := 128) (rows4 V c) r 1 = ∑ i : Fin 128, ∑ j : Fin 4096, Ideal.logistic (M.score (rowOf r i) j) := by
  rw [show at2 (n := 32) (k := 128) (rows4 V c) r 1 = payload4 V c (pt4 r) (ix2 (0 : Fin 1) (1 : Fin 128)) from rfl, payload4, row4_eq]
  refine (pay1_one _ _ _ _ _).trans (Finset.sum_congr rfl fun i _ => Finset.sum_congr rfl fun j _ => ?_)
  refine (pay7_apply _ _ i j).trans (congrArg Ideal.logistic (Finset.sum_congr rfl fun k _ => ?_))
  exact congrArg₂ (fun a b : EReal => a * b) ((block_z V c r i _).trans (hz _ _)) ((block_zm V c (pt4 r) k j).trans (hzm _ _))

/-- The third lane of row `r`: the divergence of its block. -/
theorem lane_two (hmu : ∀ n k, at2 (n := 4096) (k := 16) (V c main_v26) n k = M.mu n k) (hlv : ∀ n k, at2 (n := 4096) (k := 16) (V c main_v27) n k = M.lv n k) (r : Fin 32) :
    at2 (n := 32) (k := 128) (rows4 V c) r 2 = ∑ i : Fin 128, ∑ j : Fin 16, M.div1 (rowOf r i) j := by
  rw [show at2 (n := 32) (k := 128) (rows4 V c) r 2 = payload4 V c (pt4 r) (ix2 (0 : Fin 1) (2 : Fin 128)) from rfl, payload4, row4_eq]
  refine (pay1_two _ _ _ _ _).trans (Finset.sum_congr rfl fun i _ => Finset.sum_congr rfl fun j _ => ?_)
  exact congrArg₂ (fun a b : EReal => ((1 + b) - a * a) - Ideal.exp b) ((block_mu V c r i j).trans (hmu _ _)) ((block_lv V c r i j).trans (hlv _ _))

end Cert.KernelIdeal.SweepRead
-- ==== Proof.ChainLoss.lean ====
/-
  The kernel's loss: the lanes of the sweep summed over its rows are the sums
  over all pairs of nodes, and the loss is made of these and the two heads.
-/
module

public import proofs.«01_k».proof.Proof.ChainMask
public import proofs.«01_k».proof.Proof.HostCount
public import proofs.«01_k».proof.Proof.HostLoss
public import proofs.«01_k».proof.Proof.SweepRead

@[expose] public section

set_option maxRecDepth 16384

noncomputable section

namespace Cert.KernelIdeal.Chain

open Idealize.ShloMosaic Idealize.ShloMosaic.TcCoe Idealize.ShloMosaic.Tactic
open Cert.KernelIdeal.Gen Cert.KernelIdeal.Body Cert.KernelIdeal.HostRead Cert.KernelIdeal.Stage Cert.KernelIdeal.SweepRead
open Cert.Read Cert.Graph

section Loss

variable {M : Model} {m : (ℓ : Loc nD τ sig) → Buf (Elt Ideal) ℓ} {c : Dev nD} (R : Args M m c)

include R

theorem z17 (n : Fin 4096) (k : Fin 16) : at2 (n := 4096) (k := 16) (V17 m (outs m) c main_v37) n k = M.z n k := by
  rw [v37_17, v37_16]; exact v37_read R n k

theorem zt17 (k : Fin 16) (n : Fin 4096) : at2 (n := 16) (k := 4096) (V17 m (outs m) c main_v89) k n = M.z n k := by
  refine (v89_apply (V16 m (outs m) c) k n).trans ?_
  rw [v37_16]; exact v37_read R n k

theorem zm17 (k : Fin 8) (n : Fin 4096) : at2 (n := 8) (k := 4096) (V17 m (outs m) c main_v91) k n = M.z n (k.castLE (by norm_num)) := by
  refine (v91_apply (V16 m (outs m) c) k n).trans ?_
  rw [v37_16]; exact v37_read R n _

theorem mu17 (n : Fin 4096) (k : Fin 16) : at2 (n := 4096) (k := 16) (V17 m (outs m) c main_v26) n k = M.mu n k := by
  rw [v26_17]; exact v26_read R n k

theorem lv17 (n : Fin 4096) (k : Fin 16) : at2 (n := 4096) (k := 16) (V17 m (outs m) c main_v27) n k = M.lv n k := by
  rw [v27_17]; exact v27_read R n k

theorem src16 (e : Fin 131072) : ((V16 m (outs m) c main_v1 : IVec S131072 32) (ix1 e)).toNat = (M.src e).val := by
  rw [v1_16]; exact src1 R e

theorem dst16 (e : Fin 131072) : ((V16 m (outs m) c main_v3 : IVec S131072 32) (ix1 e)).toNat = (M.dst e).val := by
  rw [v3_16]; exact dst1 R e

/-- The counts of edges at the sweep. -/
theorem counts17 (a b : Fin 4096) : 0 < at2 (n := 4096) (k := 4096) (V17 m (outs m) c main_v88) a b ↔ (∃ e, M.src e = a ∧ M.dst e = b) ∨ ∃ e, M.dst e = a ∧ M.src e = b :=
  v88_pos (V16 m (outs m) c) M.src M.dst (src16 R) (dst16 R) a b

/-- The first lane over all rows: the cross entropy of all pairs of nodes. -/
theorem lanes_zero : ∑ r : Fin 32, at2 (n := 32) (k := 128) (V18 m (outs m) c main_v92) r (0 : Fin 128) = M.crossSum := by
  rw [v92_out, outs_4, out4_eq]
  refine (Finset.sum_congr rfl fun r _ => lane_zero (V := V17 m (outs m)) (z17 R) (zt17 R) (counts17 R) r).trans ?_
  exact sum_blocks fun a => ∑ b, M.term a b

/-- The second: the masked adjacency of all pairs. -/
theorem lanes_one : ∑ r : Fin 32, at2 (n := 32) (k := 128) (V18 m (outs m) c main_v92) r (1 : Fin 128) = M.sizeSum := by
  rw [v92_out, outs_4, out4_eq]
  refine (Finset.sum_congr rfl fun r _ => lane_one (V := V17 m (outs m)) (z17 R) (zm17 R) r).trans ?_
  exact sum_blocks fun a => ∑ b, Ideal.logistic (M.score a b)

/-- The third: the divergence of all latent coordinates. -/
theorem lanes_two : ∑ r : Fin 32, at2 (n := 32) (k := 128) (V18 m (outs m) c main_v92) r (2 : Fin 128) = M.divSum := by
  rw [v92_out, outs_4, out4_eq]
  refine (Finset.sum_congr rfl fun r _ => lane_two (V := V17 m (outs m)) (mu17 R) (lv17 R) r).trans ?_
  exact sum_blocks fun a => ∑ j, M.div1 a j

/-- The loss of the kernel. -/
theorem v128_read : Eq (α := EReal) ((V21 m (outs m) c main_v128 : FVec Ideal S_ .f32) ix0)
    (M.loss (kl (head (fun i => M.c2 (i 0) (i 1)) (V0 m c main_arg8)) (head (fun i => M.g2 (i 0) (i 1)) (V0 m c main_arg8)) ix0)) := by
  refine (congrFun (v128_eq (V20 m (outs m) c)) ix0).trans ?_
  rw [v101_20, v97_20, v104_20, v32_20, v32_read R]
  rw [show Eq (α := FVec Ideal S1x2 .f32) (V20 m (outs m) c main_v105) _ from v105_eq (V19 m (outs m) c), v70_19, v70_read R]
  refine congrArg₂ (fun a b : EReal => a + b) (congrArg (fun a : EReal => a + _) ((v101_apply (V18 m (outs m) c)).trans (by rw [lanes_one R])))
    (congrArg₂ (fun a b : EReal => a * b) Ideal.ofBits_one_f32
      (congrArg₂ (fun a b : EReal => a + b) ((v97_apply (V18 m (outs m) c)).trans (by rw [lanes_zero R])) ((v104_apply (V18 m (outs m) c)).trans (by rw [lanes_two R]))))

end Loss

end Cert.KernelIdeal.Chain
-- ==== Proof.Layer.lean ====
/-
  A graph convolution as the reference writes it, read at an index.
-/
module

public import proofs.«01_k».proof.Proof.Given

@[expose] public section

noncomputable section

namespace Cert.Graph

open Idealize.ShloMosaic Cert.Read

/-- Edge sums divided by the degree, plus the node's own row. -/
theorem layer_apply {D k : ℕ} (G : Edges) (w : Fin 131072 → ℝ) (A : Fin 4096 → Fin k → ℝ) (W : Fin k → Fin D → EReal)
    (d : ScatterDims (Sh2 4096 D) (Sh2 131072 1) (Sh2 131072 D)) (huw : d.updateWindowDims = [1])
    (hiw : d.insertedWindowDims = [0]) (hsd : d.scatterDimsToOperandDims = [0]) (hivd : d.indexVectorDim = 1)
    (d1 : ScatterDims (Sh2 4096 1) (Sh2 131072 1) (Sh2 131072 1)) (huw1 : d1.updateWindowDims = [1])
    (hiw1 : d1.insertedWindowDims = [0]) (hsd1 : d1.scatterDimsToOperandDims = [0]) (hivd1 : d1.indexVectorDim = 1)
    (Z : FVec Ideal (Sh2 4096 D) .f32) (hZ : ∀ i, Z i = 0) (Z1 : FVec Ideal (Sh2 4096 1) .f32) (hZ1 : ∀ i, Z1 i = 0)
    (one : FVec Ideal (Sh2 4096 1) .f32) (hone : ∀ i, one i = 1) (O : FVec Ideal (Sh2 131072 1) .f32) (hO : ∀ i, O i = 1)
    (I : IVec (Sh2 131072 1) 32) (hI : ∀ e, (I (ix2 e (0 : Fin 1))).toNat = (G.dst e).val)
    (hb : (Sh2 4096 1).BroadcastsInDim (Sh2 4096 D) (![0, 1] : Fin 2 → Fin (Sh2 4096 D).rank))
    (U : FVec Ideal (Sh2 131072 D) .f32) (XW : FVec Ideal (Sh2 4096 D) .f32) (n : Fin 4096) (f : Fin D)
    (hU : ∀ e, U (ix2 e f) = prod A W (G.src e) f * (w e : EReal)) (hXW : XW (ix2 n f) = prod A W n f) :
    addf (Host.divf (Host.scatterAdd d Z I U) (broadcastInDim (Sh2 4096 D) ![0, 1] hb (maximumf one (Host.scatterAdd d1 Z1 I O)))) XW
      (ix2 n f) = G.conv w A W n f := by
  have hI' : ∀ e, (I (ix2 e (0 : Fin 1))).toInt = (G.dst e).val := fun e => by
    rw [toInt_small (by rw [hI]; exact (G.dst e).isLt), hI]
  show Ideal.div (Host.scatterAdd d Z I U (ix2 n f)) (broadcastInDim (Sh2 4096 D) ![0, 1] hb (maximumf one (Host.scatterAdd d1 Z1 I O)) (ix2 n f))
    + XW (ix2 n f) = _
  rw [spread_apply, hXW, segsum_apply d huw hiw hsd hivd Z hZ I G.dst hI' U n f]
  show Ideal.div _ (max (one (ix2 n 0)) (Host.scatterAdd d1 Z1 I O (ix2 n 0))) + _ = _
  rw [segsum_apply d1 huw1 hiw1 hsd1 hivd1 Z1 hZ1 I G.dst hI' O n 0, hone]
  simp only [hU, hO]
  rw [G.deg_coe]
  rfl

/-- The positive part of an array. -/
theorem pos_apply {D : ℕ} (A : Fin 4096 → Fin D → EReal) (X Z : FVec Ideal (Sh2 4096 D) .f32) (hX : ∀ n f, X (ix2 n f) = A n f)
    (hZ : ∀ i, Z i = 0) (n : Fin 4096) (f : Fin D) : maximumf X Z (ix2 n f) = max (A n f) 0 := by
  show max (X (ix2 n f)) (Z (ix2 n f)) = _
  rw [hX, hZ]

/-- The positive part of an array of real numbers. -/
theorem relu_apply {D : ℕ} (A : Fin 4096 → Fin D → ℝ) (X Z : FVec Ideal (Sh2 4096 D) .f32) (hX : ∀ n f, X (ix2 n f) = (A n f : EReal))
    (hZ : ∀ i, Z i = 0) (n : Fin 4096) (f : Fin D) : maximumf X Z (ix2 n f) = (relu A n f : EReal) := by
  show max (X (ix2 n f)) (Z (ix2 n f)) = _
  rw [hX, hZ, relu_coe]

end Cert.Graph
-- ==== Proof.RefRead.lean ====
/-
  The reference's intermediate arrays up to the masked classifier, read at an index as the model's numbers.
-/
module

public import proofs.«01_k».proof.Proof.Layer
public import proofs.«01_k».proof.Proof.Gen.ReferenceIdeal.Run

@[expose] public section

set_option maxRecDepth 16384

noncomputable section

namespace Cert.ReferenceIdeal.Reading

open Idealize.ShloMosaic Idealize.ShloMosaic.TcCoe
open Cert.ReferenceIdeal Cert.ReferenceIdeal.Gen Cert.ReferenceIdeal.Value Cert.Read Cert.Graph

variable {M : Model} {V : Valuation τ sig (Elt Ideal)}

/-- The argument arrays of the reference hold the model. -/
abbrev Args (M : Model) (V : Valuation τ sig (Elt Ideal)) : Prop :=
  Holds M (V main_arg0) (V main_arg1) (V main_arg2) (V main_arg3) (V main_arg4) (V main_arg5) (V main_arg6) (V main_arg7)

variable (R : Args M V)
include R

theorem src_apply (e : Fin 131072) : BitVec.toNat (w := 32) (res_main_v1 V (ix1 e)) = (M.src e).val := by
  rw [← R.src e]
  refine congrArg BitVec.toNat ?_
  show shapeCast S131072 (extractStridedSlice S1x131072 ![0, 0] (V main_arg1) _) _ (ix1 e) = _
  pointwise

theorem dst_apply (e : Fin 131072) : BitVec.toNat (w := 32) (res_main_v3 V (ix1 e)) = (M.dst e).val := by
  rw [← R.dst e]
  refine congrArg BitVec.toNat ?_
  show shapeCast S131072 (extractStridedSlice S1x131072 ![1, 0] (V main_arg1) _) _ (ix1 e) = _
  pointwise

/-- The wrapped column of start nodes. -/
theorem srcCol_apply (e : Fin 131072) : BitVec.toNat (w := 32) (broadcastInDim S131072x1 ![0] bcast_S131072_S131072x1_0 (select (cmpi .slt (res_main_v1 V) (broadcastInDim S131072 ![] bcast_S_S131072 (constantI S_ 32 0#32))) (addi (res_main_v1 V) (broadcastInDim S131072 ![] bcast_S_S131072 (constantI S_ 32 4096#32))) (res_main_v1 V)) (ix2 e (0 : Fin 1)))
    = (M.src e).val := by
  exact (congrArg BitVec.toNat (column_apply (res_main_v1 V) _ _ (fun _ => rfl) _ e (by rw [src_apply R]; exact (M.src e).isLt))).trans
    (src_apply R e)

/-- The wrapped column of end nodes. -/
theorem dstCol_apply (e : Fin 131072) : BitVec.toNat (w := 32) (broadcastInDim S131072x1 ![0] bcast_S131072_S131072x1_0 (select (cmpi .slt (res_main_v3 V) (broadcastInDim S131072 ![] bcast_S_S131072 (constantI S_ 32 0#32))) (addi (res_main_v3 V) (broadcastInDim S131072 ![] bcast_S_S131072 (constantI S_ 32 4096#32))) (res_main_v3 V)) (ix2 e (0 : Fin 1)))
    = (M.dst e).val := by
  exact (congrArg BitVec.toNat (column_apply (res_main_v3 V) _ _ (fun _ => rfl) _ e (by rw [dst_apply R]; exact (M.dst e).isLt))).trans
    (dst_apply R e)

theorem dstPlain_apply (e : Fin 131072) : BitVec.toNat (w := 32) (broadcastInDim S131072x1 ![0] bcast_S131072_S131072x1_0 (res_main_v3 V) (ix2 e (0 : Fin 1)))
    = (M.dst e).val := by
  rw [col_apply (res_main_v3 V)]
  exact dst_apply R e

omit R in
theorem zeros {s : Shape} (h : S_.BroadcastsInDim s ![]) (i : s.Idx) :
    broadcastInDim s ![] h (constant (F := Ideal) S_ .f32 0x00000000#32) i = 0 := Ideal.ofBits_zero_f32

omit R in
theorem ones {s : Shape} (h : S_.BroadcastsInDim s ![]) (i : s.Idx) :
    broadcastInDim s ![] h (constant (F := Ideal) S_ .f32 0x3F800000#32) i = 1 := Ideal.ofBits_one_f32

/-- A convolution of the reference whose messages are the product's rows times edge weights. -/
theorem conv_apply {D k : ℕ} (w : Fin 131072 → ℝ) (A : Fin 4096 → Fin k → ℝ) (W : Fin k → Fin D → EReal)
    (d : ScatterDims (Sh2 4096 D) (Sh2 131072 1) (Sh2 131072 D)) (huw : d.updateWindowDims = [1])
    (hiw : d.insertedWindowDims = [0]) (hsd : d.scatterDimsToOperandDims = [0]) (hivd : d.indexVectorDim = 1)
    (hz : S_.BroadcastsInDim (Sh2 4096 D) ![]) (hb : (Sh2 4096 1).BroadcastsInDim (Sh2 4096 D) ![0, 1])
    (U : FVec Ideal (Sh2 131072 D) .f32) (XW : FVec Ideal (Sh2 4096 D) .f32)
    (hU : ∀ e f, U (ix2 e f) = XW (ix2 (M.src e) f) * (w e : EReal)) (hXW : ∀ n f, XW (ix2 n f) = prod A W n f)
    (n : Fin 4096) (f : Fin D) :
    addf (Host.divf (Host.scatterAdd d (broadcastInDim (Sh2 4096 D) ![] hz (constant S_ .f32 0x00000000#32)) (broadcastInDim S131072x1 ![0] bcast_S131072_S131072x1_0 (res_main_v3 V)) U)
      (broadcastInDim (Sh2 4096 D) ![0, 1] hb (maximumf (broadcastInDim S4096x1 ![] bcast_S_S4096x1 (id (constant S_ .f32 0x3F800000#32))) (Host.scatterAdd scatter_S4096x1_S131072x1_S131072x1_1_0_0_1 (broadcastInDim S4096x1 ![] bcast_S_S4096x1 (constant S_ .f32 0x00000000#32)) (broadcastInDim S131072x1 ![0] bcast_S131072_S131072x1_0 (res_main_v3 V)) (broadcastInDim S131072x1 ![] bcast_S_S131072x1 (constant S_ .f32 0x3F800000#32))))))
      XW (ix2 n f) = M.conv w A W n f :=
  layer_apply M.toEdges w A W d huw hiw hsd hivd _ rfl rfl rfl rfl _ (zeros hz) _ (zeros _) _ (ones _) _ (ones _) _ (dstPlain_apply R) hb U XW n f
    (fun e => by rw [hU, hXW]) (hXW n f)

/-- The rows that a take of the reference reads. -/
theorem rows_of {D : ℕ} (g : GatherDims (Sh2 4096 D) (Sh2 131072 1) (Sh2 131072 D)) (hoff : g.offsetDims = [1])
    (hcoll : g.collapsedSliceDims = [0]) (hob : g.operandBatchingDims = []) (hsim : g.startIndexMap = [0])
    (hivd : g.indexVectorDim = 1) (X : FVec Ideal (Sh2 4096 D) .f32) (I : IVec (Sh2 131072 1) 32)
    (hI : ∀ e : Fin 131072, (I (ix2 e (0 : Fin 1))).toNat = (M.src e).val)
    (hb : (Sh1 131072).BroadcastsInDim (Sh2 131072 D) ![0]) (nan : FVec Ideal (Sh2 131072 D) .f32) (e : Fin 131072) (f : Fin D) :
    select (broadcastInDim (Sh2 131072 D) ![0] hb (Host.reduce IntOp.andi (andi (cmpi .sge I (broadcastInDim S131072x1 ![] bcast_S_S131072x1 (constantI S_ 32 0#32))) (cmpi .sle I (broadcastInDim S131072x1 ![0, 1] bcast_S1x1_S131072x1_0_1 (broadcastInDim S1x1 ![1] bcast_S1_S1x1_1 (constantI S1 32 4095#32))))) (constantI S_ 1 1#1) reducesTo_S131072x1_S131072_d1 h_S_))
      (Host.gather g X I) nan (ix2 e f) = X (ix2 (M.src e) f) :=
  take_apply g hoff hcoll hob hsim hivd X I _ _ (fun e => by rw [hI]; exact (M.src e).isLt) (fun _ => rfl) (fun _ => rfl) _ _ _ (fun _ => rfl) hb nan e f
    (M.src e) (hI e)

omit R in
/-- The product of the features with a weight matrix of the first layers. -/
theorem dot128_apply {A : Fin 4096 → Fin 128 → ℝ} {W : Fin 128 → Fin 64 → EReal} (X : FVec Ideal S4096x128 .f32) (Y : FVec Ideal S128x64 .f32)
    (hX : ∀ n l, X (ix2 n l) = (A n l : EReal)) (hY : ∀ l f, Y (ix2 l f) = W l f) (n : Fin 4096) (f : Fin 64) :
    Host.dotGeneral dot_S4096x128_S128x64_S4096x64_1_0_0_1_n_n none X Y (ix2 n f) = prod A W n f := by
  unfold prod
  simp only [← hX, ← hY]
  pointwise [dot_S4096x128_S128x64_S4096x64_1_0_0_1_n_n]

omit R in
/-- The product with the classifier's second weight matrix. -/
theorem dot64_apply {A : Fin 4096 → Fin 64 → ℝ} {W : Fin 64 → Fin 64 → EReal} (X : FVec Ideal S4096x64 .f32) (Y : FVec Ideal S64x64 .f32)
    (hX : ∀ n l, X (ix2 n l) = (A n l : EReal)) (hY : ∀ l f, Y (ix2 l f) = W l f) (n : Fin 4096) (f : Fin 64) :
    Host.dotGeneral dot_S4096x64_S64x64_S4096x64_1_0_0_1_n_n none X Y (ix2 n f) = prod A W n f := by
  unfold prod
  simp only [← hX, ← hY]
  pointwise [dot_S4096x64_S64x64_S4096x64_1_0_0_1_n_n]

omit R in
/-- The product with a weight matrix of the latent variable. -/
theorem dot16_apply {A : Fin 4096 → Fin 64 → ℝ} {W : Fin 64 → Fin 16 → EReal} (X : FVec Ideal S4096x64 .f32) (Y : FVec Ideal S64x16 .f32)
    (hX : ∀ n l, X (ix2 n l) = (A n l : EReal)) (hY : ∀ l f, Y (ix2 l f) = W l f) (n : Fin 4096) (f : Fin 16) :
    Host.dotGeneral dot_S4096x64_S64x16_S4096x16_1_0_0_1_n_n none X Y (ix2 n f) = prod A W n f := by
  unfold prod
  simp only [← hX, ← hY]
  pointwise [dot_S4096x64_S64x16_S4096x16_1_0_0_1_n_n]

omit R in
/-- An array that holds real numbers index by index. -/
theorem arr_ext {n k : ℕ} {X Y : FVec Ideal (Sh2 n k) .f32} (h : ∀ i j, X (ix2 i j) = Y (ix2 i j)) : X = Y := by
  funext i
  rw [eq_ix2 i]
  exact h _ _

theorem v4_apply (n : Fin 4096) (f : Fin 64) : res_main_v4 V (ix2 n f) = prod M.x (lift M.wc1) n f :=
  dot128_apply _ _ R.x R.wc1 n f

theorem v18_apply (n : Fin 4096) (f : Fin 64) : res_main_v18 V (ix2 n f) = prod M.c1 M.wc2 n f :=
  dot64_apply _ _ (relu_apply _ _ _ (fun n f => (conv_apply R (fun _ => 1) M.x (lift M.wc1) _ rfl rfl rfl rfl _ _ _ _
    (fun e f => (rows_of R _ rfl rfl rfl rfl rfl _ _ (srcCol_apply R) _ _ e f).trans (mul_one _).symm) (v4_apply R) n f).trans (M.conv_lift _ _ _ n f))
    (zeros _)) R.wc2 n f

/-- The mean over the nodes of an array, times the output weights. -/
def head (X : FVec Ideal S4096x64 .f32) (W : FVec Ideal S64x2 .f32) : FVec Ideal S1x2 .f32 :=
  Host.dotGeneral dot_S1x64_S64x2_S1x2_1_0_0_1_n_n none (Host.divf (broadcastInDim S1x64 ![1] bcast_S64_S1x64_1 (Host.reduceAdd X (constant S_ .f32 0x00000000#32) reducesTo_S4096x64_S64_d0 h_S_)) (broadcastInDim S1x64 ![] bcast_S_S1x64 (constant S_ .f32 0x45800000#32))) W

omit R in
/-- The output layer of an array read at its indices. -/
theorem head_congr {A : Fin 4096 → Fin 64 → EReal} (X : FVec Ideal S4096x64 .f32) (W : FVec Ideal S64x2 .f32) (hX : ∀ n l, X (ix2 n l) = A n l) :
    head X W = head (fun i => A (i 0) (i 1)) W :=
  congrArg (head · W) (arr_ext hX)

/-- The classifier's logits. -/
theorem v36_eq : res_main_v36 V = head (fun i => M.c2 (i 0) (i 1)) (V main_arg8) :=
  head_congr _ _ (pos_apply _ _ _ (conv_apply R (fun _ => 1) M.c1 M.wc2 _ rfl rfl rfl rfl _ _ _ _
    (fun e f => (rows_of R _ rfl rfl rfl rfl rfl _ _ (srcCol_apply R) _ _ e f).trans (mul_one _).symm) (v18_apply R)) (zeros _))

theorem v37_apply (n : Fin 4096) (f : Fin 64) : res_main_v37 V (ix2 n f) = prod M.x (lift M.w1) n f :=
  dot128_apply _ _ R.x R.w1 n f

theorem v50_apply (n : Fin 4096) (f : Fin 64) : res_main_v50 V (ix2 n f) = (M.h n f : EReal) :=
  relu_apply _ _ _ (fun n f => (conv_apply R (fun _ => 1) M.x (lift M.w1) _ rfl rfl rfl rfl _ _ _ _
    (fun e f => (rows_of R _ rfl rfl rfl rfl rfl _ _ (srcCol_apply R) _ _ e f).trans (mul_one _).symm) (v37_apply R) n f).trans (M.conv_lift _ _ _ n f))
    (zeros _) n f

theorem v63_apply (n : Fin 4096) (f : Fin 16) : res_main_v63 V (ix2 n f) = M.mu n f :=
  conv_apply R (fun _ => 1) M.h M.wmu _ rfl rfl rfl rfl _ _ _ _
    (fun e f => (rows_of R _ rfl rfl rfl rfl rfl _ _ (srcCol_apply R) _ _ e f).trans (mul_one _).symm)
    (dot16_apply _ _ (v50_apply R) R.wmu) n f

theorem v76_apply (n : Fin 4096) (f : Fin 16) : res_main_v76 V (ix2 n f) = M.lv n f :=
  conv_apply R (fun _ => 1) M.h M.wlv _ rfl rfl rfl rfl _ _ _ _
    (fun e f => (rows_of R _ rfl rfl rfl rfl rfl _ _ (srcCol_apply R) _ _ e f).trans (mul_one _).symm)
    (dot16_apply _ _ (v50_apply R) R.wlv) n f

omit R in
/-- The latent variable from its mean and its log variance. -/
theorem latent_apply (m l e : FVec Ideal S4096x16 .f32) (i : S4096x16.Idx) :
    addf m (mulf (Host.exp (mulf (broadcastInDim S4096x16 ![] bcast_S_S4096x16 (constant S_ .f32 0x3F000000#32)) l)) e) i
      = m i + Ideal.exp (Ideal.ofBits .f32 0x3F000000#32 * l i) * e i := rfl

theorem v81_apply (n : Fin 4096) (f : Fin 16) : res_main_v81 V (ix2 n f) = M.z n f := by
  refine (latent_apply _ _ _ _).trans ?_
  rw [v63_apply R, v76_apply R]
  exact congrArg _ (congrArg _ (R.eps n f))

/-- The latent variable with the dimensions after the eighth zeroed. -/
theorem v85_apply (n : Fin 4096) (f : Fin 16) : res_main_v85 V (ix2 n f) = if f.val < 8 then M.z n f else 0 := by
  have hl := fun (e : Fin 4096) (f' : Fin 8) (c : Fin 16) => block_lands scatter_S4096x16_S1_S4096x8_01_n_1_0 rfl rfl rfl rfl
    (broadcastInDim S1 ![] bcast_S_S1 (constantI S_ 32 0#32)) (fun _ => rfl) e f' n c
  split
  · next h =>
    refine Routing.scatter_set_hit _ _ _ _ _ _ (fun k hk => ?_) (ix2 n (⟨f.val, h⟩ : Fin 8)) ((hl n ⟨f.val, h⟩ f).2 ⟨rfl, rfl⟩)
    obtain ⟨e, f', rfl⟩ : ∃ (e : Fin 4096) (f' : Fin 8), k = ix2 e f' := ⟨k 0, k 1, eq_ix2 k⟩
    obtain ⟨rfl, hf⟩ := (hl e f' f).1 hk
    rw [← v81_apply R]
    obtain rfl : f = f'.castLE (by norm_num) := Fin.ext hf.symm
    generalize res_main_v81 V = X
    show extractStridedSlice S4096x8 ![0, 0] (X : FVec Ideal S4096x16 .f32) _ (ix2 e f') = (X : FVec Ideal S4096x16 .f32) _
    refine congrArg X (funext fun a => Fin.ext ?_)
    match a with
    | ⟨0, _⟩ => exact Nat.zero_add _
    | ⟨1, _⟩ => exact Nat.zero_add _
  · next h =>
    refine (Routing.scatter_set_miss _ _ _ _ _ fun k hk => ?_).trans (zeros _ _)
    obtain ⟨e, f', rfl⟩ : ∃ (e : Fin 4096) (f' : Fin 8), k = ix2 e f' := ⟨k 0, k 1, eq_ix2 k⟩
    have := ((hl e f' f).1 hk).2
    omega

omit R in
/-- The logistic function of the inner products of the rows of an array. -/
theorem gram_apply (X : FVec Ideal S4096x16 .f32) (a b : Fin 4096) :
    Host.divf (broadcastInDim S4096x4096 ![] bcast_S_S4096x4096 (constant S_ .f32 0x3F800000#32)) (addf (broadcastInDim S4096x4096 ![] bcast_S_S4096x4096 (constant S_ .f32 0x3F800000#32)) (Host.exp (Host.negf (Host.dotGeneral dot_S4096x16_S16x4096_S4096x4096_1_0_0_1_n_n none X (transpose S16x4096 [1, 0] X transposes_S4096x16_S16x4096_1_0))))) (ix2 a b)
      = Ideal.logistic (∑ k : Fin 16, X (ix2 a k) * X (ix2 b k)) := by
  have hdot : Host.dotGeneral dot_S4096x16_S16x4096_S4096x4096_1_0_0_1_n_n none X (transpose S16x4096 [1, 0] X transposes_S4096x16_S16x4096_1_0) (ix2 a b)
      = ∑ k : Fin 16, X (ix2 a k) * X (ix2 b k) := by
    pointwise [dot_S4096x16_S16x4096_S4096x4096_1_0_0_1_n_n]
  show Ideal.div (Ideal.ofBits .f32 0x3F800000#32) (Ideal.ofBits .f32 0x3F800000#32 + Ideal.exp (-(Host.dotGeneral dot_S4096x16_S16x4096_S4096x4096_1_0_0_1_n_n none X
    (transpose S16x4096 [1, 0] X transposes_S4096x16_S16x4096_1_0) (ix2 a b)))) = _
  rw [hdot, Ideal.ofBits_one_f32]
  rfl

/-- The scores of the causal dimensions. -/
theorem v93_apply (a b : Fin 4096) : res_main_v93 V (ix2 a b) = Ideal.logistic (M.score a b) := by
  refine (gram_apply _ a b).trans (congrArg Ideal.logistic ?_)
  simp only [v85_apply R]
  exact M.score_eq a b

/-- The recovered adjacency. -/
theorem v101_apply (a b : Fin 4096) : res_main_v101 V (ix2 a b) = Ideal.logistic (∑ k : Fin 16, M.z a k * M.z b k) := by
  refine (gram_apply _ a b).trans (congrArg Ideal.logistic ?_)
  simp only [v81_apply R]

/-- The attention of an edge. -/
theorem v152_apply (e : Fin 131072) : res_main_v152 V (ix2 e (0 : Fin 1)) = M.attn e := by
  refine (col_apply _ _ e).trans ((pair_gather _ rfl rfl rfl rfl rfl rfl rfl _ _ e (M.src e) (M.dst e) ?_ ?_).trans (v93_apply R _ _))
  · rw [pairs_fst, toInt_small (by rw [srcCol_apply R]; exact (M.src e).isLt), srcCol_apply R]
  · rw [pairs_snd, toInt_small (by rw [dstCol_apply R]; exact (M.dst e).isLt), dstCol_apply R]

theorem v153_apply (n : Fin 4096) (f : Fin 64) : res_main_v153 V (ix2 n f) = prod M.x (lift M.wc1) n f :=
  dot128_apply _ _ R.x R.wc1 n f

theorem v169_apply (n : Fin 4096) (f : Fin 64) : res_main_v169 V (ix2 n f) = prod M.g1 M.wc2 n f := by
  refine dot64_apply _ _ (fun n f => ?_) R.wc2 n f
  refine relu_apply (M.convR M.attnR M.x M.wc1) _ _ (fun n f => ?_) (zeros _) n f
  refine (conv_apply R M.attnR M.x (lift M.wc1) _ rfl rfl rfl rfl _ _ _ _ (fun e f => ?_) (v153_apply R) n f).trans (M.conv_lift _ _ _ n f)
  exact congrArg₂ (· * ·) (rows_of R _ rfl rfl rfl rfl rfl _ _ (srcCol_apply R) _ _ e f)
      ((spread_apply _ _ e f).trans ((v152_apply R e).trans (M.attnR_coe e)))

/-- The masked classifier's logits. -/
theorem v189_eq : res_main_v189 V = head (fun i => M.g2 (i 0) (i 1)) (V main_arg8) :=
  head_congr _ _ (pos_apply _ _ _ (conv_apply R M.attnR M.g1 M.wc2 _ rfl rfl rfl rfl _ _ _ _
    (fun e f => congrArg₂ (· * ·) (rows_of R _ rfl rfl rfl rfl rfl _ _ (srcCol_apply R) _ _ e f)
      ((spread_apply _ _ e f).trans ((v152_apply R e).trans (M.attnR_coe e)))) (v169_apply R)) (zeros _))

end Cert.ReferenceIdeal.Reading
-- ==== Proof.RefLoss.lean ====
/-
  The loss of the reference: the adjacency it sets, the sums over all pairs of
  nodes, and the loss as it is made of them.
-/
module

public import proofs.«01_k».proof.Proof.RefRead
public import proofs.«01_k».proof.Proof.Loss

@[expose] public section

set_option maxRecDepth 16384

noncomputable section

namespace Cert.ReferenceIdeal.Reading

open Idealize.ShloMosaic Idealize.ShloMosaic.TcCoe Idealize.ShloMosaic.Tactic
open Cert.ReferenceIdeal Cert.ReferenceIdeal.Gen Cert.ReferenceIdeal.Value Cert.Read Cert.Graph

set_option maxHeartbeats 1000000

open Classical in
/-- Ones set at pairs of nodes: one where a pair lands, the operand elsewhere. -/
theorem set_ones {n : ℕ} (d : ScatterDims (Sh2 4096 4096) (Sh2 n 2) (Sh1 n)) (huw : d.updateWindowDims = [])
    (hiw : d.insertedWindowDims = [0, 1]) (hsd : d.scatterDimsToOperandDims = [0, 1]) (hivd : d.indexVectorDim = 1)
    (x : FVec Ideal (Sh2 4096 4096) .f32) (idx : IVec (Sh2 n 2) 32) (upd : FVec Ideal (Sh1 n) .f32) (hu : ∀ i, upd i = (1 : EReal))
    (p q : Fin n → Fin 4096) (hp : ∀ e, (idx (ix2 e (0 : Fin 2))).toInt = (p e).val) (hq : ∀ e, (idx (ix2 e (1 : Fin 2))).toInt = (q e).val) (a b : Fin 4096) :
    Host.scatter d (fun _ b => b) x idx upd (ix2 a b) = if ∃ e, p e = a ∧ q e = b then (1 : EReal) else x (ix2 a b) := by
  by_cases h : ∃ e, p e = a ∧ q e = b
  · rw [if_pos h]
    obtain ⟨e, rfl, rfl⟩ := h
    exact Routing.scatter_set_hit d x idx upd _ _ (fun k _ => hu k) (ix1 e) ((pair_lands d huw hiw hsd hivd idx e _ _).mpr ⟨hp e, hq e⟩)
  · rw [if_neg h]
    refine Routing.scatter_set_miss d x idx upd _ fun i hi => h ?_
    obtain ⟨e, rfl⟩ : ∃ e : Fin n, i = ix1 e := ⟨i 0, (ix1_eta i).symm⟩
    obtain ⟨h0, h1⟩ := (pair_lands d huw hiw hsd hivd idx e a b).mp hi
    rw [hp] at h0
    rw [hq] at h1
    exact ⟨e, Fin.ext (by omega), Fin.ext (by omega)⟩

/-- The identity matrix, as the reference makes it. -/
def eye : FVec Ideal S4096x4096 .f32 :=
  uitofp .f32 (cmpi .eq (addi (iotaInDim S4096x4096 32 0) (broadcastInDim S4096x4096 ![] bcast_S_S4096x4096 (constantI S_ 32 0#32))) (iotaInDim S4096x4096 32 1))

/-- It is one on the diagonal and zero off it. -/
theorem eye_apply (a b : Fin 4096) : eye (ix2 a b) = if a = b then (1 : EReal) else 0 := by
  have h : eye (ix2 a b) = FloatOps.uitofp (F := Ideal) .f32 (IntOp.cmpi .eq (IntOp.addi (BitVec.ofNat 32 a.val) 0#32) (BitVec.ofNat 32 b.val)) := by
    pointwise [eye]
  have hb : IntOp.cmpi .eq (IntOp.addi (BitVec.ofNat 32 a.val) 0#32) (BitVec.ofNat 32 b.val) = if a = b then 1#1 else 0#1 := by
    have hab : IntOp.addi (BitVec.ofNat 32 a.val) 0#32 = BitVec.ofNat 32 b.val ↔ a = b := by
      constructor
      · intro e
        have := congrArg BitVec.toNat e
        simp [IntOp.addi] at this
        exact Fin.ext (by omega)
      · rintro rfl
        simp [IntOp.addi]
    by_cases e : a = b
    · rw [if_pos e]
      exact (StableHlo.Predicate.ofBool_eq_one_iff _).mpr (beq_iff_eq.mpr (hab.mpr e))
    · rw [if_neg e]
      show BitVec.ofBool (_ == _) = 0#1
      rw [beq_eq_false_iff_ne.mpr (mt hab.mp e)]
      rfl
  rw [h, hb]
  split
  · show (((1#1 : BitVec 1).toNat : ℝ) : EReal) = 1
    simp
  · show (((0#1 : BitVec 1).toNat : ℝ) : EReal) = 0
    simp

section Reads
variable {M : Model} {V : Valuation τ sig (Elt Ideal)} (R : Args M V)
include R

/-- An index column read as a signed number. -/
theorem srcCol_int (e : Fin 131072) : (broadcastInDim S131072x1 ![0] bcast_S131072_S131072x1_0 (select (cmpi .slt (res_main_v1 V) (broadcastInDim S131072 ![] bcast_S_S131072 (constantI S_ 32 0#32))) (addi (res_main_v1 V) (broadcastInDim S131072 ![] bcast_S_S131072 (constantI S_ 32 4096#32))) (res_main_v1 V)) (ix2 e (0 : Fin 1)) : BitVec 32).toInt = (M.src e).val :=
  (toInt_small (lt_of_eq_of_lt (srcCol_apply R e) (M.src e).isLt)).trans (congrArg Int.ofNat (srcCol_apply R e))

theorem dstCol_int (e : Fin 131072) : (broadcastInDim S131072x1 ![0] bcast_S131072_S131072x1_0 (select (cmpi .slt (res_main_v3 V) (broadcastInDim S131072 ![] bcast_S_S131072 (constantI S_ 32 0#32))) (addi (res_main_v3 V) (broadcastInDim S131072 ![] bcast_S_S131072 (constantI S_ 32 4096#32))) (res_main_v3 V)) (ix2 e (0 : Fin 1)) : BitVec 32).toInt = (M.dst e).val :=
  (toInt_small (lt_of_eq_of_lt (dstCol_apply R e) (M.dst e).isLt)).trans (congrArg Int.ofNat (dstCol_apply R e))

open Classical in
/-- The adjacency: one where the nodes are the same or an edge joins them, zero elsewhere. -/
theorem v137_apply (a b : Fin 4096) : res_main_v137 V (ix2 a b) = if M.adj a b then (1 : EReal) else 0 := by
  unfold res_main_v137
  refine (set_ones _ rfl rfl rfl rfl _ _ _ (fun _ => Ideal.ofBits_one_f32) M.dst M.src
    (fun e => (congrArg BitVec.toInt (pairs_fst _ _ _ e)).trans (dstCol_int R e)) (fun e => (congrArg BitVec.toInt (pairs_snd _ _ _ e)).trans (srcCol_int R e)) a b).trans ?_
  refine (if_congr Iff.rfl rfl ((set_ones _ rfl rfl rfl rfl _ _ _ (fun _ => Ideal.ofBits_one_f32) M.src M.dst
    (fun e => (congrArg BitVec.toInt (pairs_fst _ _ _ e)).trans (srcCol_int R e)) (fun e => (congrArg BitVec.toInt (pairs_snd _ _ _ e)).trans (dstCol_int R e)) a b).trans
      (if_congr Iff.rfl rfl (eye_apply a b)))).trans ?_
  unfold Model.adj
  by_cases h1 : ∃ e, M.dst e = a ∧ M.src e = b
  · rw [if_pos h1, if_pos (.inl (.inr h1))]
  · rw [if_neg h1]
    by_cases h2 : ∃ e, M.src e = a ∧ M.dst e = b
    · rw [if_pos h2, if_pos (.inl (.inl h2))]
    · rw [if_neg h2]
      by_cases h3 : a = b
      · rw [if_pos h3, if_pos (.inr h3)]
      · rw [if_neg h3, if_neg (by rintro ((h | h) | h) <;> contradiction)]

end Reads

/-! ## The loss as it is made -/

/-- The logits less the greatest of them. -/
def shifted (X : FVec Ideal S1x2 .f32) : FVec Ideal S1x2 .f32 :=
  subf X (broadcastInDim S1x2 ![0, 1] bcast_S1x1_S1x2_0_1 (broadcastInDim S1x1 ![0] bcast_S1_S1x1_0
    (maximumf (broadcastInDim S1 ![] bcast_S_S1 (constant S_ .f32 0xFF800000#32))
      (Host.reduce FloatOps.maximumf X (constant S_ .f32 0xFF800000#32) reducesTo_S1x2_S1_d1 h_S_))))

/-- The sum of the exponentials. -/
def expSum (X : FVec Ideal S1x2 .f32) : FVec Ideal S1x1 .f32 :=
  broadcastInDim S1x1 ![0] bcast_S1_S1x1_0 (Host.reduceAdd (Host.exp (shifted X)) (constant S_ .f32 0x00000000#32) reducesTo_S1x2_S1_d1 h_S_)

/-- The class probabilities. -/
def softmax (X : FVec Ideal S1x2 .f32) : FVec Ideal S1x2 .f32 :=
  Host.divf (Host.exp (shifted X)) (broadcastInDim S1x2 ![0, 1] bcast_S1x1_S1x2_0_1 (expSum X))

/-- The Kullback-Leibler term of the logits of `Y` from those of `X`. -/
def kl (X Y : FVec Ideal S1x2 .f32) : FVec Ideal S_ .f32 :=
  Host.divf (mulf (constant S_ .f32 0x3F800000#32) (Host.reduceAdd
    (mulf (softmax X) (subf (Host.log (addf (softmax X) (broadcastInDim S1x2 ![] bcast_S_S1x2 (constant S_ .f32 0x2B8CBCCC#32))))
      (subf (shifted Y) (broadcastInDim S1x2 ![0, 1] bcast_S1x1_S1x2_0_1 (Host.log (expSum Y))))))
    (constant S_ .f32 0x00000000#32) reducesTo_S1x2_S_d0_1 h_S_)) (constant S_ .f32 0x3F800000#32)

/-- The size term from the masked adjacency `A`. -/
def scaledSize (A : FVec Ideal S4096x4096 .f32) : FVec Ideal S_ .f32 :=
  mulf (constant S_ .f32 0x38D1B717#32) (Host.divf (Host.reduceAdd A (constant S_ .f32 0x00000000#32) reducesTo_S4096x4096_S_d0_1 h_S_) (constant S_ .f32 0x4B800000#32))

/-- The cross entropy of the decoded adjacency `D` against the adjacency `A`, with its sign. -/
def crossOf (A D : FVec Ideal S4096x4096 .f32) : FVec Ideal S_ .f32 :=
  Host.negf (Host.divf (Host.reduceAdd (addf (mulf A (Host.log (addf D (broadcastInDim S4096x4096 ![] bcast_S_S4096x4096 (constant S_ .f32 0x322BCC77#32)))))
    (mulf (subf (broadcastInDim S4096x4096 ![] bcast_S_S4096x4096 (constant S_ .f32 0x3F800000#32)) A)
      (Host.log (addf (subf (broadcastInDim S4096x4096 ![] bcast_S_S4096x4096 (constant S_ .f32 0x3F800000#32)) D) (broadcastInDim S4096x4096 ![] bcast_S_S4096x4096 (constant S_ .f32 0x322BCC77#32))))))
    (constant S_ .f32 0x00000000#32) reducesTo_S4096x4096_S_d0_1 h_S_) (constant S_ .f32 0x4B800000#32))

/-- The divergence of the latent means `mu` and logarithms `lv` of the variances. -/
def divOf (mu lv : FVec Ideal S4096x16 .f32) : FVec Ideal S_ .f32 :=
  mulf (constant S_ .f32 0xB9000000#32) (Host.reduceAdd (subf (subf (addf (broadcastInDim S4096x16 ![] bcast_S_S4096x16 (constant S_ .f32 0x3F800000#32)) lv) (mulf mu mu)) (Host.exp lv))
    (constant S_ .f32 0x00000000#32) reducesTo_S4096x16_S_d0_1 h_S_)

theorem scaledSize_apply (A : FVec Ideal S4096x4096 .f32) : scaledSize A ix0
    = Ideal.ofBits .f32 0x38D1B717#32 * Ideal.div (∑ a : Fin 4096, ∑ b : Fin 4096, at2 A a b) (Ideal.ofBits .f32 0x4B800000#32) := by
  pointwise [scaledSize]

theorem crossOf_apply (A D : FVec Ideal S4096x4096 .f32) : crossOf A D ix0
    = -Ideal.div (∑ a : Fin 4096, ∑ b : Fin 4096, (at2 A a b * Ideal.log (at2 D a b + tiny) + (1 - at2 A a b) * Ideal.log ((1 - at2 D a b) + tiny))) (Ideal.ofBits .f32 0x4B800000#32) := by
  pointwise [crossOf]
  rfl

theorem divOf_apply (mu lv : FVec Ideal S4096x16 .f32) : divOf mu lv ix0
    = Ideal.ofBits .f32 0xB9000000#32 * ∑ a : Fin 4096, ∑ j : Fin 16, (((1 + at2 lv a j) - at2 mu a j * at2 mu a j) - Ideal.exp (at2 lv a j)) := by
  pointwise [divOf]

section Final
variable {M : Model} {V : Valuation τ sig (Elt Ideal)} (R : Args M V)
include R

/-- The sum of the masked adjacency. -/
theorem size_sum : ∑ a : Fin 4096, ∑ b : Fin 4096, at2 (res_main_v93 V) a b = M.sizeSum :=
  Finset.sum_congr rfl fun a _ => Finset.sum_congr rfl fun b _ => v93_apply R a b

/-- The sum of the cross entropies. -/
theorem cross_sum : ∑ a : Fin 4096, ∑ b : Fin 4096, (at2 (res_main_v137 V) a b * Ideal.log (at2 (res_main_v101 V) a b + tiny)
    + (1 - at2 (res_main_v137 V) a b) * Ideal.log ((1 - at2 (res_main_v101 V) a b) + tiny)) = M.crossSum := by
  refine Finset.sum_congr rfl fun a _ => Finset.sum_congr rfl fun b _ => ?_
  refine Eq.trans ?_ (M.term_weighted a b _ (v137_apply R a b))
  rw [show at2 (res_main_v101 V) a b = _ from v101_apply R a b]
  rfl

/-- The sum of the divergences. -/
theorem div_sum : ∑ a : Fin 4096, ∑ j : Fin 16, (((1 + at2 (res_main_v76 V) a j) - at2 (res_main_v63 V) a j * at2 (res_main_v63 V) a j) - Ideal.exp (at2 (res_main_v76 V) a j)) = M.divSum :=
  Finset.sum_congr rfl fun a _ => Finset.sum_congr rfl fun j _ =>
    congrArg₂ (fun p q : EReal => ((1 + q) - p * p) - Ideal.exp q) (v63_apply R a j) (v76_apply R a j)

/-- The loss of the reference. -/
theorem loss_apply : Eq (α := EReal)
    ((addf (addf (scaledSize (res_main_v93 V)) (kl (res_main_v36 V) (res_main_v189 V))) (mulf (constant S_ .f32 0x3F800000#32) (addf (crossOf (res_main_v137 V) (res_main_v101 V)) (divOf (res_main_v63 V) (res_main_v76 V)))) : FVec Ideal S_ .f32) ix0)
    (M.loss (kl (head (fun i => M.c2 (i 0) (i 1)) (V main_arg8)) (head (fun i => M.g2 (i 0) (i 1)) (V main_arg8)) ix0)) := by
  have hs : scaledSize (res_main_v93 V) ix0 = Ideal.ofBits .f32 0x38D1B717#32 * Ideal.div M.sizeSum (Ideal.ofBits .f32 0x4B800000#32) := by
    rw [scaledSize_apply, size_sum R]
  have hc : crossOf (res_main_v137 V) (res_main_v101 V) ix0 = -Ideal.div M.crossSum (Ideal.ofBits .f32 0x4B800000#32) := by
    rw [crossOf_apply, cross_sum R]
  have hd : divOf (res_main_v63 V) (res_main_v76 V) ix0 = Ideal.ofBits .f32 0xB9000000#32 * M.divSum := by
    rw [divOf_apply, div_sum R]
  rw [v36_eq R, v189_eq R]
  refine Eq.trans ?_ (M.loss_eq _)
  exact congrArg₂ (fun a b : EReal => a + b) (congrArg (fun a : EReal => a + _) hs)
    (congrArg₂ (fun a b : EReal => a * b) Ideal.ofBits_one_f32 (congrArg₂ (fun a b : EReal => a + b) hc hd))

end Final

end Cert.ReferenceIdeal.Reading
-- ==== Proof.Same.lean ====
/-
  The kernel and the reference return the same three results of arguments that hold one model.
-/
module

public import proofs.«01_k».proof.Proof.ChainLoss
public import proofs.«01_k».proof.Proof.RefLoss

@[expose] public section

set_option maxRecDepth 16384

noncomputable section

namespace Cert.Same

open Idealize.ShloMosaic Idealize.ShloMosaic.TcCoe
open Cert.Read Cert.Graph

/-- The output layer of the two programs is one function. -/
theorem head_eq (X : FVec Ideal (Sh2 4096 64) .f32) (W : FVec Ideal (Sh2 64 2) .f32) :
    Eq (α := FVec Ideal (Sh2 1 2) .f32) (Cert.ReferenceIdeal.Reading.head X W) (Cert.KernelIdeal.HostRead.head X W) := rfl

/-- So is the Kullback-Leibler term. -/
theorem kl_eq (X Y : FVec Ideal (Sh2 1 2) .f32) :
    Eq (α := FVec Ideal ⟨0, ![]⟩ .f32) (Cert.ReferenceIdeal.Reading.kl X Y) (Cert.KernelIdeal.HostRead.kl X Y) := rfl

variable {M : Model} {m : (ℓ : Loc Cert.KernelIdeal.nD Cert.KernelIdeal.τ Cert.KernelIdeal.sig) → Buf (Elt Ideal) ℓ} {c : Dev Cert.KernelIdeal.nD}
  {V : Valuation Cert.ReferenceIdeal.τ Cert.ReferenceIdeal.sig (Elt Ideal)}
  (R : Cert.KernelIdeal.Chain.Args M m c) (R' : Cert.ReferenceIdeal.Reading.Args M V)

/-- Arguments equal to ones that hold a model hold it. -/
theorem args_of_eq {M : Model} (R : Cert.KernelIdeal.Chain.Args M m c)
    (h0 : Eq (α := FVec Ideal (Sh2 4096 128) .f32) (V Cert.ReferenceIdeal.main_arg0) (Cert.KernelIdeal.Gen.V0 m c Cert.KernelIdeal.main_arg0))
    (h1 : Eq (α := IVec (Sh2 2 131072) 32) (V Cert.ReferenceIdeal.main_arg1) (Cert.KernelIdeal.Gen.V0 m c Cert.KernelIdeal.main_arg1))
    (h2 : Eq (α := FVec Ideal (Sh2 4096 16) .f32) (V Cert.ReferenceIdeal.main_arg2) (Cert.KernelIdeal.Gen.V0 m c Cert.KernelIdeal.main_arg2))
    (h3 : Eq (α := FVec Ideal (Sh2 128 64) .f32) (V Cert.ReferenceIdeal.main_arg3) (Cert.KernelIdeal.Gen.V0 m c Cert.KernelIdeal.main_arg3))
    (h4 : Eq (α := FVec Ideal (Sh2 64 16) .f32) (V Cert.ReferenceIdeal.main_arg4) (Cert.KernelIdeal.Gen.V0 m c Cert.KernelIdeal.main_arg4))
    (h5 : Eq (α := FVec Ideal (Sh2 64 16) .f32) (V Cert.ReferenceIdeal.main_arg5) (Cert.KernelIdeal.Gen.V0 m c Cert.KernelIdeal.main_arg5))
    (h6 : Eq (α := FVec Ideal (Sh2 128 64) .f32) (V Cert.ReferenceIdeal.main_arg6) (Cert.KernelIdeal.Gen.V0 m c Cert.KernelIdeal.main_arg6))
    (h7 : Eq (α := FVec Ideal (Sh2 64 64) .f32) (V Cert.ReferenceIdeal.main_arg7) (Cert.KernelIdeal.Gen.V0 m c Cert.KernelIdeal.main_arg7)) :
    Cert.ReferenceIdeal.Reading.Args M V := by
  unfold Cert.ReferenceIdeal.Reading.Args
  rw [h0, h1, h2, h3, h4, h5, h6, h7]
  exact R

section Heads
variable (ho : Eq (α := FVec Ideal (Sh2 64 2) .f32) (V Cert.ReferenceIdeal.main_arg8) (Cert.KernelIdeal.Gen.V0 m c Cert.KernelIdeal.main_arg8))
include R R' ho

/-- The unmasked logits. -/
theorem logits_eq : Eq (α := FVec Ideal (Sh2 1 2) .f32) (Cert.ReferenceIdeal.Value.res_main_v36 V)
    (Cert.KernelIdeal.Gen.V21 m (Cert.KernelIdeal.Body.outs m) c Cert.KernelIdeal.main_v32) := by
  rw [Cert.ReferenceIdeal.Reading.v36_eq R', Cert.KernelIdeal.Stage.v32_21, Cert.KernelIdeal.Chain.v32_read R, ho]
  exact head_eq _ _

/-- The loss. -/
theorem loss_eq : Eq (α := FVec Ideal ⟨0, ![]⟩ .f32)
    (addf (addf (Cert.ReferenceIdeal.Reading.scaledSize (Cert.ReferenceIdeal.Value.res_main_v93 V))
        (Cert.ReferenceIdeal.Reading.kl (Cert.ReferenceIdeal.Value.res_main_v36 V) (Cert.ReferenceIdeal.Value.res_main_v189 V)))
      (mulf (constant Cert.ReferenceIdeal.S_ .f32 0x3F800000#32)
        (addf (Cert.ReferenceIdeal.Reading.crossOf (Cert.ReferenceIdeal.Value.res_main_v137 V) (Cert.ReferenceIdeal.Value.res_main_v101 V))
          (Cert.ReferenceIdeal.Reading.divOf (Cert.ReferenceIdeal.Value.res_main_v63 V) (Cert.ReferenceIdeal.Value.res_main_v76 V)))))
    (Cert.KernelIdeal.Gen.V21 m (Cert.KernelIdeal.Body.outs m) c Cert.KernelIdeal.main_v128) := by
  funext i
  obtain rfl : i = ix0 := funext fun x => x.elim0
  refine (Cert.ReferenceIdeal.Reading.loss_apply R').trans (Eq.trans ?_ (Cert.KernelIdeal.Chain.v128_read R).symm)
  rw [ho]
  exact congrArg M.loss (congrFun (kl_eq _ _) ix0)

end Heads

include R R' in
/-- The attention of the edges. -/
theorem attn_eq : Eq (α := FVec Ideal (Sh1 131072) .f32) (shapeCast (Sh1 131072) (Cert.ReferenceIdeal.Value.res_main_v152 V) (by decide))
    (Cert.KernelIdeal.Gen.V21 m (Cert.KernelIdeal.Body.outs m) c Cert.KernelIdeal.main_v129) := by
  refine Eq.trans ?_ (Cert.KernelIdeal.Chain.v129_read R).symm
  refine congrArg (fun X => shapeCast (Sh1 131072) X _) (funext fun i => ?_)
  obtain ⟨e, f, rfl⟩ : ∃ (e : Fin 131072) (f : Fin 1), i = ix2 e f := ⟨i 0, i 1, (ix2_eta i).symm⟩
  obtain rfl : f = 0 := Subsingleton.elim _ _
  exact Cert.ReferenceIdeal.Reading.v152_apply R' e

end Cert.Same
-- ==== Proof.lean ====
module

public import proofs.«01_k».proof.Defs
public import proofs.«01_k».proof.Proof.Gen.Kernel
public import proofs.«01_k».proof.Proof.Gen.Kernel.Skeleton
public import proofs.«01_k».proof.Proof.Gen.Kernel.Launch
public import proofs.«01_k».proof.Proof.Gen.Kernel.Regions
public import proofs.«01_k».proof.Proof.Gen.Kernel.Points
public import proofs.«01_k».proof.Proof.Gen.KernelIdeal
public import proofs.«01_k».proof.Proof.Gen.KernelIdeal.Skeleton
public import proofs.«01_k».proof.Proof.Gen.KernelIdeal.Launch
public import proofs.«01_k».proof.Proof.Gen.KernelIdeal.Regions
public import proofs.«01_k».proof.Proof.Gen.KernelIdeal.Points
public import proofs.«01_k».proof.Proof.Gen.ReferenceIdeal
public import proofs.«01_k».proof.Proof.Gen.ReferenceIdeal.Run
public import proofs.«01_k».proof.Proof.RunK
public import proofs.«01_k».proof.Proof.RunI
public import proofs.«01_k».proof.Proof.Precond
public import proofs.«01_k».proof.Proof.Same
public import Idealize.ShloMosaic.Lib.Quiescent
public import Idealize.ShloMosaic.Adequacy
public import Idealize.ShloMosaic.Init

@[expose] public section

set_option maxRecDepth 16384

noncomputable section

namespace Cert.Proof

open Idealize.ShloMosaic Idealize.ShloMosaic.TcCoe Idealize.SL.Sem

/-- The reference's frame: it is host operations alone, on a machine of no semaphore, and none writes an argument. -/
theorem reference_frame : Cert.quiescent_ReferenceIdeal (hReferenceIdeal := Cert.ReferenceIdeal.Gen.facts) := fun m g _ =>
  (θ_run Cert.ReferenceIdeal.defs _ _).mono
    (fun r h => ⟨fun c => (h c).2.2.2, sem_eq_zero_of_no_sems (by decide) r.2⟩) (Cert.ReferenceIdeal.Value.run m g)

/-- The kernel and the reference return equal results of equal arguments of which the precondition holds: on each core
    the arguments hold a model, and both programs return what it makes of them. -/
theorem same_results : Cert.algebraic_KernelIdeal_ReferenceIdeal_pre_graph_of_finite_values (hKernelIdeal := Cert.KernelIdeal.Gen.facts)
    (hReferenceIdeal := Cert.ReferenceIdeal.Gen.facts) (hPre_graph_of_finite_values := Cert.Pre_graph_of_finite_values.facts) := by
  intro m g m' g' hp ha
  have hm : ∀ c, ∃ M, Cert.KernelIdeal.Chain.Args M m c ∧ Cert.ReferenceIdeal.Reading.Args M (StableHlo.launchContents m' c) := by
    intro c
    obtain ⟨M, R⟩ := Cert.Pre_graph_of_finite_values.exists_model _ _ _ _ _ _ _ _ _ fun i => congrFun (hp c) i
    obtain ⟨h0, h1, h2, h3, h4, h5, h6, h7, -⟩ := ha c
    exact ⟨M, R, Cert.Same.args_of_eq R h0 h1 h2 h3 h4 h5 h6 h7⟩
  refine ⟨fun c => Cert.KernelIdeal.Gen.V21 m (Cert.KernelIdeal.Body.outs m) c Cert.KernelIdeal.main_v128,
    fun c => Cert.KernelIdeal.Gen.V21 m (Cert.KernelIdeal.Body.outs m) c Cert.KernelIdeal.main_v32,
    fun c => Cert.KernelIdeal.Gen.V21 m (Cert.KernelIdeal.Body.outs m) c Cert.KernelIdeal.main_v129, ?_, ?_⟩
  · refine (θ_run Cert.KernelIdeal.defs _ _).mono (fun r h c => ?_) (Cert.KernelIdeal.Body.run m g)
    exact ⟨h.1 c _ (Cert.KernelIdeal.Body.mem_uc Cert.KernelIdeal.main_v128 rfl), h.1 c _ (Cert.KernelIdeal.Body.mem_uc Cert.KernelIdeal.main_v32 rfl),
      h.1 c _ (Cert.KernelIdeal.Body.mem_uc Cert.KernelIdeal.main_v129 rfl), Cert.KernelIdeal.Body.args_of_final m c (h.1 c)⟩
  · refine (θ_run Cert.ReferenceIdeal.defs _ _).mono (fun r h c => ?_) (Cert.ReferenceIdeal.Value.run m' g')
    obtain ⟨M, R, R'⟩ := hm c
    obtain ⟨h0, h1, h2, hargs⟩ := h c
    exact ⟨h0.trans (Cert.Same.loss_eq R R' (ha c).2.2.2.2.2.2.2.2), h1.trans (Cert.Same.logits_eq R R' (ha c).2.2.2.2.2.2.2.2),
      h2.trans (Cert.Same.attn_eq R R'), hargs⟩

/-- Everything claimed. -/
theorem claim : Cert.Claim := ⟨Cert.Kernel.Gen.facts, Cert.KernelIdeal.Gen.facts, Cert.ReferenceIdeal.Gen.facts, Cert.Pre_graph_of_finite_values.facts,
  fun m g _ => Cert.Kernel.Body.frame m g, fun m g _ => Cert.KernelIdeal.Body.frame m g, fun m g _ => Cert.KernelIdeal.Body.frame m g,
  reference_frame, fun m g _ => reference_frame m g trivial, trivial, same_results⟩

end Cert.Proof

end
